-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v266) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tables : Cert.Pre_tables.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S65536x5120 : Shape := ⟨2, ![65536, 5120]⟩
abbrev S32768x1280 : Shape := ⟨2, ![32768, 1280]⟩
abbrev S_ : Shape := ⟨0, ![]⟩

class Facts : Prop where
  slices_S65536x5120_S32768x1280_0_3584 : S65536x5120.Slices ![0, 3584] S32768x1280
  bitsLt_bf16_f32 : FTy.bits .bf16 < FTy.bits .f32
  bcast_S_S32768x1280 : S_.BroadcastsInDim S32768x1280 (![] : Fin 0 → Fin S32768x1280.rank)

variable [Facts]

def fn {F : FTy → Type} [FloatOps F] (main_arg0 : FVec F S65536x5120 .bf16) : IVec S32768x1280 1 :=
  let main_v0 : FVec F S32768x1280 .bf16 := (extractStridedSlice S32768x1280 ![0, 3584] · slices_S65536x5120_S32768x1280_0_3584) main_arg0
  let main_v1 : FVec F S32768x1280 .f32 := (extf .f32 · bitsLt_bf16_f32) main_v0
  let main_v2 : FVec F S32768x1280 .f32 := Host.absf main_v1
  let main_cst : FVec F S_ .f32 := constant S_ .f32 0x7F800000#32
  let main_v3 : FVec F S32768x1280 .f32 := broadcastInDim S32768x1280 ![] bcast_S_S32768x1280 main_cst
  let main_v4 : IVec S32768x1280 1 := cmpf .olt main_v2 main_v3
  main_v4
-- ==== Pre_finite5.lean ====
abbrev S65536x5120 : Shape := ⟨2, ![65536, 5120]⟩
abbrev S32768x1280 : Shape := ⟨2, ![32768, 1280]⟩
abbrev S_ : Shape := ⟨0, ![]⟩

class Facts : Prop where
  slices_S65536x5120_S32768x1280_32768_3584 : S65536x5120.Slices ![32768, 3584] S32768x1280
  bitsLt_bf16_f32 : FTy.bits .bf16 < FTy.bits .f32
  bcast_S_S32768x1280 : S_.BroadcastsInDim S32768x1280 (![] : Fin 0 → Fin S32768x1280.rank)

variable [Facts]

def fn {F : FTy → Type} [FloatOps F] (main_arg0 : FVec F S65536x5120 .bf16) : IVec S32768x1280 1 :=
  let main_v0 : FVec F S32768x1280 .bf16 := (extractStridedSlice S32768x1280 ![32768, 3584] · slices_S65536x5120_S32768x1280_32768_3584) main_arg0
  let main_v1 : FVec F S32768x1280 .f32 := (extf .f32 · bitsLt_bf16_f32) main_v0
  let main_v2 : FVec F S32768x1280 .f32 := Host.absf main_v1
  let main_cst : FVec F S_ .f32 := constant S_ .f32 0x7F800000#32
  let main_v3 : FVec F S32768x1280 .f32 := broadcastInDim S32768x1280 ![] bcast_S_S32768x1280 main_cst
  let main_v4 : IVec S32768x1280 1 := cmpf .olt main_v2 main_v3
  main_v4
-- ==== Pre_tables.lean ====
abbrev S1088 : Shape := ⟨1, ![1088]⟩
abbrev S557056x1024 : Shape := ⟨2, ![557056, 1024]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S1088 : S_.BroadcastsInDim S1088 (![] : Fin 0 → Fin S1088.rank)

variable [Facts]

def fn {F : FTy → Type} [FloatOps F] (main_arg0 : IVec S1088 32) (main_arg1 : IVec S1088 32) (main_arg2 : IVec S557056x1024 32) (main_arg3 : FVec F S2x64x2048x512 .f32) (main_arg4 : FVec F S2x64x2048x512 .f32) (main_arg5 : FVec F S2x64x512x2048 .f32) : IVec S1088 1 :=
  let main_c : IVec S_ 32 := constantI S_ 32 0#32
  let main_v0 : IVec S1088 32 := broadcastInDim S1088 ![] bcast_S_S1088 main_c
  let main_v1 : IVec S1088 1 := cmpi .sge main_arg0 main_v0
  let main_c_0 : IVec S_ 32 := constantI S_ 32 64#32
  let main_v2 : IVec S1088 32 := broadcastInDim S1088 ![] bcast_S_S1088 main_c_0
  let main_v3 : IVec S1088 1 := cmpi .slt main_arg0 main_v2
  let main_v4 : IVec S1088 1 := andi main_v1 main_v3
  let main_c_1 : IVec S_ 32 := constantI S_ 32 0#32
  let main_v5 : IVec S1088 32 := broadcastInDim S1088 ![] bcast_S_S1088 main_c_1
  let main_v6 : IVec S1088 1 := cmpi .sge main_arg1 main_v5
  let main_v7 : IVec S1088 1 := andi main_v4 main_v6
  main_v7
-- ==== Kernel.lean ====
abbrev S65536x5120 : Shape := ⟨2, ![65536, 5120]⟩
abbrev S32768x1024 : Shape := ⟨2, ![32768, 1024]⟩
abbrev S1024x512 : Shape := ⟨2, ![1024, 512]⟩
abbrev S4096x128 : Shape := ⟨2, ![4096, 128]⟩
abbrev S4x1024x128 : Shape := ⟨3, ![4, 1024, 128]⟩
abbrev S4x1024x256 : Shape := ⟨3, ![4, 1024, 256]⟩
abbrev S4096x256 : Shape := ⟨2, ![4096, 256]⟩
abbrev S1024x128 : Shape := ⟨2, ![1024, 128]⟩
abbrev S256x128 : Shape := ⟨2, ![256, 128]⟩
abbrev S256x4096 : Shape := ⟨2, ![256, 4096]⟩
abbrev S1024x4096 : Shape := ⟨2, ![1024, 4096]⟩
abbrev S1x1024x128 : Shape := ⟨3, ![1, 1024, 128]⟩
abbrev S1024x1 : Shape := ⟨2, ![1024, 1]⟩
abbrev S1024 : Shape := ⟨1, ![1024]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 2
  | .vmem => 11
  | .smem => 0
  | _ => 0

abbrev bufTy : (tb : Table) → Fin (tcTables nBuf tb) → BufTy
  | .hbm, ⟨0, _⟩ => ⟨S65536x5120, .bf16⟩
  | .hbm, ⟨1, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x512, .bf16⟩
  | .local _ .vmem, ⟨7, _⟩ => ⟨S1024x512, .bf16⟩
  | .local _ .vmem, ⟨8, _⟩ => ⟨S4x1024x128, .f32⟩
  | .local _ .vmem, ⟨9, _⟩ => ⟨S4x1024x256, .f32⟩
  | .local _ .vmem, ⟨10, _⟩ => ⟨S4096x256, .bf16⟩
  | _, _ => ⟨S65536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 8, 2], ![false, false, false, false]⟩

def k0_cond2 (i : grid0.Coords) : BitVec 1 :=
  let arg3 : BitVec 32 := BitVec.ofNat 32 (i 3).val
  let c1_i32 : BitVec 32 := 1#32
  let v185 : BitVec 1 := Scalar.cmpi .eq arg3 c1_i32
  let v186 : BitVec 32 := Scalar.extui v185
  let c0_i32_93 : BitVec 32 := 0#32
  let v187 : BitVec 1 := Scalar.cmpi .ne v186 c0_i32_93
  v187

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8192_i32 : BitVec 32 := 8192#32
  let v0 : BitVec 32 := Scalar.muli arg0 c8192_i32
  let c0_i32 : BitVec 32 := 0#32
  let v1 : BitVec 32 := Scalar.addi c0_i32 v0
  let c1024_i32 : BitVec 32 := 1024#32
  let v2 : BitVec 32 := Scalar.divsi v1 c1024_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32 c0_i32_2
  let v9 : BitVec 32 := Scalar.extui v8
  let c0_i32_3 : BitVec 32 := 0#32
  let v10 : BitVec 1 := Scalar.cmpi .slt c1024_i32 c0_i32_3
  let v11 : BitVec 32 := Scalar.extui v10
  let v12 : BitVec 32 := Scalar.subi v9 v11
  let v13 : BitVec 1 := Scalar.cmpi .ne v7 v12
  let v14 : BitVec 32 := Scalar.remsi v1 c1024_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c7_i32 : BitVec 32 := 7#32
  let v20 : BitVec 32 := Scalar.addi c7_i32 arg1
  let c0_i32_5 : BitVec 32 := 0#32
  ![v19.toNat, v20.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8192_i32 : BitVec 32 := 8192#32
  let v0 : BitVec 32 := Scalar.muli arg0 c8192_i32
  let c0_i32 : BitVec 32 := 0#32
  let v1 : BitVec 32 := Scalar.addi c0_i32 v0
  let c4096_i32 : BitVec 32 := 4096#32
  let v2 : BitVec 32 := Scalar.divsi v1 c4096_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4096_i32 c0_i32_2
  let v9 : BitVec 32 := Scalar.extui v8
  let c0_i32_3 : BitVec 32 := 0#32
  let v10 : BitVec 1 := Scalar.cmpi .slt c4096_i32 c0_i32_3
  let v11 : BitVec 32 := Scalar.extui v10
  let v12 : BitVec 32 := Scalar.subi v9 v11
  let v13 : BitVec 1 := Scalar.cmpi .ne v7 v12
  let v14 : BitVec 32 := Scalar.remsi v1 c4096_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg3
  let c36_i32 : BitVec 32 := 36#32
  let v20 : BitVec 32 := Scalar.addi c36_i32 arg1
  let c0_i32_5 : BitVec 32 := 0#32
  ![v19.toNat, v20.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8192_i32 : BitVec 32 := 8192#32
  let v0 : BitVec 32 := Scalar.muli arg0 c8192_i32
  let c0_i32 : BitVec 32 := 0#32
  let v1 : BitVec 32 := Scalar.addi c0_i32 v0
  let c4096_i32 : BitVec 32 := 4096#32
  let v2 : BitVec 32 := Scalar.divsi v1 c4096_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4096_i32 c0_i32_2
  let v9 : BitVec 32 := Scalar.extui v8
  let c0_i32_3 : BitVec 32 := 0#32
  let v10 : BitVec 1 := Scalar.cmpi .slt c4096_i32 c0_i32_3
  let v11 : BitVec 32 := Scalar.extui v10
  let v12 : BitVec 32 := Scalar.subi v9 v11
  let v13 : BitVec 1 := Scalar.cmpi .ne v7 v12
  let v14 : BitVec 32 := Scalar.remsi v1 c4096_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg3
  let c38_i32 : BitVec 32 := 38#32
  let v20 : BitVec 32 := Scalar.addi c38_i32 arg1
  let c0_i32_5 : BitVec 32 := 0#32
  ![v19.toNat, v20.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8192_i32 : BitVec 32 := 8192#32
  let v0 : BitVec 32 := Scalar.muli arg0 c8192_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v17 arg2
  let c0_i32_4 : BitVec 32 := 0#32
  ![v18.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S65536x5120 : Shape := ⟨2, ![65536, 5120]⟩
abbrev S32768x5120 : Shape := ⟨2, ![32768, 5120]⟩
abbrev S32768x1024 : Shape := ⟨2, ![32768, 1024]⟩
abbrev S4x8192x2x4x128 : Shape := ⟨5, ![4, 8192, 2, 4, 128]⟩
abbrev S32768x256 : Shape := ⟨2, ![32768, 256]⟩
abbrev S4x8192x2x128 : Shape := ⟨4, ![4, 8192, 2, 128]⟩
abbrev S_ : Shape := ⟨0, ![]⟩
abbrev S4x2x8192x8192x4 : Shape := ⟨5, ![4, 2, 8192, 8192, 4]⟩
abbrev S4x2x4x8192x8192 : Shape := ⟨5, ![4, 2, 4, 8192, 8192]⟩
abbrev S4x2x4x8192 : Shape := ⟨4, ![4, 2, 4, 8192]⟩
abbrev S4x2x4x8192x1 : Shape := ⟨5, ![4, 2, 4, 8192, 1]⟩
abbrev S4x2x128x4x8192 : Shape := ⟨5, ![4, 2, 128, 4, 8192]⟩

abbrev nBuf : Space → Nat
  | .hbm => 33
  | .vmem => 0
  | .smem => 0
  | _ => 0

abbrev bufTy : (tb : Table) → Fin (tcTables nBuf tb) → BufTy
  | .hbm, ⟨0, _⟩ => ⟨S65536x5120, .bf16⟩
  | .hbm, ⟨1, _⟩ => ⟨S32768x5120, .bf16⟩
  | .hbm, ⟨2, _⟩ => ⟨S32768x5120, .f32⟩
  | .hbm, ⟨3, _⟩ => ⟨S32768x1024, .f32⟩
  | .hbm, ⟨4, _⟩ => ⟨S4x8192x2x4x128, .f32⟩
  | .hbm, ⟨5, _⟩ => ⟨S32768x256, .f32⟩
  | .hbm, ⟨6, _⟩ => ⟨S4x8192x2x128, .f32⟩
  | .hbm, ⟨7, _⟩ => ⟨S32768x256, .f32⟩
  | .hbm, ⟨8, _⟩ => ⟨S4x8192x2x128, .f32⟩
  | .hbm, ⟨9, _⟩ => ⟨S_, .f32⟩
  | .hbm, ⟨10, _⟩ => ⟨S_, .f32⟩
  | .hbm, ⟨11, _⟩ => ⟨S4x8192x2x4x128, .f32⟩
  | .hbm, ⟨12, _⟩ => ⟨S4x8192x2x4x128, .f32⟩
  | .hbm, ⟨13, _⟩ => ⟨S4x2x8192x8192x4, .f32⟩
  | .hbm, ⟨14, _⟩ => ⟨S4x2x4x8192x8192, .f32⟩
  | .hbm, ⟨15, _⟩ => ⟨S_, .f32⟩
  | .hbm, ⟨16, _⟩ => ⟨S4x2x4x8192, .f32⟩
  | .hbm, ⟨17, _⟩ => ⟨S_, .f32⟩
  | .hbm, ⟨18, _⟩ => ⟨S4x2x4x8192, .f32⟩
  | .hbm, ⟨19, _⟩ => ⟨S4x2x4x8192, .f32⟩
  | .hbm, ⟨20, _⟩ => ⟨S4x2x4x8192x1, .f32⟩
  | .hbm, ⟨21, _⟩ => ⟨S4x2x4x8192x8192, .f32⟩
  | .hbm, ⟨22, _⟩ => ⟨S4x2x4x8192x8192, .f32⟩
  | .hbm, ⟨23, _⟩ => ⟨S4x2x4x8192x8192, .f32⟩
  | .hbm, ⟨24, _⟩ => ⟨S_, .f32⟩
  | .hbm, ⟨25, _⟩ => ⟨S4x2x4x8192, .f32⟩
  | .hbm, ⟨26, _⟩ => ⟨S4x2x4x8192x1, .f32⟩
  | .hbm, ⟨27, _⟩ => ⟨S4x2x4x8192x8192, .f32⟩
  | .hbm, ⟨28, _⟩ => ⟨S4x2x4x8192x8192, .f32⟩
  | .hbm, ⟨29, _⟩ => ⟨S4x2x128x4x8192, .f32⟩
  | .hbm, ⟨30, _⟩ => ⟨S4x8192x2x4x128, .f32⟩
  | .hbm, ⟨31, _⟩ => ⟨S32768x1024, .f32⟩
  | .hbm, ⟨32, _⟩ => ⟨S32768x1024, .bf16⟩
  | _, _ => ⟨S65536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel2.lean ====
abbrev S1088 : Shape := ⟨1, ![1088]⟩
abbrev S557056x1024 : Shape := ⟨2, ![557056, 1024]⟩
abbrev S2x64x2048x512 : Shape := ⟨4, ![2, 64, 2048, 512]⟩
abbrev S2x64x512x2048 : Shape := ⟨4, ![2, 64, 512, 2048]⟩
abbrev S557056x2048 : Shape := ⟨2, ![557056, 2048]⟩
abbrev S512x1024 : Shape := ⟨2, ![512, 1024]⟩
abbrev S1x1x2048x512 : Shape := ⟨4, ![1, 1, 2048, 512]⟩
abbrev S1 : Shape := ⟨1, ![1]⟩
abbrev S1x1x512x2048 : Shape := ⟨4, ![1, 1, 512, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S557056x1024, .i32⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S557056x2048, .f32⟩
  | .local _ .vmem, ⟨0, _⟩ => ⟨S512x1024, .i32⟩
  | .local _ .vmem, ⟨1, _⟩ => ⟨S512x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S512x2048, .f32⟩
  | .local _ .vmem, ⟨9, _⟩ => ⟨S512x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S1088, .i32⟩
  | .local _ .smem, ⟨1, _⟩ => ⟨S1088, .i32⟩
  | _, _ => ⟨S557056x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1088], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1088.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S1088.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S1088.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S1088 : Shape := ⟨1, ![1088]⟩
abbrev S557056x1024 : Shape := ⟨2, ![557056, 1024]⟩
abbrev S2x64x2048x512 : Shape := ⟨4, ![2, 64, 2048, 512]⟩
abbrev S2x64x512x2048 : Shape := ⟨4, ![2, 64, 512, 2048]⟩
abbrev S_ : Shape := ⟨0, ![]⟩
abbrev S557056x2048 : Shape := ⟨2, ![557056, 2048]⟩
abbrev S1088x512x2048 : Shape := ⟨3, ![1088, 512, 2048]⟩
abbrev S1x64x2048x512 : Shape := ⟨4, ![1, 64, 2048, 512]⟩
abbrev S64x2048x512 : Shape := ⟨3, ![64, 2048, 512]⟩
abbrev S1088x1 : Shape := ⟨2, ![1088, 1]⟩
abbrev S1088x2048x512 : Shape := ⟨3, ![1088, 2048, 512]⟩
abbrev S1088x512x512 : Shape := ⟨3, ![1088, 512, 512]⟩
abbrev S1x64x512x2048 : Shape := ⟨4, ![1, 64, 512, 2048]⟩
abbrev S64x512x2048 : Shape := ⟨3, ![64, 512, 2048]⟩
abbrev S1088x1x1 : Shape := ⟨3, ![1088, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S1088, .i32⟩
  | .hbm, ⟨1, _⟩ => ⟨S1088, .i32⟩
  | .hbm, ⟨2, _⟩ => ⟨S557056x1024, .i32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S_, .i32⟩
  | .hbm, ⟨7, _⟩ => ⟨S557056x1024, .i32⟩
  | .hbm, ⟨8, _⟩ => ⟨S557056x1024, .i32⟩
  | .hbm, ⟨9, _⟩ => ⟨S557056x1024, .f32⟩
  | .hbm, ⟨10, _⟩ => ⟨S_, .i32⟩
  | .hbm, ⟨11, _⟩ => ⟨S557056x1024, .i32⟩
  | .hbm, ⟨12, _⟩ => ⟨S557056x1024, .i32⟩
  | .hbm, ⟨13, _⟩ => ⟨S557056x1024, .f32⟩
  | .hbm, ⟨14, _⟩ => ⟨S557056x2048, .f32⟩
  | .hbm, ⟨15, _⟩ => ⟨S1088x512x2048, .f32⟩
  | .hbm, ⟨16, _⟩ => ⟨S1x64x2048x512, .f32⟩
  | .hbm, ⟨17, _⟩ => ⟨S64x2048x512, .f32⟩
  | .hbm, ⟨18, _⟩ => ⟨S_, .i32⟩
  | .hbm, ⟨19, _⟩ => ⟨S1088, .i32⟩
  | .hbm, ⟨20, _⟩ => ⟨S1088, .i1⟩
  | .hbm, ⟨21, _⟩ => ⟨S_, .i32⟩
  | .hbm, ⟨22, _⟩ => ⟨S1088, .i32⟩
  | .hbm, ⟨23, _⟩ => ⟨S1088, .i32⟩
  | .hbm, ⟨24, _⟩ => ⟨S1088, .i32⟩
  | .hbm, ⟨25, _⟩ => ⟨S1088x1, .i32⟩
  | .hbm, ⟨26, _⟩ => ⟨S1088x2048x512, .f32⟩
  | .hbm, ⟨27, _⟩ => ⟨S1088x512x512, .f32⟩
  | .hbm, ⟨28, _⟩ => ⟨S1088x512x512, .f32⟩
  | .hbm, ⟨29, _⟩ => ⟨S1088x512x512, .f32⟩
  | .hbm, ⟨30, _⟩ => ⟨S_, .f32⟩
  | .hbm, ⟨31, _⟩ => ⟨S1088x512x512, .f32⟩
  | .hbm, ⟨32, _⟩ => ⟨S1088x512x512, .f32⟩
  | .hbm, ⟨33, _⟩ => ⟨S_, .f32⟩
  | .hbm, ⟨34, _⟩ => ⟨S1088x512x512, .f32⟩
  | .hbm, ⟨35, _⟩ => ⟨S1088x512x512, .f32⟩
  | .hbm, ⟨36, _⟩ => ⟨S1088x512x512, .f32⟩
  | .hbm, ⟨37, _⟩ => ⟨S1x64x2048x512, .f32⟩
  | .hbm, ⟨38, _⟩ => ⟨S64x2048x512, .f32⟩
  | .hbm, ⟨39, _⟩ => ⟨S_, .i32⟩
  | .hbm, ⟨40, _⟩ => ⟨S1088, .i32⟩
  | .hbm, ⟨41, _⟩ => ⟨S1088, .i1⟩
  | .hbm, ⟨42, _⟩ => ⟨S_, .i32⟩
  | .hbm, ⟨43, _⟩ => ⟨S1088, .i32⟩
  | .hbm, ⟨44, _⟩ => ⟨S1088, .i32⟩
  | .hbm, ⟨45, _⟩ => ⟨S1088, .i32⟩
  | .hbm, ⟨46, _⟩ => ⟨S1088x1, .i32⟩
  | .hbm, ⟨47, _⟩ => ⟨S1088x2048x512, .f32⟩
  | .hbm, ⟨48, _⟩ => ⟨S1088x512x512, .f32⟩
  | .hbm, ⟨49, _⟩ => ⟨S1088x512x512, .f32⟩
  | .hbm, ⟨50, _⟩ => ⟨S1x64x512x2048, .f32⟩
  | .hbm, ⟨51, _⟩ => ⟨S64x512x2048, .f32⟩
  | .hbm, ⟨52, _⟩ => ⟨S_, .i32⟩
  | .hbm, ⟨53, _⟩ => ⟨S1088, .i32⟩
  | .hbm, ⟨54, _⟩ => ⟨S1088, .i1⟩
  | .hbm, ⟨55, _⟩ => ⟨S_, .i32⟩
  | .hbm, ⟨56, _⟩ => ⟨S1088, .i32⟩
  | .hbm, ⟨57, _⟩ => ⟨S1088, .i32⟩
  | .hbm, ⟨58, _⟩ => ⟨S1088, .i32⟩
  | .hbm, ⟨59, _⟩ => ⟨S1088x1, .i32⟩
  | .hbm, ⟨60, _⟩ => ⟨S1088x512x2048, .f32⟩
  | .hbm, ⟨61, _⟩ => ⟨S1088x512x2048, .f32⟩
  | .hbm, ⟨62, _⟩ => ⟨S1088x1x1, .i32⟩
  | .hbm, ⟨63, _⟩ => ⟨S_, .i32⟩
  | .hbm, ⟨64, _⟩ => ⟨S1088x1x1, .i32⟩
  | .hbm, ⟨65, _⟩ => ⟨S1088x1x1, .i1⟩
  | .hbm, ⟨66, _⟩ => ⟨S_, .f32⟩
  | .hbm, ⟨67, _⟩ => ⟨S_, .f32⟩
  | .hbm, ⟨68, _⟩ => ⟨S1088x512x2048, .i1⟩
  | .hbm, ⟨69, _⟩ => ⟨S1088x512x2048, .f32⟩
  | .hbm, ⟨70, _⟩ => ⟨S1088x512x2048, .f32⟩
  | .hbm, ⟨71, _⟩ => ⟨S557056x2048, .f32⟩
  | _, _ => ⟨S1088, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel3.lean ====
abbrev S65536x2048 : Shape := ⟨2, ![65536, 2048]⟩
abbrev S2x6x8x1x2048 : Shape := ⟨5, ![2, 6, 8, 1, 2048]⟩
abbrev S1x2048 : Shape := ⟨2, ![1, 2048]⟩
abbrev S2048x5120 : Shape := ⟨2, ![2048, 5120]⟩
abbrev S16384x64 : Shape := ⟨2, ![16384, 64]⟩
abbrev S16384x32 : Shape := ⟨2, ![16384, 32]⟩
abbrev S4x128 : Shape := ⟨2, ![4, 128]⟩
abbrev S16384x128 : Shape := ⟨2, ![16384, 128]⟩
abbrev S65536x5120 : Shape := ⟨2, ![65536, 5120]⟩
abbrev S1024x2048 : Shape := ⟨2, ![1024, 2048]⟩
abbrev S1x1x1x1x2048 : Shape := ⟨5, ![1, 1, 1, 1, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1x128 : Shape := ⟨2, ![1, 128]⟩
abbrev S1024x256 : Shape := ⟨2, ![1024, 256]⟩

abbrev nBuf : Space → Nat
  | .hbm => 19
  | .vmem => 22
  | .smem => 0
  | _ => 0

abbrev bufTy : (tb : Table) → Fin (tcTables nBuf tb) → BufTy
  | .hbm, ⟨0, _⟩ => ⟨S65536x2048, .f32⟩
  | .hbm, ⟨1, _⟩ => ⟨S2x6x8x1x2048, .f32⟩
  | .hbm, ⟨2, _⟩ => ⟨S1x2048, .f32⟩
  | .hbm, ⟨3, _⟩ => ⟨S2048x5120, .bf16⟩
  | .hbm, ⟨4, _⟩ => ⟨S16384x64, .f32⟩
  | .hbm, ⟨5, _⟩ => ⟨S16384x64, .f32⟩
  | .hbm, ⟨6, _⟩ => ⟨S16384x32, .f32⟩
  | .hbm, ⟨7, _⟩ => ⟨S16384x32, .f32⟩
  | .hbm, ⟨8, _⟩ => ⟨S16384x32, .f32⟩
  | .hbm, ⟨9, _⟩ => ⟨S16384x32, .f32⟩
  | .hbm, ⟨10, _⟩ => ⟨S4x128, .f32⟩
  | .hbm, ⟨11, _⟩ => ⟨S16384x128, .f32⟩
  | .hbm, ⟨12, _⟩ => ⟨S16384x64, .f32⟩
  | .hbm, ⟨13, _⟩ => ⟨S16384x128, .f32⟩
  | .hbm, ⟨14, _⟩ => ⟨S16384x128, .f32⟩
  | .hbm, ⟨15, _⟩ => ⟨S16384x32, .f32⟩
  | .hbm, ⟨16, _⟩ => ⟨S16384x32, .f32⟩
  | .hbm, ⟨17, _⟩ => ⟨S16384x128, .f32⟩
  | .hbm, ⟨18, _⟩ => ⟨S65536x5120, .bf16⟩
  | .local _ .vmem, ⟨0, _⟩ => ⟨S1024x2048, .f32⟩
  | .local _ .vmem, ⟨1, _⟩ => ⟨S1024x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S4x128, .f32⟩
  | .local _ .vmem, ⟨18, _⟩ => ⟨S1024x512, .bf16⟩
  | .local _ .vmem, ⟨19, _⟩ => ⟨S1024x512, .bf16⟩
  | .local _ .vmem, ⟨20, _⟩ => ⟨S1024x2048, .bf16⟩
  | .local _ .vmem, ⟨21, _⟩ => ⟨S1024x512, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![64, 10], ![false, false]⟩

def k0_cond2 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg1 : BitVec 32 := BitVec.ofNat 32 (i 1).val
  let c2_i32 : BitVec 32 := 2#32
  let v15 : BitVec 1 := Scalar.cmpi .eq arg1 c2_i32
  let c6_i32 : BitVec 32 := 6#32
  let v16 : BitVec 1 := Scalar.cmpi .eq arg1 c6_i32
  let v17 : BitVec 1 := Scalar.ori v15 v16
  let v18 : BitVec 32 := Scalar.extui v17
  let c0_i32_9 : BitVec 32 := 0#32
  let v19 : BitVec 1 := Scalar.cmpi .ne v18 c0_i32_9
  v19

def k0_cond5 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_10 : BitVec 32 := 0#32
  let v22 : BitVec 1 := Scalar.cmpi .ne v21 c0_i32_10
  v22

def k0_cond6 (i : grid0.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_11 : BitVec 32 := 0#32
  let v25 : BitVec 1 := Scalar.cmpi .ne v24 c0_i32_11
  v25

def k0_cond7 (i : grid0.Coords) : BitVec 1 :=
  let arg1 : BitVec 32 := BitVec.ofNat 32 (i 1).val
  let c5_i32 : BitVec 32 := 5#32
  let v26 : BitVec 1 := Scalar.cmpi .eq arg1 c5_i32
  let v27 : BitVec 32 := Scalar.extui v26
  let c0_i32_12 : BitVec 32 := 0#32
  let v28 : BitVec 1 := Scalar.cmpi .ne v27 c0_i32_12
  v28

def k0_cond8 (i : grid0.Coords) : BitVec 1 :=
  let arg1 : BitVec 32 := BitVec.ofNat 32 (i 1).val
  let c7_i32 : BitVec 32 := 7#32
  let v29 : BitVec 1 := Scalar.cmpi .eq arg1 c7_i32
  let c8_i32 : BitVec 32 := 8#32
  let v30 : BitVec 1 := Scalar.cmpi .eq arg1 c8_i32
  let v31 : BitVec 1 := Scalar.ori v29 v30
  let v32 : BitVec 32 := Scalar.extui v31
  let c0_i32_13 : BitVec 32 := 0#32
  let v33 : BitVec 1 := Scalar.cmpi .ne v32 c0_i32_13
  v33

def k0_cond9 (i : grid0.Coords) : BitVec 1 :=
  let arg1 : BitVec 32 := BitVec.ofNat 32 (i 1).val
  let c9_i32 : BitVec 32 := 9#32
  let v34 : BitVec 1 := Scalar.cmpi .eq arg1 c9_i32
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c32768_i32_0 : BitVec 32 := 32768#32
  let v2 : BitVec 32 := Scalar.subi v0 c32768_i32_0
  let c0_i32 : BitVec 32 := 0#32
  let v3 : BitVec 32 := Scalar.maxsi v2 c0_i32
  let c8192_i32 : BitVec 32 := 8192#32
  let v4 : BitVec 32 := Scalar.divsi v0 c8192_i32
  let c0_i32_1 : BitVec 32 := 0#32
  let v5 : BitVec 1 := Scalar.cmpi .sgt v0 c0_i32_1
  let v6 : BitVec 32 := Scalar.extui v5
  let c0_i32_2 : BitVec 32 := 0#32
  let v7 : BitVec 1 := Scalar.cmpi .slt v0 c0_i32_2
  let v8 : BitVec 32 := Scalar.extui v7
  let v9 : BitVec 32 := Scalar.subi v6 v8
  let c0_i32_3 : BitVec 32 := 0#32
  let v10 : BitVec 1 := Scalar.cmpi .sgt c8192_i32 c0_i32_3
  let v11 : BitVec 32 := Scalar.extui v10
  let c0_i32_4 : BitVec 32 := 0#32
  let v12 : BitVec 1 := Scalar.cmpi .slt c8192_i32 c0_i32_4
  let v13 : BitVec 32 := Scalar.extui v12
  let v14 : BitVec 32 := Scalar.subi v11 v13
  let v15 : BitVec 1 := Scalar.cmpi .ne v9 v14
  let v16 : BitVec 32 := Scalar.remsi v0 c8192_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c16384_i32 : BitVec 32 := 16384#32
  let v21 : BitVec 32 := Scalar.divsi v3 c16384_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c0_i32_8 : BitVec 32 := 0#32
  let v27 : BitVec 1 := Scalar.cmpi .sgt c16384_i32 c0_i32_8
  let v28 : BitVec 32 := Scalar.extui v27
  let c0_i32_9 : BitVec 32 := 0#32
  let v29 : BitVec 1 := Scalar.cmpi .slt c16384_i32 c0_i32_9
  let v30 : BitVec 32 := Scalar.extui v29
  let v31 : BitVec 32 := Scalar.subi v28 v30
  let v32 : BitVec 1 := Scalar.cmpi .ne v26 v31
  let v33 : BitVec 32 := Scalar.remsi v3 c16384_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c4_i32 : BitVec 32 := 4#32
  let v38 : BitVec 32 := Scalar.addi c4_i32 v37
  let v39 : BitVec 32 := Scalar.select v1 v20 v38
  let c8192_i32_12 : BitVec 32 := 8192#32
  let c0_i32_13 : BitVec 32 := 0#32
  let v40 : BitVec 1 := Scalar.cmpi .eq c8192_i32_12 c0_i32_13
  let c1_i32_14 : BitVec 32 := 1#32
  let v41 : BitVec 32 := Scalar.select v40 c1_i32_14 c8192_i32_12
  let v42 : BitVec 32 := Scalar.remsi v0 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16384_i32_18 : BitVec 32 := 16384#32
  let c0_i32_19 : BitVec 32 := 0#32
  let v50 : BitVec 1 := Scalar.cmpi .eq c16384_i32_18 c0_i32_19
  let c1_i32_20 : BitVec 32 := 1#32
  let v51 : BitVec 32 := Scalar.select v50 c1_i32_20 c16384_i32_18
  let v52 : BitVec 32 := Scalar.remsi v3 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v1 v49 v59
  let c0_i32_24 : BitVec 32 := 0#32
  let c1_i32_25 : BitVec 32 := 1#32
  let c0_i32_26 : BitVec 32 := 0#32
  let c0_i32_27 : BitVec 32 := 0#32
  let c0_i32_28 : BitVec 32 := 0#32
  ![c0_i32_24.toNat, c1_i32_25.toNat, v39.toNat, c0_i32_26.toNat, c0_i32_27.toNat]

def cc0_transform_2 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c32768_i32_0 : BitVec 32 := 32768#32
  let v2 : BitVec 32 := Scalar.subi v0 c32768_i32_0
  let c0_i32 : BitVec 32 := 0#32
  let v3 : BitVec 32 := Scalar.maxsi v2 c0_i32
  let c8192_i32 : BitVec 32 := 8192#32
  let v4 : BitVec 32 := Scalar.divsi v0 c8192_i32
  let c0_i32_1 : BitVec 32 := 0#32
  let v5 : BitVec 1 := Scalar.cmpi .sgt v0 c0_i32_1
  let v6 : BitVec 32 := Scalar.extui v5
  let c0_i32_2 : BitVec 32 := 0#32
  let v7 : BitVec 1 := Scalar.cmpi .slt v0 c0_i32_2
  let v8 : BitVec 32 := Scalar.extui v7
  let v9 : BitVec 32 := Scalar.subi v6 v8
  let c0_i32_3 : BitVec 32 := 0#32
  let v10 : BitVec 1 := Scalar.cmpi .sgt c8192_i32 c0_i32_3
  let v11 : BitVec 32 := Scalar.extui v10
  let c0_i32_4 : BitVec 32 := 0#32
  let v12 : BitVec 1 := Scalar.cmpi .slt c8192_i32 c0_i32_4
  let v13 : BitVec 32 := Scalar.extui v12
  let v14 : BitVec 32 := Scalar.subi v11 v13
  let v15 : BitVec 1 := Scalar.cmpi .ne v9 v14
  let v16 : BitVec 32 := Scalar.remsi v0 c8192_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c16384_i32 : BitVec 32 := 16384#32
  let v21 : BitVec 32 := Scalar.divsi v3 c16384_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c0_i32_8 : BitVec 32 := 0#32
  let v27 : BitVec 1 := Scalar.cmpi .sgt c16384_i32 c0_i32_8
  let v28 : BitVec 32 := Scalar.extui v27
  let c0_i32_9 : BitVec 32 := 0#32
  let v29 : BitVec 1 := Scalar.cmpi .slt c16384_i32 c0_i32_9
  let v30 : BitVec 32 := Scalar.extui v29
  let v31 : BitVec 32 := Scalar.subi v28 v30
  let v32 : BitVec 1 := Scalar.cmpi .ne v26 v31
  let v33 : BitVec 32 := Scalar.remsi v3 c16384_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c4_i32 : BitVec 32 := 4#32
  let v38 : BitVec 32 := Scalar.addi c4_i32 v37
  let v39 : BitVec 32 := Scalar.select v1 v20 v38
  let c8192_i32_12 : BitVec 32 := 8192#32
  let c0_i32_13 : BitVec 32 := 0#32
  let v40 : BitVec 1 := Scalar.cmpi .eq c8192_i32_12 c0_i32_13
  let c1_i32_14 : BitVec 32 := 1#32
  let v41 : BitVec 32 := Scalar.select v40 c1_i32_14 c8192_i32_12
  let v42 : BitVec 32 := Scalar.remsi v0 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16384_i32_18 : BitVec 32 := 16384#32
  let c0_i32_19 : BitVec 32 := 0#32
  let v50 : BitVec 1 := Scalar.cmpi .eq c16384_i32_18 c0_i32_19
  let c1_i32_20 : BitVec 32 := 1#32
  let v51 : BitVec 32 := Scalar.select v50 c1_i32_20 c16384_i32_18
  let v52 : BitVec 32 := Scalar.remsi v3 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v1 v49 v59
  let c0_i32_24 : BitVec 32 := 0#32
  let c0_i32_25 : BitVec 32 := 0#32
  let c0_i32_26 : BitVec 32 := 0#32
  let c0_i32_27 : BitVec 32 := 0#32
  let c0_i32_28 : BitVec 32 := 0#32
  ![c0_i32_24.toNat, c0_i32_25.toNat, v39.toNat, c0_i32_26.toNat, c0_i32_27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c32768_i32_0 : BitVec 32 := 32768#32
  let v2 : BitVec 32 := Scalar.subi v0 c32768_i32_0
  let c0_i32 : BitVec 32 := 0#32
  let v3 : BitVec 32 := Scalar.maxsi v2 c0_i32
  let c8192_i32 : BitVec 32 := 8192#32
  let v4 : BitVec 32 := Scalar.divsi v0 c8192_i32
  let c0_i32_1 : BitVec 32 := 0#32
  let v5 : BitVec 1 := Scalar.cmpi .sgt v0 c0_i32_1
  let v6 : BitVec 32 := Scalar.extui v5
  let c0_i32_2 : BitVec 32 := 0#32
  let v7 : BitVec 1 := Scalar.cmpi .slt v0 c0_i32_2
  let v8 : BitVec 32 := Scalar.extui v7
  let v9 : BitVec 32 := Scalar.subi v6 v8
  let c0_i32_3 : BitVec 32 := 0#32
  let v10 : BitVec 1 := Scalar.cmpi .sgt c8192_i32 c0_i32_3
  let v11 : BitVec 32 := Scalar.extui v10
  let c0_i32_4 : BitVec 32 := 0#32
  let v12 : BitVec 1 := Scalar.cmpi .slt c8192_i32 c0_i32_4
  let v13 : BitVec 32 := Scalar.extui v12
  let v14 : BitVec 32 := Scalar.subi v11 v13
  let v15 : BitVec 1 := Scalar.cmpi .ne v9 v14
  let v16 : BitVec 32 := Scalar.remsi v0 c8192_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c16384_i32 : BitVec 32 := 16384#32
  let v21 : BitVec 32 := Scalar.divsi v3 c16384_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c0_i32_8 : BitVec 32 := 0#32
  let v27 : BitVec 1 := Scalar.cmpi .sgt c16384_i32 c0_i32_8
  let v28 : BitVec 32 := Scalar.extui v27
  let c0_i32_9 : BitVec 32 := 0#32
  let v29 : BitVec 1 := Scalar.cmpi .slt c16384_i32 c0_i32_9
  let v30 : BitVec 32 := Scalar.extui v29
  let v31 : BitVec 32 := Scalar.subi v28 v30
  let v32 : BitVec 1 := Scalar.cmpi .ne v26 v31
  let v33 : BitVec 32 := Scalar.remsi v3 c16384_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c4_i32 : BitVec 32 := 4#32
  let v38 : BitVec 32 := Scalar.addi c4_i32 v37
  let v39 : BitVec 32 := Scalar.select v1 v20 v38
  let c8192_i32_12 : BitVec 32 := 8192#32
  let c0_i32_13 : BitVec 32 := 0#32
  let v40 : BitVec 1 := Scalar.cmpi .eq c8192_i32_12 c0_i32_13
  let c1_i32_14 : BitVec 32 := 1#32
  let v41 : BitVec 32 := Scalar.select v40 c1_i32_14 c8192_i32_12
  let v42 : BitVec 32 := Scalar.remsi v0 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16384_i32_18 : BitVec 32 := 16384#32
  let c0_i32_19 : BitVec 32 := 0#32
  let v50 : BitVec 1 := Scalar.cmpi .eq c16384_i32_18 c0_i32_19
  let c1_i32_20 : BitVec 32 := 1#32
  let v51 : BitVec 32 := Scalar.select v50 c1_i32_20 c16384_i32_18
  let v52 : BitVec 32 := Scalar.remsi v3 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v1 v49 v59
  let c1024_i32_24 : BitVec 32 := 1024#32
  let v61 : BitVec 32 := Scalar.divsi v60 c1024_i32_24
  let c0_i32_25 : BitVec 32 := 0#32
  let v62 : BitVec 1 := Scalar.cmpi .sgt v60 c0_i32_25
  let v63 : BitVec 32 := Scalar.extui v62
  let c0_i32_26 : BitVec 32 := 0#32
  let v64 : BitVec 1 := Scalar.cmpi .slt v60 c0_i32_26
  let v65 : BitVec 32 := Scalar.extui v64
  let v66 : BitVec 32 := Scalar.subi v63 v65
  let c0_i32_27 : BitVec 32 := 0#32
  let v67 : BitVec 1 := Scalar.cmpi .sgt c1024_i32_24 c0_i32_27
  let v68 : BitVec 32 := Scalar.extui v67
  let c0_i32_28 : BitVec 32 := 0#32
  let v69 : BitVec 1 := Scalar.cmpi .slt c1024_i32_24 c0_i32_28
  let v70 : BitVec 32 := Scalar.extui v69
  let v71 : BitVec 32 := Scalar.subi v68 v70
  let v72 : BitVec 1 := Scalar.cmpi .ne v66 v71
  let v73 : BitVec 32 := Scalar.remsi v60 c1024_i32_24
  let c0_i32_29 : BitVec 32 := 0#32
  let v74 : BitVec 1 := Scalar.cmpi .ne v73 c0_i32_29
  let v75 : BitVec 1 := Scalar.andi v72 v74
  let c1_i32_30 : BitVec 32 := 1#32
  let v76 : BitVec 32 := Scalar.subi v61 c1_i32_30
  let v77 : BitVec 32 := Scalar.select v75 v76 v61
  let c0_i32_31 : BitVec 32 := 0#32
  let c0_i32_32 : BitVec 32 := 0#32
  ![v77.toNat, c0_i32_31.toNat]

def cc0_transform_6 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c32768_i32_0 : BitVec 32 := 32768#32
  let v2 : BitVec 32 := Scalar.subi v0 c32768_i32_0
  let c0_i32 : BitVec 32 := 0#32
  let v3 : BitVec 32 := Scalar.maxsi v2 c0_i32
  let c8192_i32 : BitVec 32 := 8192#32
  let v4 : BitVec 32 := Scalar.divsi v0 c8192_i32
  let c0_i32_1 : BitVec 32 := 0#32
  let v5 : BitVec 1 := Scalar.cmpi .sgt v0 c0_i32_1
  let v6 : BitVec 32 := Scalar.extui v5
  let c0_i32_2 : BitVec 32 := 0#32
  let v7 : BitVec 1 := Scalar.cmpi .slt v0 c0_i32_2
  let v8 : BitVec 32 := Scalar.extui v7
  let v9 : BitVec 32 := Scalar.subi v6 v8
  let c0_i32_3 : BitVec 32 := 0#32
  let v10 : BitVec 1 := Scalar.cmpi .sgt c8192_i32 c0_i32_3
  let v11 : BitVec 32 := Scalar.extui v10
  let c0_i32_4 : BitVec 32 := 0#32
  let v12 : BitVec 1 := Scalar.cmpi .slt c8192_i32 c0_i32_4
  let v13 : BitVec 32 := Scalar.extui v12
  let v14 : BitVec 32 := Scalar.subi v11 v13
  let v15 : BitVec 1 := Scalar.cmpi .ne v9 v14
  let v16 : BitVec 32 := Scalar.remsi v0 c8192_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c16384_i32 : BitVec 32 := 16384#32
  let v21 : BitVec 32 := Scalar.divsi v3 c16384_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c0_i32_8 : BitVec 32 := 0#32
  let v27 : BitVec 1 := Scalar.cmpi .sgt c16384_i32 c0_i32_8
  let v28 : BitVec 32 := Scalar.extui v27
  let c0_i32_9 : BitVec 32 := 0#32
  let v29 : BitVec 1 := Scalar.cmpi .slt c16384_i32 c0_i32_9
  let v30 : BitVec 32 := Scalar.extui v29
  let v31 : BitVec 32 := Scalar.subi v28 v30
  let v32 : BitVec 1 := Scalar.cmpi .ne v26 v31
  let v33 : BitVec 32 := Scalar.remsi v3 c16384_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c4_i32 : BitVec 32 := 4#32
  let v38 : BitVec 32 := Scalar.addi c4_i32 v37
  let v39 : BitVec 32 := Scalar.select v1 v20 v38
  let c8192_i32_12 : BitVec 32 := 8192#32
  let c0_i32_13 : BitVec 32 := 0#32
  let v40 : BitVec 1 := Scalar.cmpi .eq c8192_i32_12 c0_i32_13
  let c1_i32_14 : BitVec 32 := 1#32
  let v41 : BitVec 32 := Scalar.select v40 c1_i32_14 c8192_i32_12
  let v42 : BitVec 32 := Scalar.remsi v0 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16384_i32_18 : BitVec 32 := 16384#32
  let c0_i32_19 : BitVec 32 := 0#32
  let v50 : BitVec 1 := Scalar.cmpi .eq c16384_i32_18 c0_i32_19
  let c1_i32_20 : BitVec 32 := 1#32
  let v51 : BitVec 32 := Scalar.select v50 c1_i32_20 c16384_i32_18
  let v52 : BitVec 32 := Scalar.remsi v3 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v1 v49 v59
  let c1024_i32_24 : BitVec 32 := 1024#32
  let v61 : BitVec 32 := Scalar.divsi v60 c1024_i32_24
  let c0_i32_25 : BitVec 32 := 0#32
  let v62 : BitVec 1 := Scalar.cmpi .sgt v60 c0_i32_25
  let v63 : BitVec 32 := Scalar.extui v62
  let c0_i32_26 : BitVec 32 := 0#32
  let v64 : BitVec 1 := Scalar.cmpi .slt v60 c0_i32_26
  let v65 : BitVec 32 := Scalar.extui v64
  let v66 : BitVec 32 := Scalar.subi v63 v65
  let c0_i32_27 : BitVec 32 := 0#32
  let v67 : BitVec 1 := Scalar.cmpi .sgt c1024_i32_24 c0_i32_27
  let v68 : BitVec 32 := Scalar.extui v67
  let c0_i32_28 : BitVec 32 := 0#32
  let v69 : BitVec 1 := Scalar.cmpi .slt c1024_i32_24 c0_i32_28
  let v70 : BitVec 32 := Scalar.extui v69
  let v71 : BitVec 32 := Scalar.subi v68 v70
  let v72 : BitVec 1 := Scalar.cmpi .ne v66 v71
  let v73 : BitVec 32 := Scalar.remsi v60 c1024_i32_24
  let c0_i32_29 : BitVec 32 := 0#32
  let v74 : BitVec 1 := Scalar.cmpi .ne v73 c0_i32_29
  let v75 : BitVec 1 := Scalar.andi v72 v74
  let c1_i32_30 : BitVec 32 := 1#32
  let v76 : BitVec 32 := Scalar.subi v61 c1_i32_30
  let v77 : BitVec 32 := Scalar.select v75 v76 v61
  let c0_i32_31 : BitVec 32 := 0#32
  let c0_i32_32 : BitVec 32 := 0#32
  ![v77.toNat, c0_i32_31.toNat]

def cc0_transform_7 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c32768_i32_0 : BitVec 32 := 32768#32
  let v2 : BitVec 32 := Scalar.subi v0 c32768_i32_0
  let c0_i32 : BitVec 32 := 0#32
  let v3 : BitVec 32 := Scalar.maxsi v2 c0_i32
  let c8192_i32 : BitVec 32 := 8192#32
  let v4 : BitVec 32 := Scalar.divsi v0 c8192_i32
  let c0_i32_1 : BitVec 32 := 0#32
  let v5 : BitVec 1 := Scalar.cmpi .sgt v0 c0_i32_1
  let v6 : BitVec 32 := Scalar.extui v5
  let c0_i32_2 : BitVec 32 := 0#32
  let v7 : BitVec 1 := Scalar.cmpi .slt v0 c0_i32_2
  let v8 : BitVec 32 := Scalar.extui v7
  let v9 : BitVec 32 := Scalar.subi v6 v8
  let c0_i32_3 : BitVec 32 := 0#32
  let v10 : BitVec 1 := Scalar.cmpi .sgt c8192_i32 c0_i32_3
  let v11 : BitVec 32 := Scalar.extui v10
  let c0_i32_4 : BitVec 32 := 0#32
  let v12 : BitVec 1 := Scalar.cmpi .slt c8192_i32 c0_i32_4
  let v13 : BitVec 32 := Scalar.extui v12
  let v14 : BitVec 32 := Scalar.subi v11 v13
  let v15 : BitVec 1 := Scalar.cmpi .ne v9 v14
  let v16 : BitVec 32 := Scalar.remsi v0 c8192_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c16384_i32 : BitVec 32 := 16384#32
  let v21 : BitVec 32 := Scalar.divsi v3 c16384_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c0_i32_8 : BitVec 32 := 0#32
  let v27 : BitVec 1 := Scalar.cmpi .sgt c16384_i32 c0_i32_8
  let v28 : BitVec 32 := Scalar.extui v27
  let c0_i32_9 : BitVec 32 := 0#32
  let v29 : BitVec 1 := Scalar.cmpi .slt c16384_i32 c0_i32_9
  let v30 : BitVec 32 := Scalar.extui v29
  let v31 : BitVec 32 := Scalar.subi v28 v30
  let v32 : BitVec 1 := Scalar.cmpi .ne v26 v31
  let v33 : BitVec 32 := Scalar.remsi v3 c16384_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c4_i32 : BitVec 32 := 4#32
  let v38 : BitVec 32 := Scalar.addi c4_i32 v37
  let v39 : BitVec 32 := Scalar.select v1 v20 v38
  let c8192_i32_12 : BitVec 32 := 8192#32
  let c0_i32_13 : BitVec 32 := 0#32
  let v40 : BitVec 1 := Scalar.cmpi .eq c8192_i32_12 c0_i32_13
  let c1_i32_14 : BitVec 32 := 1#32
  let v41 : BitVec 32 := Scalar.select v40 c1_i32_14 c8192_i32_12
  let v42 : BitVec 32 := Scalar.remsi v0 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16384_i32_18 : BitVec 32 := 16384#32
  let c0_i32_19 : BitVec 32 := 0#32
  let v50 : BitVec 1 := Scalar.cmpi .eq c16384_i32_18 c0_i32_19
  let c1_i32_20 : BitVec 32 := 1#32
  let v51 : BitVec 32 := Scalar.select v50 c1_i32_20 c16384_i32_18
  let v52 : BitVec 32 := Scalar.remsi v3 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v1 v49 v59
  let c1024_i32_24 : BitVec 32 := 1024#32
  let v61 : BitVec 32 := Scalar.divsi v60 c1024_i32_24
  let c0_i32_25 : BitVec 32 := 0#32
  let v62 : BitVec 1 := Scalar.cmpi .sgt v60 c0_i32_25
  let v63 : BitVec 32 := Scalar.extui v62
  let c0_i32_26 : BitVec 32 := 0#32
  let v64 : BitVec 1 := Scalar.cmpi .slt v60 c0_i32_26
  let v65 : BitVec 32 := Scalar.extui v64
  let v66 : BitVec 32 := Scalar.subi v63 v65
  let c0_i32_27 : BitVec 32 := 0#32
  let v67 : BitVec 1 := Scalar.cmpi .sgt c1024_i32_24 c0_i32_27
  let v68 : BitVec 32 := Scalar.extui v67
  let c0_i32_28 : BitVec 32 := 0#32
  let v69 : BitVec 1 := Scalar.cmpi .slt c1024_i32_24 c0_i32_28
  let v70 : BitVec 32 := Scalar.extui v69
  let v71 : BitVec 32 := Scalar.subi v68 v70
  let v72 : BitVec 1 := Scalar.cmpi .ne v66 v71
  let v73 : BitVec 32 := Scalar.remsi v60 c1024_i32_24
  let c0_i32_29 : BitVec 32 := 0#32
  let v74 : BitVec 1 := Scalar.cmpi .ne v73 c0_i32_29
  let v75 : BitVec 1 := Scalar.andi v72 v74
  let c1_i32_30 : BitVec 32 := 1#32
  let v76 : BitVec 32 := Scalar.subi v61 c1_i32_30
  let v77 : BitVec 32 := Scalar.select v75 v76 v61
  let c0_i32_31 : BitVec 32 := 0#32
  let c0_i32_32 : BitVec 32 := 0#32
  ![v77.toNat, c0_i32_31.toNat]

def cc0_transform_8 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c32768_i32_0 : BitVec 32 := 32768#32
  let v2 : BitVec 32 := Scalar.subi v0 c32768_i32_0
  let c0_i32 : BitVec 32 := 0#32
  let v3 : BitVec 32 := Scalar.maxsi v2 c0_i32
  let c8192_i32 : BitVec 32 := 8192#32
  let v4 : BitVec 32 := Scalar.divsi v0 c8192_i32
  let c0_i32_1 : BitVec 32 := 0#32
  let v5 : BitVec 1 := Scalar.cmpi .sgt v0 c0_i32_1
  let v6 : BitVec 32 := Scalar.extui v5
  let c0_i32_2 : BitVec 32 := 0#32
  let v7 : BitVec 1 := Scalar.cmpi .slt v0 c0_i32_2
  let v8 : BitVec 32 := Scalar.extui v7
  let v9 : BitVec 32 := Scalar.subi v6 v8
  let c0_i32_3 : BitVec 32 := 0#32
  let v10 : BitVec 1 := Scalar.cmpi .sgt c8192_i32 c0_i32_3
  let v11 : BitVec 32 := Scalar.extui v10
  let c0_i32_4 : BitVec 32 := 0#32
  let v12 : BitVec 1 := Scalar.cmpi .slt c8192_i32 c0_i32_4
  let v13 : BitVec 32 := Scalar.extui v12
  let v14 : BitVec 32 := Scalar.subi v11 v13
  let v15 : BitVec 1 := Scalar.cmpi .ne v9 v14
  let v16 : BitVec 32 := Scalar.remsi v0 c8192_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c16384_i32 : BitVec 32 := 16384#32
  let v21 : BitVec 32 := Scalar.divsi v3 c16384_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c0_i32_8 : BitVec 32 := 0#32
  let v27 : BitVec 1 := Scalar.cmpi .sgt c16384_i32 c0_i32_8
  let v28 : BitVec 32 := Scalar.extui v27
  let c0_i32_9 : BitVec 32 := 0#32
  let v29 : BitVec 1 := Scalar.cmpi .slt c16384_i32 c0_i32_9
  let v30 : BitVec 32 := Scalar.extui v29
  let v31 : BitVec 32 := Scalar.subi v28 v30
  let v32 : BitVec 1 := Scalar.cmpi .ne v26 v31
  let v33 : BitVec 32 := Scalar.remsi v3 c16384_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c4_i32 : BitVec 32 := 4#32
  let v38 : BitVec 32 := Scalar.addi c4_i32 v37
  let v39 : BitVec 32 := Scalar.select v1 v20 v38
  let c8192_i32_12 : BitVec 32 := 8192#32
  let c0_i32_13 : BitVec 32 := 0#32
  let v40 : BitVec 1 := Scalar.cmpi .eq c8192_i32_12 c0_i32_13
  let c1_i32_14 : BitVec 32 := 1#32
  let v41 : BitVec 32 := Scalar.select v40 c1_i32_14 c8192_i32_12
  let v42 : BitVec 32 := Scalar.remsi v0 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16384_i32_18 : BitVec 32 := 16384#32
  let c0_i32_19 : BitVec 32 := 0#32
  let v50 : BitVec 1 := Scalar.cmpi .eq c16384_i32_18 c0_i32_19
  let c1_i32_20 : BitVec 32 := 1#32
  let v51 : BitVec 32 := Scalar.select v50 c1_i32_20 c16384_i32_18
  let v52 : BitVec 32 := Scalar.remsi v3 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v1 v49 v59
  let c1024_i32_24 : BitVec 32 := 1024#32
  let v61 : BitVec 32 := Scalar.divsi v60 c1024_i32_24
  let c0_i32_25 : BitVec 32 := 0#32
  let v62 : BitVec 1 := Scalar.cmpi .sgt v60 c0_i32_25
  let v63 : BitVec 32 := Scalar.extui v62
  let c0_i32_26 : BitVec 32 := 0#32
  let v64 : BitVec 1 := Scalar.cmpi .slt v60 c0_i32_26
  let v65 : BitVec 32 := Scalar.extui v64
  let v66 : BitVec 32 := Scalar.subi v63 v65
  let c0_i32_27 : BitVec 32 := 0#32
  let v67 : BitVec 1 := Scalar.cmpi .sgt c1024_i32_24 c0_i32_27
  let v68 : BitVec 32 := Scalar.extui v67
  let c0_i32_28 : BitVec 32 := 0#32
  let v69 : BitVec 1 := Scalar.cmpi .slt c1024_i32_24 c0_i32_28
  let v70 : BitVec 32 := Scalar.extui v69
  let v71 : BitVec 32 := Scalar.subi v68 v70
  let v72 : BitVec 1 := Scalar.cmpi .ne v66 v71
  let v73 : BitVec 32 := Scalar.remsi v60 c1024_i32_24
  let c0_i32_29 : BitVec 32 := 0#32
  let v74 : BitVec 1 := Scalar.cmpi .ne v73 c0_i32_29
  let v75 : BitVec 1 := Scalar.andi v72 v74
  let c1_i32_30 : BitVec 32 := 1#32
  let v76 : BitVec 32 := Scalar.subi v61 c1_i32_30
  let v77 : BitVec 32 := Scalar.select v75 v76 v61
  let c0_i32_31 : BitVec 32 := 0#32
  let c0_i32_32 : BitVec 32 := 0#32
  ![v77.toNat, c0_i32_31.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S65536x2048 : Shape := ⟨2, ![65536, 2048]⟩
abbrev S2x6x8x1x2048 : Shape := ⟨5, ![2, 6, 8, 1, 2048]⟩
abbrev S1x2048 : Shape := ⟨2, ![1, 2048]⟩
abbrev S2048x5120 : Shape := ⟨2, ![2048, 5120]⟩
abbrev S16384x64 : Shape := ⟨2, ![16384, 64]⟩
abbrev S16384x32 : Shape := ⟨2, ![16384, 32]⟩
abbrev S4x128 : Shape := ⟨2, ![4, 128]⟩
abbrev S8192x64 : Shape := ⟨2, ![8192, 64]⟩
abbrev S1x8192x64 : Shape := ⟨3, ![1, 8192, 64]⟩
abbrev S4x8192x64 : Shape := ⟨3, ![4, 8192, 64]⟩
abbrev S32768x64 : Shape := ⟨2, ![32768, 64]⟩
abbrev S1x16384x64 : Shape := ⟨3, ![1, 16384, 64]⟩
abbrev S2x16384x64 : Shape := ⟨3, ![2, 16384, 64]⟩
abbrev S65536x64 : Shape := ⟨2, ![65536, 64]⟩
abbrev S65536x1x64 : Shape := ⟨3, ![65536, 1, 64]⟩
abbrev S8192x32 : Shape := ⟨2, ![8192, 32]⟩
abbrev S1x8192x32 : Shape := ⟨3, ![1, 8192, 32]⟩
abbrev S4x8192x32 : Shape := ⟨3, ![4, 8192, 32]⟩
abbrev S32768x32 : Shape := ⟨2, ![32768, 32]⟩
abbrev S1x16384x32 : Shape := ⟨3, ![1, 16384, 32]⟩
abbrev S2x16384x32 : Shape := ⟨3, ![2, 16384, 32]⟩
abbrev S65536x32 : Shape := ⟨2, ![65536, 32]⟩
abbrev S65536x1x32 : Shape := ⟨3, ![65536, 1, 32]⟩
abbrev S_ : Shape := ⟨0, ![]⟩
abbrev S65536 : Shape := ⟨1, ![65536]⟩
abbrev S65536x1 : Shape := ⟨2, ![65536, 1]⟩
abbrev S1x1x8x1x2048 : Shape := ⟨5, ![1, 1, 8, 1, 2048]⟩
abbrev S8x2048 : Shape := ⟨2, ![8, 2048]⟩
abbrev S4x2048 : Shape := ⟨2, ![4, 2048]⟩
abbrev S4x1x2048 : Shape := ⟨3, ![4, 1, 2048]⟩
abbrev S4x8192x2048 : Shape := ⟨3, ![4, 8192, 2048]⟩
abbrev S32768x2048 : Shape := ⟨2, ![32768, 2048]⟩
abbrev S2x2048 : Shape := ⟨2, ![2, 2048]⟩
abbrev S2x1x2048 : Shape := ⟨3, ![2, 1, 2048]⟩
abbrev S2x16384x2048 : Shape := ⟨3, ![2, 16384, 2048]⟩
abbrev S65536x5120 : Shape := ⟨2, ![65536, 5120]⟩
abbrev S65536x512 : Shape := ⟨2, ![65536, 512]⟩
abbrev S65536x4x128 : Shape := ⟨3, ![65536, 4, 128]⟩
abbrev S65536x4x64 : Shape := ⟨3, ![65536, 4, 64]⟩
abbrev S1x128 : Shape := ⟨2, ![1, 128]⟩
abbrev S128 : Shape := ⟨1, ![128]⟩
abbrev S65536x4 : Shape := ⟨2, ![65536, 4]⟩
abbrev S65536x4x1 : Shape := ⟨3, ![65536, 4, 1]⟩
abbrev S1x1x128 : Shape := ⟨3, ![1, 1, 128]⟩
abbrev S65536x1024 : Shape := ⟨2, ![65536, 1024]⟩
abbrev S65536x8x128 : Shape := ⟨3, ![65536, 8, 128]⟩
abbrev S65536x8 : Shape := ⟨2, ![65536, 8]⟩
abbrev S65536x8x1 : Shape := ⟨3, ![65536, 8, 1]⟩
abbrev S65536x8x64 : Shape := ⟨3, ![65536, 8, 64]⟩
abbrev S65536x8x32 : Shape := ⟨3, ![65536, 8, 32]⟩
abbrev S65536x256 : Shape := ⟨2, ![65536, 256]⟩
abbrev S65536x2x128 : Shape := ⟨3, ![65536, 2, 128]⟩
abbrev S65536x2 : Shape := ⟨2, ![65536, 2]⟩
abbrev S65536x2x1 : Shape := ⟨3, ![65536, 2, 1]⟩
abbrev S65536x2x64 : Shape := ⟨3, ![65536, 2, 64]⟩
abbrev S65536x2x32 : Shape := ⟨3, ![65536, 2, 32]⟩

abbrev nBuf : Space → Nat
  | .hbm => 304
  | .vmem => 0
  | .smem => 0
  | _ => 0

abbrev hbmTy0_0 (i : Nat) : BufTy := match i % 128 with
  | 0 => ⟨S65536x2048, .f32⟩
  | 1 => ⟨S2x6x8x1x2048, .f32⟩
  | 2 => ⟨S1x2048, .f32⟩
  | 3 => ⟨S2048x5120, .bf16⟩
  | 4 => ⟨S16384x64, .f32⟩
  | 5 => ⟨S16384x64, .f32⟩
  | 6 => ⟨S16384x32, .f32⟩
  | 7 => ⟨S16384x32, .f32⟩
  | 8 => ⟨S16384x32, .f32⟩
  | 9 => ⟨S16384x32, .f32⟩
  | 10 => ⟨S4x128, .f32⟩
  | 11 => ⟨S8192x64, .f32⟩
  | 12 => ⟨S1x8192x64, .f32⟩
  | 13 => ⟨S4x8192x64, .f32⟩
  | 14 => ⟨S32768x64, .f32⟩
  | 15 => ⟨S1x16384x64, .f32⟩
  | 16 => ⟨S2x16384x64, .f32⟩
  | 17 => ⟨S32768x64, .f32⟩
  | 18 => ⟨S65536x64, .f32⟩
  | 19 => ⟨S65536x1x64, .f32⟩
  | 20 => ⟨S8192x64, .f32⟩
  | 21 => ⟨S1x8192x64, .f32⟩
  | 22 => ⟨S4x8192x64, .f32⟩
  | 23 => ⟨S32768x64, .f32⟩
  | 24 => ⟨S1x16384x64, .f32⟩
  | 25 => ⟨S2x16384x64, .f32⟩
  | 26 => ⟨S32768x64, .f32⟩
  | 27 => ⟨S65536x64, .f32⟩
  | 28 => ⟨S65536x1x64, .f32⟩
  | 29 => ⟨S8192x32, .f32⟩
  | 30 => ⟨S1x8192x32, .f32⟩
  | 31 => ⟨S4x8192x32, .f32⟩
  | 32 => ⟨S32768x32, .f32⟩
  | 33 => ⟨S1x16384x32, .f32⟩
  | 34 => ⟨S2x16384x32, .f32⟩
  | 35 => ⟨S32768x32, .f32⟩
  | 36 => ⟨S65536x32, .f32⟩
  | 37 => ⟨S65536x1x32, .f32⟩
  | 38 => ⟨S8192x32, .f32⟩
  | 39 => ⟨S1x8192x32, .f32⟩
  | 40 => ⟨S4x8192x32, .f32⟩
  | 41 => ⟨S32768x32, .f32⟩
  | 42 => ⟨S1x16384x32, .f32⟩
  | 43 => ⟨S2x16384x32, .f32⟩
  | 44 => ⟨S32768x32, .f32⟩
  | 45 => ⟨S65536x32, .f32⟩
  | 46 => ⟨S65536x1x32, .f32⟩
  | 47 => ⟨S8192x32, .f32⟩
  | 48 => ⟨S1x8192x32, .f32⟩
  | 49 => ⟨S4x8192x32, .f32⟩
  | 50 => ⟨S32768x32, .f32⟩
  | 51 => ⟨S1x16384x32, .f32⟩
  | 52 => ⟨S2x16384x32, .f32⟩
  | 53 => ⟨S32768x32, .f32⟩
  | 54 => ⟨S65536x32, .f32⟩
  | 55 => ⟨S65536x1x32, .f32⟩
  | 56 => ⟨S8192x32, .f32⟩
  | 57 => ⟨S1x8192x32, .f32⟩
  | 58 => ⟨S4x8192x32, .f32⟩
  | 59 => ⟨S32768x32, .f32⟩
  | 60 => ⟨S1x16384x32, .f32⟩
  | 61 => ⟨S2x16384x32, .f32⟩
  | 62 => ⟨S32768x32, .f32⟩
  | 63 => ⟨S65536x32, .f32⟩
  | 64 => ⟨S65536x1x32, .f32⟩
  | 65 => ⟨S65536x2048, .f32⟩
  | 66 => ⟨S_, .f32⟩
  | 67 => ⟨S65536, .f32⟩
  | 68 => ⟨S65536x1, .f32⟩
  | 69 => ⟨S_, .f32⟩
  | 70 => ⟨S65536x1, .f32⟩
  | 71 => ⟨S65536x1, .f32⟩
  | 72 => ⟨S_, .f32⟩
  | 73 => ⟨S65536x1, .f32⟩
  | 74 => ⟨S65536x1, .f32⟩
  | 75 => ⟨S65536x1, .f32⟩
  | 76 => ⟨S65536x2048, .f32⟩
  | 77 => ⟨S65536x2048, .f32⟩
  | 78 => ⟨S65536x2048, .f32⟩
  | 79 => ⟨S65536x2048, .f32⟩
  | 80 => ⟨S1x1x8x1x2048, .f32⟩
  | 81 => ⟨S8x2048, .f32⟩
  | 82 => ⟨S4x2048, .f32⟩
  | 83 => ⟨S4x1x2048, .f32⟩
  | 84 => ⟨S4x8192x2048, .f32⟩
  | 85 => ⟨S32768x2048, .f32⟩
  | 86 => ⟨S2x2048, .f32⟩
  | 87 => ⟨S2x1x2048, .f32⟩
  | 88 => ⟨S2x16384x2048, .f32⟩
  | 89 => ⟨S32768x2048, .f32⟩
  | 90 => ⟨S65536x2048, .f32⟩
  | 91 => ⟨S_, .f32⟩
  | 92 => ⟨S65536x2048, .f32⟩
  | 93 => ⟨S65536x2048, .f32⟩
  | 94 => ⟨S65536x2048, .f32⟩
  | 95 => ⟨S1x1x8x1x2048, .f32⟩
  | 96 => ⟨S8x2048, .f32⟩
  | 97 => ⟨S4x2048, .f32⟩
  | 98 => ⟨S4x1x2048, .f32⟩
  | 99 => ⟨S4x8192x2048, .f32⟩
  | 100 => ⟨S32768x2048, .f32⟩
  | 101 => ⟨S2x2048, .f32⟩
  | 102 => ⟨S2x1x2048, .f32⟩
  | 103 => ⟨S2x16384x2048, .f32⟩
  | 104 => ⟨S32768x2048, .f32⟩
  | 105 => ⟨S65536x2048, .f32⟩
  | 106 => ⟨S65536x2048, .f32⟩
  | 107 => ⟨S2048x5120, .f32⟩
  | 108 => ⟨S65536x5120, .f32⟩
  | 109 => ⟨S65536x512, .f32⟩
  | 110 => ⟨S65536x4x128, .f32⟩
  | 111 => ⟨S65536x4x64, .f32⟩
  | 112 => ⟨S65536x4x64, .f32⟩
  | 113 => ⟨S65536x4x64, .f32⟩
  | 114 => ⟨S65536x4x64, .f32⟩
  | 115 => ⟨S65536x4x64, .f32⟩
  | 116 => ⟨S65536x4x64, .f32⟩
  | 117 => ⟨S65536x4x64, .f32⟩
  | 118 => ⟨S65536x4x64, .f32⟩
  | 119 => ⟨S65536x4x64, .f32⟩
  | 120 => ⟨S65536x4x64, .f32⟩
  | 121 => ⟨S65536x4x64, .f32⟩
  | 122 => ⟨S65536x4x64, .f32⟩
  | 123 => ⟨S65536x4x128, .f32⟩
  | 124 => ⟨S65536x512, .f32⟩
  | 125 => ⟨S65536x512, .f32⟩
  | 126 => ⟨S65536x4x128, .f32⟩
  | 127 => ⟨S65536x4x64, .f32⟩
  | _ => ⟨S65536x2048, .f32⟩

abbrev hbmTy0_1 (i : Nat) : BufTy := match i % 128 with
  | 0 => ⟨S65536x4x64, .f32⟩
  | 1 => ⟨S65536x4x64, .f32⟩
  | 2 => ⟨S65536x4x64, .f32⟩
  | 3 => ⟨S65536x4x64, .f32⟩
  | 4 => ⟨S65536x4x64, .f32⟩
  | 5 => ⟨S65536x4x64, .f32⟩
  | 6 => ⟨S65536x4x64, .f32⟩
  | 7 => ⟨S65536x4x64, .f32⟩
  | 8 => ⟨S65536x4x64, .f32⟩
  | 9 => ⟨S65536x4x64, .f32⟩
  | 10 => ⟨S65536x4x64, .f32⟩
  | 11 => ⟨S65536x4x128, .f32⟩
  | 12 => ⟨S_, .f32⟩
  | 13 => ⟨S65536x4x128, .f32⟩
  | 14 => ⟨S65536x4x128, .f32⟩
  | 15 => ⟨S65536x512, .f32⟩
  | 16 => ⟨S65536x512, .f32⟩
  | 17 => ⟨S65536x512, .f32⟩
  | 18 => ⟨S65536x512, .f32⟩
  | 19 => ⟨S65536x512, .f32⟩
  | 20 => ⟨S_, .f32⟩
  | 21 => ⟨S65536x512, .f32⟩
  | 22 => ⟨S65536x512, .f32⟩
  | 23 => ⟨S_, .f32⟩
  | 24 => ⟨S65536x512, .f32⟩
  | 25 => ⟨S65536x512, .f32⟩
  | 26 => ⟨S65536x512, .f32⟩
  | 27 => ⟨S65536x512, .f32⟩
  | 28 => ⟨S65536x4x128, .f32⟩
  | 29 => ⟨S1x128, .f32⟩
  | 30 => ⟨S128, .f32⟩
  | 31 => ⟨S65536x4x128, .f32⟩
  | 32 => ⟨S_, .f32⟩
  | 33 => ⟨S65536x4, .f32⟩
  | 34 => ⟨S65536x4x1, .f32⟩
  | 35 => ⟨S_, .f32⟩
  | 36 => ⟨S65536x4x1, .f32⟩
  | 37 => ⟨S65536x4x1, .f32⟩
  | 38 => ⟨S_, .f32⟩
  | 39 => ⟨S65536x4x1, .f32⟩
  | 40 => ⟨S65536x4x1, .f32⟩
  | 41 => ⟨S65536x4x1, .f32⟩
  | 42 => ⟨S65536x4x128, .f32⟩
  | 43 => ⟨S65536x4x128, .f32⟩
  | 44 => ⟨S1x1x128, .f32⟩
  | 45 => ⟨S65536x4x128, .f32⟩
  | 46 => ⟨S65536x4x128, .f32⟩
  | 47 => ⟨S65536x512, .f32⟩
  | 48 => ⟨S65536x512, .f32⟩
  | 49 => ⟨S65536x4x128, .f32⟩
  | 50 => ⟨S1x128, .f32⟩
  | 51 => ⟨S128, .f32⟩
  | 52 => ⟨S65536x4x128, .f32⟩
  | 53 => ⟨S_, .f32⟩
  | 54 => ⟨S65536x4, .f32⟩
  | 55 => ⟨S65536x4x1, .f32⟩
  | 56 => ⟨S_, .f32⟩
  | 57 => ⟨S65536x4x1, .f32⟩
  | 58 => ⟨S65536x4x1, .f32⟩
  | 59 => ⟨S_, .f32⟩
  | 60 => ⟨S65536x4x1, .f32⟩
  | 61 => ⟨S65536x4x1, .f32⟩
  | 62 => ⟨S65536x4x1, .f32⟩
  | 63 => ⟨S65536x4x128, .f32⟩
  | 64 => ⟨S65536x4x128, .f32⟩
  | 65 => ⟨S1x1x128, .f32⟩
  | 66 => ⟨S65536x4x128, .f32⟩
  | 67 => ⟨S65536x4x128, .f32⟩
  | 68 => ⟨S65536x512, .f32⟩
  | 69 => ⟨S65536x512, .f32⟩
  | 70 => ⟨S65536x1024, .f32⟩
  | 71 => ⟨S65536x8x128, .f32⟩
  | 72 => ⟨S1x128, .f32⟩
  | 73 => ⟨S128, .f32⟩
  | 74 => ⟨S65536x8x128, .f32⟩
  | 75 => ⟨S_, .f32⟩
  | 76 => ⟨S65536x8, .f32⟩
  | 77 => ⟨S65536x8x1, .f32⟩
  | 78 => ⟨S_, .f32⟩
  | 79 => ⟨S65536x8x1, .f32⟩
  | 80 => ⟨S65536x8x1, .f32⟩
  | 81 => ⟨S_, .f32⟩
  | 82 => ⟨S65536x8x1, .f32⟩
  | 83 => ⟨S65536x8x1, .f32⟩
  | 84 => ⟨S65536x8x1, .f32⟩
  | 85 => ⟨S65536x8x128, .f32⟩
  | 86 => ⟨S65536x8x128, .f32⟩
  | 87 => ⟨S1x1x128, .f32⟩
  | 88 => ⟨S65536x8x128, .f32⟩
  | 89 => ⟨S65536x8x128, .f32⟩
  | 90 => ⟨S65536x8x64, .f32⟩
  | 91 => ⟨S65536x8x64, .f32⟩
  | 92 => ⟨S65536x8x32, .f32⟩
  | 93 => ⟨S65536x8x32, .f32⟩
  | 94 => ⟨S65536x8x32, .f32⟩
  | 95 => ⟨S65536x8x32, .f32⟩
  | 96 => ⟨S65536x8x32, .f32⟩
  | 97 => ⟨S65536x8x32, .f32⟩
  | 98 => ⟨S65536x8x32, .f32⟩
  | 99 => ⟨S65536x8x32, .f32⟩
  | 100 => ⟨S65536x8x32, .f32⟩
  | 101 => ⟨S65536x8x32, .f32⟩
  | 102 => ⟨S65536x8x32, .f32⟩
  | 103 => ⟨S65536x8x32, .f32⟩
  | 104 => ⟨S65536x8x64, .f32⟩
  | 105 => ⟨S65536x8x32, .f32⟩
  | 106 => ⟨S65536x8x32, .f32⟩
  | 107 => ⟨S65536x8x32, .f32⟩
  | 108 => ⟨S65536x8x32, .f32⟩
  | 109 => ⟨S65536x8x32, .f32⟩
  | 110 => ⟨S65536x8x32, .f32⟩
  | 111 => ⟨S65536x8x32, .f32⟩
  | 112 => ⟨S65536x8x32, .f32⟩
  | 113 => ⟨S65536x8x32, .f32⟩
  | 114 => ⟨S65536x8x32, .f32⟩
  | 115 => ⟨S65536x8x32, .f32⟩
  | 116 => ⟨S65536x8x32, .f32⟩
  | 117 => ⟨S65536x8x64, .f32⟩
  | 118 => ⟨S65536x8x128, .f32⟩
  | 119 => ⟨S_, .f32⟩
  | 120 => ⟨S65536x8x128, .f32⟩
  | 121 => ⟨S65536x8x128, .f32⟩
  | 122 => ⟨S65536x1024, .f32⟩
  | 123 => ⟨S65536x256, .f32⟩
  | 124 => ⟨S65536x2x128, .f32⟩
  | 125 => ⟨S1x128, .f32⟩
  | 126 => ⟨S128, .f32⟩
  | 127 => ⟨S65536x2x128, .f32⟩
  | _ => ⟨S65536x2048, .f32⟩

abbrev hbmTy0_2 (i : Nat) : BufTy := match i % 128 with
  | 0 => ⟨S_, .f32⟩
  | 1 => ⟨S65536x2, .f32⟩
  | 2 => ⟨S65536x2x1, .f32⟩
  | 3 => ⟨S_, .f32⟩
  | 4 => ⟨S65536x2x1, .f32⟩
  | 5 => ⟨S65536x2x1, .f32⟩
  | 6 => ⟨S_, .f32⟩
  | 7 => ⟨S65536x2x1, .f32⟩
  | 8 => ⟨S65536x2x1, .f32⟩
  | 9 => ⟨S65536x2x1, .f32⟩
  | 10 => ⟨S65536x2x128, .f32⟩
  | 11 => ⟨S65536x2x128, .f32⟩
  | 12 => ⟨S1x1x128, .f32⟩
  | 13 => ⟨S65536x2x128, .f32⟩
  | 14 => ⟨S65536x2x128, .f32⟩
  | 15 => ⟨S65536x2x64, .f32⟩
  | 16 => ⟨S65536x2x64, .f32⟩
  | 17 => ⟨S65536x2x32, .f32⟩
  | 18 => ⟨S65536x2x32, .f32⟩
  | 19 => ⟨S65536x2x32, .f32⟩
  | 20 => ⟨S65536x2x32, .f32⟩
  | 21 => ⟨S65536x2x32, .f32⟩
  | 22 => ⟨S65536x2x32, .f32⟩
  | 23 => ⟨S65536x2x32, .f32⟩
  | 24 => ⟨S65536x2x32, .f32⟩
  | 25 => ⟨S65536x2x32, .f32⟩
  | 26 => ⟨S65536x2x32, .f32⟩
  | 27 => ⟨S65536x2x32, .f32⟩
  | 28 => ⟨S65536x2x32, .f32⟩
  | 29 => ⟨S65536x2x64, .f32⟩
  | 30 => ⟨S65536x2x32, .f32⟩
  | 31 => ⟨S65536x2x32, .f32⟩
  | 32 => ⟨S65536x2x32, .f32⟩
  | 33 => ⟨S65536x2x32, .f32⟩
  | 34 => ⟨S65536x2x32, .f32⟩
  | 35 => ⟨S65536x2x32, .f32⟩
  | 36 => ⟨S65536x2x32, .f32⟩
  | 37 => ⟨S65536x2x32, .f32⟩
  | 38 => ⟨S65536x2x32, .f32⟩
  | 39 => ⟨S65536x2x32, .f32⟩
  | 40 => ⟨S65536x2x32, .f32⟩
  | 41 => ⟨S65536x2x32, .f32⟩
  | 42 => ⟨S65536x2x64, .f32⟩
  | 43 => ⟨S65536x2x128, .f32⟩
  | 44 => ⟨S65536x256, .f32⟩
  | 45 => ⟨S65536x256, .f32⟩
  | 46 => ⟨S65536x5120, .f32⟩
  | 47 => ⟨S65536x5120, .bf16⟩
  | _ => ⟨S65536x2048, .f32⟩

abbrev hbmTy (i : Nat) : BufTy := match i / 128 with
  | 0 => hbmTy0_0 i
  | 1 => hbmTy0_1 i
  | 2 => hbmTy0_2 i
  | _ => ⟨S65536x2048, .f32⟩

abbrev bufTy : (tb : Table) → Fin (tcTables nBuf tb) → BufTy
  | .hbm, ⟨i, _⟩ => hbmTy i
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst : Ref sig .tc := ⟨.hbm, 66, rfl⟩
abbrev main_v55 : Ref sig .tc := ⟨.hbm, 67, rfl⟩
abbrev main_v56 : Ref sig .tc := ⟨.hbm, 68, rfl⟩
abbrev main_cst_0 : Ref sig .tc := ⟨.hbm, 69, rfl⟩
abbrev main_v57 : Ref sig .tc := ⟨.hbm, 70, rfl⟩
abbrev main_v58 : Ref sig .tc := ⟨.hbm, 71, rfl⟩
abbrev main_cst_1 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_2 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_3 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_call0_v0 : Ref sig .tc := ⟨.hbm, 146, rfl⟩
abbrev main_call0_v1 : Ref sig .tc := ⟨.hbm, 147, rfl⟩
abbrev main_call0_cst : Ref sig .tc := ⟨.hbm, 148, rfl⟩
abbrev main_call0_v2 : Ref sig .tc := ⟨.hbm, 149, rfl⟩
abbrev main_call0_v3 : Ref sig .tc := ⟨.hbm, 150, rfl⟩
abbrev main_call0_cst_0 : Ref sig .tc := ⟨.hbm, 151, rfl⟩
abbrev main_call0_v4 : Ref sig .tc := ⟨.hbm, 152, rfl⟩
abbrev main_call0_v5 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_4 : Ref sig .tc := ⟨.hbm, 160, rfl⟩
abbrev main_v136 : Ref sig .tc := ⟨.hbm, 161, rfl⟩
abbrev main_v137 : Ref sig .tc := ⟨.hbm, 162, rfl⟩
abbrev main_cst_5 : Ref sig .tc := ⟨.hbm, 163, rfl⟩
abbrev main_v138 : Ref sig .tc := ⟨.hbm, 164, rfl⟩
abbrev main_v139 : Ref sig .tc := ⟨.hbm, 165, rfl⟩
abbrev main_cst_6 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_cst_7 : Ref sig .tc := ⟨.hbm, 181, rfl⟩
abbrev main_v154 : Ref sig .tc := ⟨.hbm, 182, rfl⟩
abbrev main_v155 : Ref sig .tc := ⟨.hbm, 183, rfl⟩
abbrev main_cst_8 : Ref sig .tc := ⟨.hbm, 184, rfl⟩
abbrev main_v156 : Ref sig .tc := ⟨.hbm, 185, rfl⟩
abbrev main_v157 : Ref sig .tc := ⟨.hbm, 186, rfl⟩
abbrev main_cst_9 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_cst_10 : Ref sig .tc := ⟨.hbm, 203, rfl⟩
abbrev main_v173 : Ref sig .tc := ⟨.hbm, 204, rfl⟩
abbrev main_v174 : Ref sig .tc := ⟨.hbm, 205, rfl⟩
abbrev main_cst_11 : Ref sig .tc := ⟨.hbm, 206, rfl⟩
abbrev main_v175 : Ref sig .tc := ⟨.hbm, 207, rfl⟩
abbrev main_v176 : Ref sig .tc := ⟨.hbm, 208, rfl⟩
abbrev main_cst_12 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_cst_13 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_cst_14 : Ref sig .tc := ⟨.hbm, 256, rfl⟩
abbrev main_v222 : Ref sig .tc := ⟨.hbm, 257, rfl⟩
abbrev main_v223 : Ref sig .tc := ⟨.hbm, 258, rfl⟩
abbrev main_cst_15 : Ref sig .tc := ⟨.hbm, 259, rfl⟩
abbrev main_v224 : Ref sig .tc := ⟨.hbm, 260, rfl⟩
abbrev main_v225 : Ref sig .tc := ⟨.hbm, 261, rfl⟩
abbrev main_cst_16 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩

abbrev nD : Nat := 1
abbrev τ : Topo := Topo.v7x

variable {F : FTy → Type} [FloatOps F]
-- ==== Kernel4.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S8x2x12288 : Shape := ⟨3, ![8, 2, 12288]⟩
abbrev S2x8x12288 : Shape := ⟨3, ![2, 8, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2x12288, .f32⟩
  | .hbm, ⟨13, _⟩ => ⟨S2x8x12288, .f32⟩
  | .hbm, ⟨14, _⟩ => ⟨S2x1x12288, .f32⟩
  | .hbm, ⟨15, _⟩ => ⟨S2x8x12288, .f32⟩
  | .hbm, ⟨16, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S65536x5120 : Shape := ⟨2, ![65536, 5120]⟩
abbrev S32768x1024 : Shape := ⟨2, ![32768, 1024]⟩
abbrev S1024x512 : Shape := ⟨2, ![1024, 512]⟩
abbrev S4096x128 : Shape := ⟨2, ![4096, 128]⟩
abbrev S4x1024x128 : Shape := ⟨3, ![4, 1024, 128]⟩
abbrev S4x1024x256 : Shape := ⟨3, ![4, 1024, 256]⟩
abbrev S4096x256 : Shape := ⟨2, ![4096, 256]⟩
abbrev S1024x128 : Shape := ⟨2, ![1024, 128]⟩
abbrev S256x128 : Shape := ⟨2, ![256, 128]⟩
abbrev S256x4096 : Shape := ⟨2, ![256, 4096]⟩
abbrev S1024x4096 : Shape := ⟨2, ![1024, 4096]⟩
abbrev S1x1024x128 : Shape := ⟨3, ![1, 1024, 128]⟩
abbrev S1024x1 : Shape := ⟨2, ![1024, 1]⟩
abbrev S1024 : Shape := ⟨1, ![1024]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 2
  | .vmem => 11
  | .smem => 0
  | _ => 0

abbrev bufTy : (tb : Table) → Fin (tcTables nBuf tb) → BufTy
  | .hbm, ⟨0, _⟩ => ⟨S65536x5120, .bf16⟩
  | .hbm, ⟨1, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x512, .bf16⟩
  | .local _ .vmem, ⟨7, _⟩ => ⟨S1024x512, .bf16⟩
  | .local _ .vmem, ⟨8, _⟩ => ⟨S4x1024x128, .f32⟩
  | .local _ .vmem, ⟨9, _⟩ => ⟨S4x1024x256, .f32⟩
  | .local _ .vmem, ⟨10, _⟩ => ⟨S4096x256, .bf16⟩
  | _, _ => ⟨S65536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 16, 4], ![false, false, false, false]⟩

def k0_cond2 (i : grid0.Coords) : BitVec 1 :=
  let arg3 : BitVec 32 := BitVec.ofNat 32 (i 3).val
  let c3_i32 : BitVec 32 := 3#32
  let v185 : BitVec 1 := Scalar.cmpi .eq arg3 c3_i32
  let v186 : BitVec 32 := Scalar.extui v185
  let c0_i32_93 : BitVec 32 := 0#32
  let v187 : BitVec 1 := Scalar.cmpi .ne v186 c0_i32_93
  v187

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16384_i32 : BitVec 32 := 16384#32
  let v0 : BitVec 32 := Scalar.muli arg0 c16384_i32
  let c32768_i32 : BitVec 32 := 32768#32
  let v1 : BitVec 32 := Scalar.addi c32768_i32 v0
  let c1024_i32 : BitVec 32 := 1024#32
  let v2 : BitVec 32 := Scalar.divsi v1 c1024_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c7_i32 : BitVec 32 := 7#32
  let v20 : BitVec 32 := Scalar.addi c7_i32 arg1
  let c0_i32_4 : BitVec 32 := 0#32
  ![v19.toNat, v20.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16384_i32 : BitVec 32 := 16384#32
  let v0 : BitVec 32 := Scalar.muli arg0 c16384_i32
  let c32768_i32 : BitVec 32 := 32768#32
  let v1 : BitVec 32 := Scalar.addi c32768_i32 v0
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg3
  let c36_i32 : BitVec 32 := 36#32
  let v20 : BitVec 32 := Scalar.addi c36_i32 arg1
  let c0_i32_4 : BitVec 32 := 0#32
  ![v19.toNat, v20.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16384_i32 : BitVec 32 := 16384#32
  let v0 : BitVec 32 := Scalar.muli arg0 c16384_i32
  let c32768_i32 : BitVec 32 := 32768#32
  let v1 : BitVec 32 := Scalar.addi c32768_i32 v0
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg3
  let c38_i32 : BitVec 32 := 38#32
  let v20 : BitVec 32 := Scalar.addi c38_i32 arg1
  let c0_i32_4 : BitVec 32 := 0#32
  ![v19.toNat, v20.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16384_i32 : BitVec 32 := 16384#32
  let v0 : BitVec 32 := Scalar.muli arg0 c16384_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v17 arg2
  let c0_i32_4 : BitVec 32 := 0#32
  ![v18.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference5Ideal.lean ====
abbrev S65536x5120 : Shape := ⟨2, ![65536, 5120]⟩
abbrev S32768x5120 : Shape := ⟨2, ![32768, 5120]⟩
abbrev S32768x1024 : Shape := ⟨2, ![32768, 1024]⟩
abbrev S2x16384x2x4x128 : Shape := ⟨5, ![2, 16384, 2, 4, 128]⟩
abbrev S32768x256 : Shape := ⟨2, ![32768, 256]⟩
abbrev S2x16384x2x128 : Shape := ⟨4, ![2, 16384, 2, 128]⟩
abbrev S_ : Shape := ⟨0, ![]⟩
abbrev S2x2x16384x16384x4 : Shape := ⟨5, ![2, 2, 16384, 16384, 4]⟩
abbrev S2x2x4x16384x16384 : Shape := ⟨5, ![2, 2, 4, 16384, 16384]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩

abbrev nBuf : Space → Nat
  | .hbm => 33
  | .vmem => 0
  | .smem => 0
  | _ => 0

abbrev bufTy : (tb : Table) → Fin (tcTables nBuf tb) → BufTy
  | .hbm, ⟨0, _⟩ => ⟨S65536x5120, .bf16⟩
  | .hbm, ⟨1, _⟩ => ⟨S32768x5120, .bf16⟩
  | .hbm, ⟨2, _⟩ => ⟨S32768x5120, .f32⟩
  | .hbm, ⟨3, _⟩ => ⟨S32768x1024, .f32⟩
  | .hbm, ⟨4, _⟩ => ⟨S2x16384x2x4x128, .f32⟩
  | .hbm, ⟨5, _⟩ => ⟨S32768x256, .f32⟩
  | .hbm, ⟨6, _⟩ => ⟨S2x16384x2x128, .f32⟩
  | .hbm, ⟨7, _⟩ => ⟨S32768x256, .f32⟩
  | .hbm, ⟨8, _⟩ => ⟨S2x16384x2x128, .f32⟩
  | .hbm, ⟨9, _⟩ => ⟨S_, .f32⟩
  | .hbm, ⟨10, _⟩ => ⟨S_, .f32⟩
  | .hbm, ⟨11, _⟩ => ⟨S2x16384x2x4x128, .f32⟩
  | .hbm, ⟨12, _⟩ => ⟨S2x16384x2x4x128, .f32⟩
  | .hbm, ⟨13, _⟩ => ⟨S2x2x16384x16384x4, .f32⟩
  | .hbm, ⟨14, _⟩ => ⟨S2x2x4x16384x16384, .f32⟩
  | .hbm, ⟨15, _⟩ => ⟨S_, .f32⟩
  | .hbm, ⟨16, _⟩ => ⟨S2x2x4x16384, .f32⟩
  | .hbm, ⟨17, _⟩ => ⟨S_, .f32⟩
  | .hbm, ⟨18, _⟩ => ⟨S2x2x4x16384, .f32⟩
  | .hbm, ⟨19, _⟩ => ⟨S2x2x4x16384, .f32⟩
  | .hbm, ⟨20, _⟩ => ⟨S2x2x4x16384x1, .f32⟩
  | .hbm, ⟨21, _⟩ => ⟨S2x2x4x16384x16384, .f32⟩
  | .hbm, ⟨22, _⟩ => ⟨S2x2x4x16384x16384, .f32⟩
  | .hbm, ⟨23, _⟩ => ⟨S2x2x4x16384x16384, .f32⟩
  | .hbm, ⟨24, _⟩ => ⟨S_, .f32⟩
  | .hbm, ⟨25, _⟩ => ⟨S2x2x4x16384, .f32⟩
  | .hbm, ⟨26, _⟩ => ⟨S2x2x4x16384x1, .f32⟩
  | .hbm, ⟨27, _⟩ => ⟨S2x2x4x16384x16384, .f32⟩
  | .hbm, ⟨28, _⟩ => ⟨S2x2x4x16384x16384, .f32⟩
  | .hbm, ⟨29, _⟩ => ⟨S2x2x128x4x16384, .f32⟩
  | .hbm, ⟨30, _⟩ => ⟨S2x16384x2x4x128, .f32⟩
  | .hbm, ⟨31, _⟩ => ⟨S32768x1024, .f32⟩
  | .hbm, ⟨32, _⟩ => ⟨S32768x1024, .bf16⟩
  | _, _ => ⟨S65536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Proof.Softmax.lean ====
/- Softmax attention of one query row over extended reals: the scores arrive in base-2 units in blocks of 4096,
   and a running maximum with a rescaled partial sum gives the same row as the softmax taken over all scores at once. -/
module

public import Idealize.ShloMosaic.PureOps
public import Idealize.ShloMosaic.Lib.Pointwise

@[expose] public section

noncomputable section

namespace Cert.Softmax

open Idealize.ShloMosaic

/-- A nonnegative real factor moves into a finite sum of extended reals. -/
theorem mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of reals, read as an extended real, is the sum of the terms so read. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many extended reals, taken from `⊥`. -/
abbrev top {n : ℕ} (f : Fin n → EReal) : EReal := Finset.univ.fold max ⊥ f

theorem top_le {n : ℕ} (f : Fin n → EReal) (c : EReal) : top f ≤ c ↔ ∀ i, f i ≤ c := by
  simp [top, Finset.fold_max_le]

theorem le_top {n : ℕ} (f : Fin n → EReal) (i : Fin n) : f i ≤ top f := (top_le f _).1 le_rfl i

/-- The greatest of a nonempty family of reals is a real. -/
theorem top_real {n : ℕ} (hn : 0 < n) (s : Fin n → ℝ) :
    ∃ r : ℝ, top (fun j => (s j : EReal)) = r := by
  have h1 : top (fun j => (s j : EReal)) ≠ ⊥ := fun h => by
    have := le_top (fun j => (s j : EReal)) ⟨0, hn⟩
    rw [h] at this
    exact EReal.coe_ne_bot _ (le_bot_iff.1 this)
  have h2 : top (fun j => (s j : EReal)) ≠ ⊤ := fun h => by
    have hub : top (fun j => (s j : EReal)) ≤ ((∑ j, |s j| : ℝ) : EReal) := (top_le _ _).2 fun i =>
      EReal.coe_le_coe_iff.2 ((le_abs_self _).trans
        (Finset.single_le_sum (f := fun j => |s j|) (fun j _ => abs_nonneg _) (Finset.mem_univ i)))
    rw [h] at hub
    exact EReal.coe_ne_top _ (top_le_iff.1 hub)
  exact ⟨_, (EReal.coe_toReal h2 h1).symm⟩

/-- Position `j` of block `i`, among all positions. -/
abbrev key {n : ℕ} (i : Fin n) (j : Fin 4096) : Fin (n * 4096) := finProdFinEquiv (i, j)

theorem key_val {n : ℕ} (i : Fin n) (j : Fin 4096) : (key i j).val = j.val + 4096 * i.val := rfl

/-- A sum over all positions is the sum of the blocks' sums. -/
theorem sum_blocks {n : ℕ} (f : Fin (n * 4096) → EReal) : ∑ k, f k = ∑ i : Fin n, ∑ j, f (key i j) := by
  rw [← Fintype.sum_prod_type' fun i j => f (key i j)]
  exact (Equiv.sum_comp finProdFinEquiv f).symm

/-- One step of the running sum: the old partial sum rescaled from the old maximum `m` to the new one `m'`, plus the
    new block's terms. -/
def step (m m' acc : EReal) (s v : Fin 4096 → EReal) : EReal :=
  Ideal.exp2 (m - m') * acc + ∑ j, Ideal.exp2 (s j - m') * v j

/-- The maximum after the blocks of a list, from the maximum `m` before them. -/
def runMax (m : EReal) : List ((Fin 4096 → EReal) × (Fin 4096 → EReal)) → EReal
  | [] => m
  | b :: l => runMax (max m (top b.1)) l

/-- The running sum after the blocks of a list, from the maximum `m` and the sum `acc` before them. -/
def run (m acc : EReal) : List ((Fin 4096 → EReal) × (Fin 4096 → EReal)) → EReal
  | [] => acc
  | b :: l => run (max m (top b.1)) (step m (max m (top b.1)) acc b.1 b.2) l

theorem runMax_cons (m : EReal) (b : (Fin 4096 → EReal) × (Fin 4096 → EReal)) (l : List ((Fin 4096 → EReal) × (Fin 4096 → EReal))) :
    runMax m (b :: l) = runMax (max m (top b.1)) l := rfl

theorem run_cons (m acc : EReal) (b : (Fin 4096 → EReal) × (Fin 4096 → EReal)) (l : List ((Fin 4096 → EReal) × (Fin 4096 → EReal))) :
    run m acc (b :: l) = run (max m (top b.1)) (step m (max m (top b.1)) acc b.1 b.2) l := rfl

/-- The scores and values of all positions, as a list of blocks. -/
def blocks (n : ℕ) (s v : Fin (n * 4096) → EReal) : List ((Fin 4096 → EReal) × (Fin 4096 → EReal)) :=
  List.ofFn fun i => (fun j => s (key i j), fun j => v (key i j))

/-- The running sum of the values `v` under scores `s`, over all blocks. -/
def online (n : ℕ) (s v : Fin (n * 4096) → EReal) : EReal := run ⊥ 0 (blocks n s v)

/-- The running maximum is the least bound of what it started from and of every score. -/
theorem runMax_le (l : List ((Fin 4096 → EReal) × (Fin 4096 → EReal))) (m c : EReal) :
    runMax m l ≤ c ↔ m ≤ c ∧ ∀ b ∈ l, ∀ j, b.1 j ≤ c := by
  induction l generalizing m with
  | nil => simp [runMax]
  | cons b l ih => rw [runMax, ih, max_le_iff, top_le]; simp [and_assoc]

/-- The running maximum over all blocks is the greatest score. -/
theorem runMax_blocks (n : ℕ) (s v : Fin (n * 4096) → EReal) : runMax ⊥ (blocks n s v) = top s := by
  refine eq_of_forall_ge_iff fun c => ?_
  rw [runMax_le, top_le]
  simp only [bot_le, true_and, blocks, List.forall_mem_ofFn_iff]
  refine ⟨fun h k => ?_, fun h i j => h _⟩
  obtain ⟨⟨i, j⟩, rfl⟩ := finProdFinEquiv.surjective k
  exact h i j

/-- A power of two, not negative. -/
theorem pow_nonneg' (x : ℝ) : 0 ≤ Real.rpow 2 x := Real.rpow_nonneg (by norm_num) x

/-- Rescaling from one maximum to another. -/
theorem rescale (a b c : ℝ) (v : EReal) :
    ((Real.rpow 2 (b - c) : ℝ) : EReal) * (((Real.rpow 2 (a - b) : ℝ) : EReal) * v) = ((Real.rpow 2 (a - c) : ℝ) : EReal) * v := by
  rw [← mul_assoc, ← EReal.coe_mul]
  refine congrArg (fun x : ℝ => (x : EReal) * v) ?_
  show (2 : ℝ) ^ (b - c) * (2 : ℝ) ^ (a - b) = (2 : ℝ) ^ (a - c)
  rw [← Real.rpow_add (by norm_num)]
  exact congrArg (fun y : ℝ => (2 : ℝ) ^ y) (by ring)

/-- A block of finite scores and its values. -/
abbrev block (b : (Fin 4096 → ℝ) × (Fin 4096 → EReal)) : (Fin 4096 → EReal) × (Fin 4096 → EReal) :=
  (fun j => (b.1 j : EReal), b.2)

/-- With finite scores, the running sum from a finite maximum is the sum before, rescaled, plus every block's values
    times powers of two with the last maximum taken off. -/
theorem run_eq (l : List ((Fin 4096 → ℝ) × (Fin 4096 → EReal))) (m M : ℝ) (acc : EReal)
    (hM : runMax m (l.map block) = M) :
    run m acc (l.map block) = ((Real.rpow 2 (m - M) : ℝ) : EReal) * acc
      + (l.map fun b => ∑ j, ((Real.rpow 2 (b.1 j - M) : ℝ) : EReal) * b.2 j).sum := by
  induction l generalizing m acc with
  | nil =>
    obtain rfl : m = M := EReal.coe_injective hM
    show acc = ((Real.rpow 2 (m - m) : ℝ) : EReal) * acc + 0
    have e : Real.rpow 2 (m - m) = 1 := by rw [sub_self]; exact Real.rpow_zero 2
    rw [e, EReal.coe_one, one_mul, add_zero]
  | cons b l ih =>
    obtain ⟨B, hB⟩ := top_real (by norm_num) b.1
    have e : max (m : EReal) (top fun j => (b.1 j : EReal)) = ((max m B : ℝ) : EReal) := by rw [hB]; exact ((EReal.coe_strictMono.monotone).map_max).symm
    rw [List.map_cons, runMax_cons] at hM
    rw [List.map_cons, run_cons]
    dsimp only [block] at hM ⊢
    rw [e] at hM ⊢
    rw [ih _ _ hM]
    unfold step
    simp only [← EReal.coe_sub, Ideal.exp2_coe]
    rw [EReal.left_distrib_of_nonneg_of_ne_top (by exact_mod_cast pow_nonneg' _) (EReal.coe_ne_top _),
      mul_sum _ (pow_nonneg' _), rescale]
    simp only [rescale]
    rw [List.map_cons, List.sum_cons, add_assoc]

/-- With finite scores, the running sum over all blocks is one sum of powers of two with the overall maximum taken off. -/
theorem online_eq (n : ℕ) (s : Fin ((n + 1) * 4096) → ℝ) (v : Fin ((n + 1) * 4096) → EReal) (M : ℝ)
    (hM : top (fun j => (s j : EReal)) = M) :
    online (n + 1) (fun j => (s j : EReal)) v = ∑ j, ((Real.rpow 2 (s j - M) : ℝ) : EReal) * v j := by
  let b : Fin (n + 1) → (Fin 4096 → ℝ) × (Fin 4096 → EReal) := fun i => (fun j => s (key i j), fun j => v (key i j))
  have hb : blocks (n + 1) (fun j => (s j : EReal)) v = block (b 0) :: (List.ofFn fun i : Fin n => b i.succ).map block := by
    rw [List.map_ofFn]
    exact List.ofFn_succ
  obtain ⟨B, hB⟩ := top_real (by norm_num) (b 0).1
  have e : max ⊥ (top fun j => ((b 0).1 j : EReal)) = (B : EReal) := (max_eq_right bot_le).trans hB
  have hM' := (runMax_blocks (n + 1) (fun j => (s j : EReal)) v).trans hM
  unfold online
  rw [hb] at hM' ⊢
  rw [runMax_cons] at hM'
  rw [run_cons]
  dsimp only [block] at hM' ⊢
  rw [e] at hM' ⊢
  rw [run_eq _ _ _ _ hM']
  unfold step
  refine Eq.trans ?_ ((sum_blocks _).trans (Fin.sum_univ_succ _)).symm
  rw [mul_zero, zero_add, List.map_ofFn, List.sum_ofFn]
  simp only [← EReal.coe_sub, Ideal.exp2_coe]
  rw [mul_sum _ (pow_nonneg' _)]
  simp only [rescale]
  rfl

/-- The softmax row: each value weighted by its exponential over the sum of the exponentials, the scores' maximum taken
    off first. -/
def softmax {T : ℕ} (s v : Fin T → EReal) : EReal :=
  ∑ k, v k * Ideal.div (Ideal.exp (s k - max ⊥ (top s))) (0 + ∑ j, Ideal.exp (s j - max ⊥ (top s)))

/-- With finite scores in base-2 units, the quotient of the two running sums is the softmax row of the scores times the
    logarithm of two. -/
theorem online_softmax (n : ℕ) (s : Fin ((n + 1) * 4096) → ℝ) (v : Fin ((n + 1) * 4096) → EReal) :
    Ideal.div (online (n + 1) (fun j => (s j : EReal)) v) (online (n + 1) (fun j => (s j : EReal)) fun _ => 1)
      = softmax (fun j => ((s j * Real.log 2 : ℝ) : EReal)) v := by
  obtain ⟨M', hM⟩ := top_real (by omega) s
  have hv := online_eq n s v M' hM
  have h1 := online_eq n s (fun _ => 1) M' hM
  have hlog : 0 < Real.log 2 := Real.log_pos (by norm_num)
  have htop : top (fun j => ((s j * Real.log 2 : ℝ) : EReal)) = ((M' * Real.log 2 : ℝ) : EReal) := by
    refine le_antisymm ((top_le _ _).2 fun i => EReal.coe_le_coe_iff.2
      (mul_le_mul_of_nonneg_right (EReal.coe_le_coe_iff.1 (hM ▸ le_top (fun j => (s j : EReal)) i)) hlog.le)) ?_
    obtain ⟨N, hN⟩ := top_real (by omega) (fun j => s j * Real.log 2)
    rw [hN]
    refine EReal.coe_le_coe_iff.2 ?_
    rw [← le_div_iff₀ hlog]
    refine EReal.coe_le_coe_iff.1 (hM ▸ (top_le _ _).2 fun i => EReal.coe_le_coe_iff.2 ?_)
    rw [le_div_iff₀ hlog]
    have h := le_top (fun j => ((s j * Real.log 2 : ℝ) : EReal)) i
    rw [hN] at h
    exact EReal.coe_le_coe_iff.1 h
  have he : ∀ j, Real.exp (s j * Real.log 2 - M' * Real.log 2) = Real.rpow 2 (s j - M') := fun j => by
    show _ = (2 : ℝ) ^ (s j - M')
    rw [Real.rpow_def_of_pos (by norm_num)]; exact congrArg Real.exp (by ring)
  rw [hv, h1]
  unfold softmax
  rw [htop, max_eq_right bot_le, zero_add]
  simp only [← EReal.coe_sub, Ideal.exp_coe, he, mul_one, ← coe_sum]
  have hZ : (∑ j, Real.rpow 2 (s j - M')) ≠ 0 := ne_of_gt
    (Finset.sum_pos (fun j _ => Real.rpow_pos_of_pos (by norm_num) _) ⟨⟨0, by omega⟩, Finset.mem_univ _⟩)
  simp only [Ideal.div_coe hZ]
  rw [mul_comm, mul_sum _ (by
    exact one_div_nonneg.2 (Finset.sum_nonneg fun j _ => Real.rpow_nonneg (by norm_num) _))]
  refine Finset.sum_congr rfl fun j _ => ?_
  rw [mul_comm, mul_assoc, mul_left_comm]

end Cert.Softmax

end
-- ==== Proof.Heads.lean ====
/- One head of the attention kernel at a grid point: the new running maximum and the new running sums, as functions of
   the query block, the key block, the values and what the scratches held. -/
module

public import proofs.«01_k».proof.Proof.Gen.KernelIdeal.Skeleton
public import proofs.«01_k».proof.Proof.Softmax
public import Idealize.ShloMosaic.Lib.Pointwise

@[expose] public section

set_option maxRecDepth 16384

noncomputable section

open Idealize.ShloMosaic

namespace Cert.KernelIdeal.Attn

open Cert.KernelIdeal Cert.KernelIdeal.Gen

section Names
variable {F : FTy → Type} [FloatOps F]

/-- A head's new running sums. -/
def headAcc (k : Vec F S4096x128 .bf16) (va : Vec F S4096x256 .bf16) (q : Vec F S1024x128 .bf16)
    (mx : Vec F S1x1024x128 .f32) (acc : Vec F S1x1024x256 .f32) : FVec F S1x1024x256 .f32 :=
  k0_pay14 va (k0_pay12 k q mx) (k0_pay13 k q mx) acc

/-- A head's new running maximum. -/
def headMax (k : Vec F S4096x128 .bf16) (q : Vec F S1024x128 .bf16) (mx : Vec F S1x1024x128 .f32) :
    FVec F S1x1024x128 .f32 := k0_pay15 (k0_pay11 k q mx)

variable (k : Vec F S4096x128 .bf16) (va : Vec F S4096x256 .bf16) (q : Vec F S1024x128 .bf16)
  (mx : Vec F S1x1024x128 .f32) (acc : Vec F S1x1024x256 .f32)

/-- The first head's sums. -/
theorem acc_head0 : k0_pay14 va (k0_pay12 k q mx) (k0_pay13 k q mx) acc = headAcc k va q mx acc := rfl
/-- The first head's maximum. -/
theorem max_head0 : k0_pay15 (k0_pay11 k q mx) = headMax k q mx := rfl
/-- The second head's sums are the same function. -/
theorem acc_head1 : k0_pay19 va (k0_pay16 k q) (k0_pay17 mx) (k0_pay18 k q mx) acc = headAcc k va q mx acc := rfl
/-- The third head's sums are the same function. -/
theorem acc_head2 : k0_pay24 va (k0_pay21 k q) mx acc = headAcc k va q mx acc := rfl
/-- The fourth head's sums are the same function. -/
theorem acc_head3 : k0_pay31 k va q (k0_pay26 k q) (k0_pay27 q) (constant S256x4096 .f32 0#32) mx acc
    = headAcc k va q mx acc := rfl
/-- The second head's maximum is the same function. -/
theorem max_head1 : k0_pay20 (k0_pay18 k q mx) = headMax k q mx := rfl
/-- The third head's maximum is the same function. -/
theorem max_head2 : k0_pay25 (k0_pay21 k q) mx = headMax k q mx := rfl
/-- The fourth head's maximum is the same function. -/
theorem max_head3 : k0_pay32 k q (k0_pay26 k q) (k0_pay27 q) (constant S256x4096 .f32 0#32) mx = headMax k q mx := rfl

end Names

variable (k : Vec Ideal S4096x128 .bf16) (va : Vec Ideal S4096x256 .bf16) (q : Vec Ideal S1024x128 .bf16)
  (mx : Vec Ideal S1x1024x128 .f32) (acc : Vec Ideal S1x1024x256 .f32)

/-- The score of query `r` against key `j` of a block. -/
def score (r : Fin 1024) (j : Fin 4096) : EReal := ∑ d : Fin 128, q (ix2 r d) * k (ix2 j d)

/-- The four chunks of scores, laid end to end, are the scores. -/
theorem pay9_apply (r : Fin 1024) (j : Fin 4096) : k0_pay9 k q (ix2 r j) = score k q r j := by
  unfold score
  pointwise [k0_pay9]
  have hr := r.isLt
  split_ifs <;> refine Finset.sum_congr rfl fun d _ => ?_ <;> congr 3 <;> apply Fin.ext <;> dsimp only <;> omega

/-- The new maximum of a query's row. -/
def rowMax (r : Fin 1024) : EReal := max (mx (ix3 0 r 0)) (Softmax.top fun j => score k q r j)

/-- The word of minus infinity. -/
theorem neg_inf : Ideal.ofBits .f32 0xFF800000#32 = ⊥ := by
  simp [Ideal.ofBits, Ideal.ieee]

/-- The row maxima of a block of scores. -/
def maxOf (x : FVec Ideal S1024x4096 .f32) : FVec Ideal S1024 .f32 :=
  multiReduction .maximumf [1] S1024 x 0xFF800000#32 reduces_S1024x4096_S1024 (.inl rfl) rfl

/-- A row maximum is the fold of `max` from minus infinity. -/
theorem maxOf_apply (x : FVec Ideal S1024x4096 .f32) (r : Fin 1024) :
    maxOf x (ix1 r) = Softmax.top fun j => x (ix2 r j) := by
  unfold maxOf
  refine (multiReduction_maximumf_eq_fold x 0xFF800000#32 reduces_S1024x4096_S1024 (.inl rfl) rfl (ix1 r)).trans ?_
  refine (Shape.Reduces.fold_fiber_r2_a1 reduces_S1024x4096_S1024 (ix1 r) _ _ x).trans ?_
  exact congrArg (fun b : EReal => Finset.univ.fold max b fun j : Fin 4096 => x (ix2 r j)) neg_inf

/-- The new maxima, with the row maxima named. -/
theorem pay11_eq : k0_pay11 k q mx
    = maximumf (k0_pay10 mx) (shapeCast S1024x1 (maxOf (k0_pay9 k q)) shapeCasts_S1024_S1024x1) := rfl

/-- The new maximum of a row. -/
theorem pay11_apply (r : Fin 1024) : k0_pay11 k q mx (ix2 r 0) = rowMax k q mx r := by
  rw [pay11_eq]
  unfold rowMax
  simp only [← pay9_apply]
  generalize k0_pay9 k q = x
  rw [← maxOf_apply]
  generalize maxOf x = y
  pointwise [k0_pay10]

/-- The new maxima stored for a head: the row's maximum in every column. -/
theorem headMax_apply (r : Fin 1024) (c : Fin 128) : headMax k q mx (ix3 0 r c) = rowMax k q mx r := by
  unfold headMax
  rw [← pay11_apply]
  generalize k0_pay11 k q mx = x
  pointwise [k0_pay15]

/-- The weight of key `j` in the row. -/
theorem pay13_apply (r : Fin 1024) (j : Fin 4096) :
    k0_pay13 k q mx (ix2 r j) = Ideal.exp2 (score k q r j - rowMax k q mx r) := by
  unfold k0_pay13
  rw [← pay11_apply, ← pay9_apply]
  generalize k0_pay11 k q mx = x
  generalize k0_pay9 k q = y
  pointwise
  rfl

/-- The factor that rescales the row's old sums. -/
theorem pay12_apply (r : Fin 1024) :
    k0_pay12 k q mx (ix2 r 0) = Ideal.exp2 (mx (ix3 0 r 0) - rowMax k q mx r) := by
  unfold k0_pay12
  rw [← pay11_apply]
  generalize k0_pay11 k q mx = x
  pointwise [k0_pay10]
  rfl

/-- The new sums from a factor and weights. -/
theorem pay14_apply (f : FVec Ideal S1024x1 .f32) (w : FVec Ideal S1024x4096 .bf16) (r : Fin 1024) (c : Fin 256) :
    k0_pay14 va f w acc (ix3 0 r c)
      = f (ix2 r 0) * acc (ix3 0 r c) + ∑ j : Fin 4096, w (ix2 r j) * va (ix2 j c) := by
  pointwise [k0_pay14]
  have hr := r.isLt
  split_ifs <;> refine congrArg _ (Finset.sum_congr rfl fun d _ => ?_) <;> congr 3 <;> apply Fin.ext <;> dsimp only <;> omega

/-- The new sums stored for a head: one step of the running sum in every column. -/
theorem headAcc_apply (r : Fin 1024) (c : Fin 256) :
    headAcc k va q mx acc (ix3 0 r c)
      = Softmax.step (mx (ix3 0 r 0)) (rowMax k q mx r) (acc (ix3 0 r c)) (score k q r) fun j => va (ix2 j c) := by
  unfold headAcc Softmax.step
  rw [pay14_apply, pay12_apply]
  simp only [pay13_apply]

end Cert.KernelIdeal.Attn

end
-- ==== Proof.Slabs.lean ====
/- How the slabs and column blocks that the attention kernel stores at one grid point are read back at an index. -/
module

public import proofs.«01_k».proof.Proof.Heads
public import proofs.«01_k».proof.Proof.Gen.KernelIdeal.Value
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384

noncomputable section

open Idealize.ShloMosaic

namespace Cert.KernelIdeal.Attn

open Cert.KernelIdeal Cert.KernelIdeal.Gen

/-- Four slabs stored one above the other, over anything stored before, are read back slab by slab. -/
theorem slabs128 (w0 w1 w2 w3 : Vec Ideal S1x1024x128 .f32) (L : List (View.Piece (Elt Ideal) S4x1024x128 .f32)) (y : S4x1024x128.Idx) :
    View.canon (⟨Rect.unit ![3, 0, 0] ![1, 1024, 128] inb_S4x1024x128_S1x1024x128_3_0_0, w3⟩
      :: ⟨Rect.unit ![2, 0, 0] ![1, 1024, 128] inb_S4x1024x128_S1x1024x128_2_0_0, w2⟩
      :: ⟨Rect.unit ![1, 0, 0] ![1, 1024, 128] inb_S4x1024x128_S1x1024x128_1_0_0, w1⟩
      :: ⟨Rect.unit ![0, 0, 0] ![1, 1024, 128] inb_S4x1024x128_S1x1024x128_0_0_0, w0⟩ :: L) y
    = (![w0, w1, w2, w3] (y 0 : Fin 4)) (ix3 0 (y 1) (y 2)) := by
  refine View.canon_append_of_piecesOf (fun y => (![w0, w1, w2, w3] (y 0 : Fin 4)) (ix3 0 (y 1) (y 2))) L
    [⟨Rect.unit ![3, 0, 0] ![1, 1024, 128] inb_S4x1024x128_S1x1024x128_3_0_0, w3⟩,
      ⟨Rect.unit ![2, 0, 0] ![1, 1024, 128] inb_S4x1024x128_S1x1024x128_2_0_0, w2⟩,
      ⟨Rect.unit ![1, 0, 0] ![1, 1024, 128] inb_S4x1024x128_S1x1024x128_1_0_0, w1⟩,
      ⟨Rect.unit ![0, 0, 0] ![1, 1024, 128] inb_S4x1024x128_S1x1024x128_0_0_0, w0⟩] ⟨?_, ?_, ?_, ?_, trivial⟩ y ?_
  case refine_5 =>
    simp only [List.mem_cons, List.not_mem_nil, or_false, exists_eq_or_imp, exists_eq_left, Rect.mem_set_unit]
    have h0 : (y 0).val < 4 := (y 0).isLt
    have h1 : (y 1).val < 1024 := (y 1).isLt
    have h2 : (y 2).val < 128 := (y 2).isLt
    have e : (y 0).val = 3 ∨ (y 0).val = 2 ∨ (y 0).val = 1 ∨ (y 0).val = 0 := by omega
    rcases e with e | e | e | e
    · exact .inl fun a => by fin_cases a <;> simp <;> omega
    · exact .inr (.inl fun a => by fin_cases a <;> simp <;> omega)
    · exact .inr (.inr (.inl fun a => by fin_cases a <;> simp <;> omega))
    · exact .inr (.inr (.inr fun a => by fin_cases a <;> simp <;> omega))
  case refine_1 =>
    intro x
    have h0 : (x 0).val < 1 := (x 0).isLt
    have e0 : @Eq (Fin 4) ((Rect.unit (s := S4x1024x128) ![3, 0, 0] ![1, 1024, 128] inb_S4x1024x128_S1x1024x128_3_0_0).emb x 0) 3 :=
      Fin.ext ((Rect.idx_unit_val _ _ _ x 0).trans (by show 3 + (x 0).val = 3; omega))
    dsimp only
    rw [e0]
    refine congrArg w3 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm
  case refine_2 =>
    intro x
    have h0 : (x 0).val < 1 := (x 0).isLt
    have e0 : @Eq (Fin 4) ((Rect.unit (s := S4x1024x128) ![2, 0, 0] ![1, 1024, 128] inb_S4x1024x128_S1x1024x128_2_0_0).emb x 0) 2 :=
      Fin.ext ((Rect.idx_unit_val _ _ _ x 0).trans (by show 2 + (x 0).val = 2; omega))
    dsimp only
    rw [e0]
    refine congrArg w2 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm
  case refine_3 =>
    intro x
    have h0 : (x 0).val < 1 := (x 0).isLt
    have e0 : @Eq (Fin 4) ((Rect.unit (s := S4x1024x128) ![1, 0, 0] ![1, 1024, 128] inb_S4x1024x128_S1x1024x128_1_0_0).emb x 0) 1 :=
      Fin.ext ((Rect.idx_unit_val _ _ _ x 0).trans (by show 1 + (x 0).val = 1; omega))
    dsimp only
    rw [e0]
    refine congrArg w1 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm
  case refine_4 =>
    intro x
    have h0 : (x 0).val < 1 := (x 0).isLt
    have e0 : @Eq (Fin 4) ((Rect.unit (s := S4x1024x128) ![0, 0, 0] ![1, 1024, 128] inb_S4x1024x128_S1x1024x128_0_0_0).emb x 0) 0 :=
      Fin.ext ((Rect.idx_unit_val _ _ _ x 0).trans (by show 0 + (x 0).val = 0; omega))
    dsimp only
    rw [e0]
    refine congrArg w0 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm

/-- Four slabs stored one above the other, over anything stored before, are read back slab by slab. -/
theorem slabs256 (w0 w1 w2 w3 : Vec Ideal S1x1024x256 .f32) (L : List (View.Piece (Elt Ideal) S4x1024x256 .f32)) (y : S4x1024x256.Idx) :
    View.canon (⟨Rect.unit ![3, 0, 0] ![1, 1024, 256] inb_S4x1024x256_S1x1024x256_3_0_0, w3⟩
      :: ⟨Rect.unit ![2, 0, 0] ![1, 1024, 256] inb_S4x1024x256_S1x1024x256_2_0_0, w2⟩
      :: ⟨Rect.unit ![1, 0, 0] ![1, 1024, 256] inb_S4x1024x256_S1x1024x256_1_0_0, w1⟩
      :: ⟨Rect.unit ![0, 0, 0] ![1, 1024, 256] inb_S4x1024x256_S1x1024x256_0_0_0, w0⟩ :: L) y
    = (![w0, w1, w2, w3] (y 0 : Fin 4)) (ix3 0 (y 1) (y 2)) := by
  refine View.canon_append_of_piecesOf (fun y => (![w0, w1, w2, w3] (y 0 : Fin 4)) (ix3 0 (y 1) (y 2))) L
    [⟨Rect.unit ![3, 0, 0] ![1, 1024, 256] inb_S4x1024x256_S1x1024x256_3_0_0, w3⟩,
      ⟨Rect.unit ![2, 0, 0] ![1, 1024, 256] inb_S4x1024x256_S1x1024x256_2_0_0, w2⟩,
      ⟨Rect.unit ![1, 0, 0] ![1, 1024, 256] inb_S4x1024x256_S1x1024x256_1_0_0, w1⟩,
      ⟨Rect.unit ![0, 0, 0] ![1, 1024, 256] inb_S4x1024x256_S1x1024x256_0_0_0, w0⟩] ⟨?_, ?_, ?_, ?_, trivial⟩ y ?_
  case refine_5 =>
    simp only [List.mem_cons, List.not_mem_nil, or_false, exists_eq_or_imp, exists_eq_left, Rect.mem_set_unit]
    have h0 : (y 0).val < 4 := (y 0).isLt
    have h1 : (y 1).val < 1024 := (y 1).isLt
    have h2 : (y 2).val < 256 := (y 2).isLt
    have e : (y 0).val = 3 ∨ (y 0).val = 2 ∨ (y 0).val = 1 ∨ (y 0).val = 0 := by omega
    rcases e with e | e | e | e
    · exact .inl fun a => by fin_cases a <;> simp <;> omega
    · exact .inr (.inl fun a => by fin_cases a <;> simp <;> omega)
    · exact .inr (.inr (.inl fun a => by fin_cases a <;> simp <;> omega))
    · exact .inr (.inr (.inr fun a => by fin_cases a <;> simp <;> omega))
  case refine_1 =>
    intro x
    have h0 : (x 0).val < 1 := (x 0).isLt
    have e0 : @Eq (Fin 4) ((Rect.unit (s := S4x1024x256) ![3, 0, 0] ![1, 1024, 256] inb_S4x1024x256_S1x1024x256_3_0_0).emb x 0) 3 :=
      Fin.ext ((Rect.idx_unit_val _ _ _ x 0).trans (by show 3 + (x 0).val = 3; omega))
    dsimp only
    rw [e0]
    refine congrArg w3 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm
  case refine_2 =>
    intro x
    have h0 : (x 0).val < 1 := (x 0).isLt
    have e0 : @Eq (Fin 4) ((Rect.unit (s := S4x1024x256) ![2, 0, 0] ![1, 1024, 256] inb_S4x1024x256_S1x1024x256_2_0_0).emb x 0) 2 :=
      Fin.ext ((Rect.idx_unit_val _ _ _ x 0).trans (by show 2 + (x 0).val = 2; omega))
    dsimp only
    rw [e0]
    refine congrArg w2 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm
  case refine_3 =>
    intro x
    have h0 : (x 0).val < 1 := (x 0).isLt
    have e0 : @Eq (Fin 4) ((Rect.unit (s := S4x1024x256) ![1, 0, 0] ![1, 1024, 256] inb_S4x1024x256_S1x1024x256_1_0_0).emb x 0) 1 :=
      Fin.ext ((Rect.idx_unit_val _ _ _ x 0).trans (by show 1 + (x 0).val = 1; omega))
    dsimp only
    rw [e0]
    refine congrArg w1 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm
  case refine_4 =>
    intro x
    have h0 : (x 0).val < 1 := (x 0).isLt
    have e0 : @Eq (Fin 4) ((Rect.unit (s := S4x1024x256) ![0, 0, 0] ![1, 1024, 256] inb_S4x1024x256_S1x1024x256_0_0_0).emb x 0) 0 :=
      Fin.ext ((Rect.idx_unit_val _ _ _ x 0).trans (by show 0 + (x 0).val = 0; omega))
    dsimp only
    rw [e0]
    refine congrArg w0 (funext fun a => Fin.ext ?_)
    match a with
    | ⟨0, _⟩ => show (x 0).val = 0; omega
    | ⟨1, _⟩ => exact ((Rect.idx_unit_val _ _ _ x 1).trans (by simp)).symm
    | ⟨2, _⟩ => exact ((Rect.idx_unit_val _ _ _ x 2).trans (by simp)).symm

/-- A column of an output block lies in one of four heads. -/
theorem colHead (c : Fin 512) : c.val / 128 < 4 := by omega

/-- Four column blocks stored side by side are read back block by block. -/
theorem columns (w0 w1 w2 w3 : Vec Ideal S1024x128 .bf16) (y : S1024x512.Idx) :
    View.canon [⟨Rect.unit ![0, 384] ![1024, 128] inb_S1024x512_S1024x128_0_384, w3⟩, ⟨Rect.unit ![0, 256] ![1024, 128] inb_S1024x512_S1024x128_0_256, w2⟩,
      ⟨Rect.unit ![0, 128] ![1024, 128] inb_S1024x512_S1024x128_0_128, w1⟩, ⟨Rect.unit ![0, 0] ![1024, 128] inb_S1024x512_S1024x128_0_0, w0⟩] y
    = (![w0, w1, w2, w3] (⟨(y 1).val / 128, colHead (y 1)⟩ : Fin 4)) (ix2 (y 0) ⟨(y 1).val % 128, Nat.mod_lt _ (by norm_num)⟩) := by
  refine View.canon_append_of_piecesOf
    (fun y => (![w0, w1, w2, w3] (⟨(y 1).val / 128, colHead (y 1)⟩ : Fin 4)) (ix2 (y 0) ⟨(y 1).val % 128, Nat.mod_lt _ (by norm_num)⟩)) []
    [⟨Rect.unit ![0, 384] ![1024, 128] inb_S1024x512_S1024x128_0_384, w3⟩, ⟨Rect.unit ![0, 256] ![1024, 128] inb_S1024x512_S1024x128_0_256, w2⟩,
      ⟨Rect.unit ![0, 128] ![1024, 128] inb_S1024x512_S1024x128_0_128, w1⟩, ⟨Rect.unit ![0, 0] ![1024, 128] inb_S1024x512_S1024x128_0_0, w0⟩] ⟨?_, ?_, ?_, ?_, trivial⟩ y ?_
  case refine_5 =>
    simp only [List.mem_cons, List.not_mem_nil, or_false, exists_eq_or_imp, exists_eq_left, Rect.mem_set_unit]
    have h0 : (y 0).val < 1024 := (y 0).isLt
    have h1 : (y 1).val < 512 := (y 1).isLt
    have e : 384 ≤ (y 1).val ∨ (256 ≤ (y 1).val ∧ (y 1).val < 384) ∨ (128 ≤ (y 1).val ∧ (y 1).val < 256) ∨ (y 1).val < 128 := by omega
    rcases e with e | e | e | e
    · exact .inl fun a => by fin_cases a <;> simp <;> omega
    · exact .inr (.inl fun a => by fin_cases a <;> simp <;> omega)
    · exact .inr (.inr (.inl fun a => by fin_cases a <;> simp <;> omega))
    · exact .inr (.inr (.inr fun a => by fin_cases a <;> simp <;> omega))
  case refine_1 =>
    intro x
    have h1 : (x 1).val < 128 := (x 1).isLt
    have e1 : ((Rect.unit (s := S1024x512) ![0, 384] ![1024, 128] inb_S1024x512_S1024x128_0_384).emb x 1).val = 384 + (x 1).val :=
      Rect.idx_unit_val _ _ _ x 1
    have e : (⟨((Rect.unit (s := S1024x512) ![0, 384] ![1024, 128] inb_S1024x512_S1024x128_0_384).emb x 1).val / 128, by rw [e1]; omega⟩ : Fin 4) = 3 :=
      Fin.ext (by show _ / 128 = 3; rw [e1]; omega)
    dsimp only
    rw [e]
    refine congrArg w3 (funext fun a => Fin.ext ?_)
    match a with
    | ⟨0, _⟩ => exact ((Rect.idx_unit_val _ _ _ x 0).trans (by simp)).symm
    | ⟨1, _⟩ => show (x 1).val = _ % 128; rw [e1]; omega
  case refine_2 =>
    intro x
    have h1 : (x 1).val < 128 := (x 1).isLt
    have e1 : ((Rect.unit (s := S1024x512) ![0, 256] ![1024, 128] inb_S1024x512_S1024x128_0_256).emb x 1).val = 256 + (x 1).val :=
      Rect.idx_unit_val _ _ _ x 1
    have e : (⟨((Rect.unit (s := S1024x512) ![0, 256] ![1024, 128] inb_S1024x512_S1024x128_0_256).emb x 1).val / 128, by rw [e1]; omega⟩ : Fin 4) = 2 :=
      Fin.ext (by show _ / 128 = 2; rw [e1]; omega)
    dsimp only
    rw [e]
    refine congrArg w2 (funext fun a => Fin.ext ?_)
    match a with
    | ⟨0, _⟩ => exact ((Rect.idx_unit_val _ _ _ x 0).trans (by simp)).symm
    | ⟨1, _⟩ => show (x 1).val = _ % 128; rw [e1]; omega
  case refine_3 =>
    intro x
    have h1 : (x 1).val < 128 := (x 1).isLt
    have e1 : ((Rect.unit (s := S1024x512) ![0, 128] ![1024, 128] inb_S1024x512_S1024x128_0_128).emb x 1).val = 128 + (x 1).val :=
      Rect.idx_unit_val _ _ _ x 1
    have e : (⟨((Rect.unit (s := S1024x512) ![0, 128] ![1024, 128] inb_S1024x512_S1024x128_0_128).emb x 1).val / 128, by rw [e1]; omega⟩ : Fin 4) = 1 :=
      Fin.ext (by show _ / 128 = 1; rw [e1]; omega)
    dsimp only
    rw [e]
    refine congrArg w1 (funext fun a => Fin.ext ?_)
    match a with
    | ⟨0, _⟩ => exact ((Rect.idx_unit_val _ _ _ x 0).trans (by simp)).symm
    | ⟨1, _⟩ => show (x 1).val = _ % 128; rw [e1]; omega
  case refine_4 =>
    intro x
    have h1 : (x 1).val < 128 := (x 1).isLt
    have e1 : ((Rect.unit (s := S1024x512) ![0, 0] ![1024, 128] inb_S1024x512_S1024x128_0_0).emb x 1).val = 0 + (x 1).val :=
      Rect.idx_unit_val _ _ _ x 1
    have e : (⟨((Rect.unit (s := S1024x512) ![0, 0] ![1024, 128] inb_S1024x512_S1024x128_0_0).emb x 1).val / 128, by rw [e1]; omega⟩ : Fin 4) = 0 :=
      Fin.ext (by show _ / 128 = 0; rw [e1]; omega)
    dsimp only
    rw [e]
    refine congrArg w0 (funext fun a => Fin.ext ?_)
    match a with
    | ⟨0, _⟩ => exact ((Rect.idx_unit_val _ _ _ x 0).trans (by simp)).symm
    | ⟨1, _⟩ => show (x 1).val = _ % 128; rw [e1]; omega

end Cert.KernelIdeal.Attn

end
-- ==== Proof.BlockA.lean ====
/- What one grid point of the attention kernel leaves in its scratches (a point of the first half of the keys) and in the
   output block (a point of the second half), as functions of its input blocks. -/
module

public import proofs.«01_k».proof.Proof.Slabs

@[expose] public section

set_option maxRecDepth 16384

noncomputable section

open Idealize.ShloMosaic Idealize.ShloMosaic.TcCoe

namespace Cert.KernelIdeal.Attn

open Cert.KernelIdeal Cert.KernelIdeal.Gen

/-- The query columns of head `g` in a query block. -/
def headCols (x : Vec Ideal S1024x512 .bf16) (g : Fin 4) : Vec Ideal S1024x128 .bf16 := fun i =>
  x (ix2 (i 0) ⟨128 * g.val + (i 1).val, by have := (i 1).isLt; have : (i 1).val < 128 := this; omega⟩)

/-- The values with a column of ones beside them and zeros after it. -/
def valOnes (v : Vec Ideal S4096x128 .bf16) : Vec Ideal S4096x256 .bf16 := fun i =>
  if h : (i 1).val < 128 then v (ix2 (i 0) ⟨(i 1).val, h⟩) else if (i 1).val = 128 then (1 : EReal) else (0 : EReal)

/-- The running maxima before any key is seen. -/
def noMax : Vec Ideal S1x1024x128 .f32 := fun _ => (⊥ : EReal)
/-- The running sums before any key is seen. -/
def noSum : Vec Ideal S1x1024x256 .f32 := fun _ => (0 : EReal)

/-- The maxima after the first half of the keys. -/
def maxA (x0 : Vec Ideal S1024x512 .bf16) (x1 : Vec Ideal S4096x128 .bf16) : Vec Ideal S4x1024x128 .f32 := fun i =>
  headMax x1 (headCols x0 (i 0)) noMax (ix3 0 (i 1) (i 2))

/-- The sums after the first half of the keys. -/
def accA (x0 : Vec Ideal S1024x512 .bf16) (x1 x2 : Vec Ideal S4096x128 .bf16) : Vec Ideal S4x1024x256 .f32 := fun i =>
  headAcc x1 (valOnes x2) (headCols x0 (i 0)) noMax noSum (ix3 0 (i 1) (i 2))

/-- Four values listed are a function of the head. -/
theorem pick {α : Type} (f : Fin 4 → α) (g : Fin 4) : ![f 0, f 1, f 2, f 3] g = f g := by
  match g with
  | 0 => rfl
  | 1 => rfl
  | 2 => rfl
  | 3 => rfl

/-- A load of head `g`'s query columns. -/
theorem ld_cols0 (x : Vec Ideal S1024x512 .bf16) :
    View.ld x (Rect.unit ![0, 0] ![1024, 128] inb_S1024x512_S1024x128_0_0) = headCols x 0 := by
  funext j
  refine View.ld_unit_apply_of x _ _ _ j _ fun a => ?_
  match a with
  | ⟨0, _⟩ => exact (Nat.zero_add _).symm
  | ⟨1, _⟩ => rfl
/-- The second head's. -/
theorem ld_cols1 (x : Vec Ideal S1024x512 .bf16) :
    View.ld x (Rect.unit ![0, 128] ![1024, 128] inb_S1024x512_S1024x128_0_128) = headCols x 1 := by
  funext j
  refine View.ld_unit_apply_of x _ _ _ j _ fun a => ?_
  match a with
  | ⟨0, _⟩ => exact (Nat.zero_add _).symm
  | ⟨1, _⟩ => rfl
/-- The third head's. -/
theorem ld_cols2 (x : Vec Ideal S1024x512 .bf16) :
    View.ld x (Rect.unit ![0, 256] ![1024, 128] inb_S1024x512_S1024x128_0_256) = headCols x 2 := by
  funext j
  refine View.ld_unit_apply_of x _ _ _ j _ fun a => ?_
  match a with
  | ⟨0, _⟩ => exact (Nat.zero_add _).symm
  | ⟨1, _⟩ => rfl
/-- The fourth head's. -/
theorem ld_cols3 (x : Vec Ideal S1024x512 .bf16) :
    View.ld x (Rect.unit ![0, 384] ![1024, 128] inb_S1024x512_S1024x128_0_384) = headCols x 3 := by
  funext j
  refine View.ld_unit_apply_of x _ _ _ j _ fun a => ?_
  match a with
  | ⟨0, _⟩ => exact (Nat.zero_add _).symm
  | ⟨1, _⟩ => rfl

/-- A slab of the maxima's first fill. -/
theorem ld_noMax (off : Fin S4x1024x128.rank → ℕ) (inb : ∀ a, off a + (![1, 1024, 128] : Fin S4x1024x128.rank → ℕ) a ≤ S4x1024x128.size a) :
    View.ld (k0_pay5 (F := Ideal)) (Rect.unit off ![1, 1024, 128] inb) = noMax := by
  funext j
  show k0_pay5 (F := Ideal) ((Rect.unit off ![1, 1024, 128] inb).idx j) = (⊥ : EReal)
  generalize (Rect.unit off ![1, 1024, 128] inb).idx j = i
  idx_vars i
  pointwise [k0_pay5]
  exact neg_inf

/-- A slab of the sums' first fill. -/
theorem ld_noSum (off : Fin S4x1024x256.rank → ℕ) (inb : ∀ a, off a + (![1, 1024, 256] : Fin S4x1024x256.rank → ℕ) a ≤ S4x1024x256.size a) :
    View.ld (k0_pay6 (F := Ideal)) (Rect.unit off ![1, 1024, 256] inb) = noSum := by
  funext j
  show k0_pay6 (F := Ideal) ((Rect.unit off ![1, 1024, 256] inb).idx j) = (0 : EReal)
  generalize (Rect.unit off ![1, 1024, 256] inb).idx j = i
  idx_vars i
  pointwise [k0_pay6]

/-- The columns beside the values: a one in the first, zeros after it. -/
theorem pay7_apply (r : Fin 4096) (c : Fin 128) :
    k0_pay7 (F := Ideal) (ix2 r c) = if c.val = 0 then (1 : EReal) else (0 : EReal) := by
  pointwise [k0_pay7]
  have hc := c.isLt
  by_cases h : c.val = 0
  · rw [h]; rfl
  · have hb : ¬BitVec.ofNat 32 c.val = 0#32 := fun e => h (by
      have := congrArg BitVec.toNat e
      simp only [BitVec.toNat_ofNat] at this
      omega)
    rw [if_neg h]
    have hb' : (BitVec.ofNat 32 c.val == 0#32) = false := beq_eq_false_iff_ne.mpr hb
    simp [Scalar.select, IntOp.cmpi, hb']

/-- The stored values are the loaded ones. -/
theorem pay8_eq (v : Vec Ideal S4096x128 .bf16) : k0_pay8 v = v := by
  funext i
  idx_vars i
  pointwise [k0_pay8]

/-- The values' columns stored over contents that hold the ones in the right half. -/
theorem canon_valOnes (v : Vec Ideal S4096x128 .bf16) (y : S4096x256.Idx) :
    View.canon [(⟨Rect.unit ![0, 0] ![4096, 128] inb_S4096x256_S4096x128_0_0, v⟩ : View.Piece (Elt Ideal) S4096x256 .bf16),
      ⟨Rect.unit ![0, 128] ![4096, 128] inb_S4096x256_S4096x128_0_128, k0_pay7 (F := Ideal)⟩] y = valOnes v y := by
  refine View.canon_append_of_piecesOf (valOnes v) [] [⟨Rect.unit ![0, 0] ![4096, 128] inb_S4096x256_S4096x128_0_0, v⟩,
      ⟨Rect.unit ![0, 128] ![4096, 128] inb_S4096x256_S4096x128_0_128, k0_pay7 (F := Ideal)⟩] ⟨?_, ?_, trivial⟩ y ?_
  case refine_3 =>
    simp only [List.mem_cons, List.not_mem_nil, or_false, exists_eq_or_imp, exists_eq_left, Rect.mem_set_unit]
    have h0 : (y 0).val < 4096 := (y 0).isLt
    have h1 : (y 1).val < 256 := (y 1).isLt
    have e : (y 1).val < 128 ∨ 128 ≤ (y 1).val := by omega
    rcases e with e | e
    · exact .inl fun a => by fin_cases a <;> simp <;> omega
    · exact .inr fun a => by fin_cases a <;> simp <;> omega
  case refine_1 =>
    intro x
    have h1 : (x 1).val < 128 := (x 1).isLt
    have e1 : ((Rect.unit (s := S4096x256) ![0, 0] ![4096, 128] inb_S4096x256_S4096x128_0_0).emb x 1).val = 0 + (x 1).val :=
      Rect.idx_unit_val _ _ _ x 1
    have e0 : ((Rect.unit (s := S4096x256) ![0, 0] ![4096, 128] inb_S4096x256_S4096x128_0_0).emb x 0).val = 0 + (x 0).val :=
      Rect.idx_unit_val _ _ _ x 0
    unfold valOnes
    rw [dif_pos (by rw [e1]; omega)]
    refine congrArg v (funext fun a => Fin.ext ?_)
    match a with
    | ⟨0, _⟩ => exact (e0.trans (Nat.zero_add _)).symm
    | ⟨1, _⟩ => exact (e1.trans (Nat.zero_add _)).symm
  case refine_2 =>
    intro x
    have h1 : (x 1).val < 128 := (x 1).isLt
    have e1 : ((Rect.unit (s := S4096x256) ![0, 128] ![4096, 128] inb_S4096x256_S4096x128_0_128).emb x 1).val = 128 + (x 1).val :=
      Rect.idx_unit_val _ _ _ x 1
    have ex : x = ix2 (x 0) (x 1) := by funext a; match a with | ⟨0, _⟩ => rfl | ⟨1, _⟩ => rfl
    unfold valOnes
    rw [dif_neg (by rw [e1]; omega), e1]
    refine (congrArg (k0_pay7 (F := Ideal)) ex).trans ((pay7_apply _ _).trans (if_congr ?_ rfl rfl))
    omega

section Points
variable (c : Dev nD) (i : grid0.Coords) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1024x512 .bf16) (harg7 : arg7.IsWhole) (arg8 : Memref sig .tc .vmem S4x1024x128 .f32) (harg8 : arg8.IsWhole) (arg9 : Memref sig .tc .vmem S4x1024x256 .f32) (harg9 : arg9.IsWhole) (arg10 : Memref sig .tc .vmem S4096x256 .bf16) (harg10 : arg10.IsWhole)
  (x0 : Vec Ideal S1024x512 .bf16) (x1 : Vec Ideal S4096x128 .bf16) (x2 : Vec Ideal S4096x128 .bf16)

/-- A load of a whole key or value block. -/
theorem ld_whole (v : Vec Ideal S4096x128 .bf16) :
    View.ld v (Rect.unit ![0, 0] ![4096, 128] inb_S4096x128_S4096x128_0_0) = v :=
  View.ld_unit_lit _ v (by decide)

/-- A load of the values and ones after both halves are stored. -/
theorem readCov_valOnes {sg : RefSig} (w : View sg .tc .vmem S4096x256 .bf16) (v : Vec Ideal S4096x128 .bf16) :
    w.readCov [(⟨Rect.unit ![0, 0] ![4096, 128] inb_S4096x256_S4096x128_0_0, v⟩ : View.Piece (Elt Ideal) S4096x256 .bf16),
      ⟨Rect.unit ![0, 128] ![4096, 128] inb_S4096x256_S4096x128_0_128, k0_pay7 (F := Ideal)⟩]
      (Rect.unit ![0, 0] ![4096, 256] inb_S4096x256_S4096x256_0_0).toLoadRect = valOnes v := by
  rw [View.readCov_eq_canon']
  funext j
  refine (canon_valOnes v _).trans (congrArg (valOnes v) (funext fun a => Fin.ext ?_))
  refine (Rect.idx_unit_val _ _ _ j a).trans ?_
  match a with
  | ⟨0, _⟩ => exact Nat.zero_add _
  | ⟨1, _⟩ => exact Nat.zero_add _

/-- The maxima after a point of the first half. -/
theorem soutA_0 (hc0 : cond0_0 i) (hc1 : ¬cond0_1 i) :
    sout0_A_0 c i arg4 harg4 arg5 harg5 arg6 harg6 arg7 harg7 arg8 harg8 arg9 harg9 arg10 harg10 hc0 hc1 x0 x1 x2 = maxA x0 x1 := by
  unfold sout0_A_0
  rw [View.read_writes_eq_canon _ _ _ (scover0_A_0 c i arg4 harg4 arg5 harg5 arg6 harg6 arg7 harg7 arg8 harg8 arg9 harg9 arg10 harg10 hc0 hc1 x0 x1 x2)]
  unfold kernelRun0_A
  dsimp only
  sl_unfold_words
  simp only [View.readAt_eq_ld, harg4.read_unread, harg5.read_unread, harg6.read_unread, harg8.read_unread, harg9.read_unread, harg10.read_unread]
  simp (disch := first | decide | rfl) only [↓View.readCov_skip, View.readCov_fill, View.readCov_cons_toLoadRect]
  funext y
  refine (slabs128 _ _ _ _ _ y).trans ?_
  simp only [ld_cols0, ld_cols1, ld_cols2, ld_cols3, ld_noMax, max_head0, max_head1, max_head2, max_head3, ld_whole]
  exact congrFun (pick (fun g => headMax x1 (headCols x0 g) noMax) (y 0)) _

/-- The sums after a point of the first half. -/
theorem soutA_1 (hc0 : cond0_0 i) (hc1 : ¬cond0_1 i) :
    sout0_A_1 c i arg4 harg4 arg5 harg5 arg6 harg6 arg7 harg7 arg8 harg8 arg9 harg9 arg10 harg10 hc0 hc1 x0 x1 x2 = accA x0 x1 x2 := by
  unfold sout0_A_1
  rw [View.read_writes_eq_canon _ _ _ (scover0_A_1 c i arg4 harg4 arg5 harg5 arg6 harg6 arg7 harg7 arg8 harg8 arg9 harg9 arg10 harg10 hc0 hc1 x0 x1 x2)]
  unfold kernelRun0_A
  dsimp only
  sl_unfold_words
  simp only [View.readAt_eq_ld, harg4.read_unread, harg5.read_unread, harg6.read_unread, harg8.read_unread, harg9.read_unread, harg10.read_unread]
  simp (disch := first | decide | rfl) only [↓View.readCov_skip, View.readCov_fill, View.readCov_cons_toLoadRect]
  funext y
  refine (slabs256 _ _ _ _ _ y).trans ?_
  simp only [ld_cols0, ld_cols1, ld_cols2, ld_cols3, ld_noMax, ld_noSum, acc_head0, acc_head1, acc_head2, acc_head3, ld_whole, pay8_eq, readCov_valOnes]
  exact congrFun (pick (fun g => headAcc x1 (valOnes x2) (headCols x0 g) noMax noSum) (y 0)) _

/-- The values and ones after a point of the first half. -/
theorem soutA_2 (hc0 : cond0_0 i) (hc1 : ¬cond0_1 i) :
    sout0_A_2 c i arg4 harg4 arg5 harg5 arg6 harg6 arg7 harg7 arg8 harg8 arg9 harg9 arg10 harg10 hc0 hc1 x0 x1 x2 = valOnes x2 := by
  unfold sout0_A_2
  rw [View.read_writes_eq_canon _ _ _ (scover0_A_2 c i arg4 harg4 arg5 harg5 arg6 harg6 arg7 harg7 arg8 harg8 arg9 harg9 arg10 harg10 hc0 hc1 x0 x1 x2)]
  unfold kernelRun0_A
  dsimp only
  sl_unfold_words
  simp only [View.readAt_eq_ld, harg4.read_unread, harg5.read_unread, harg6.read_unread, harg8.read_unread, harg9.read_unread, harg10.read_unread]
  funext y
  simp only [ld_whole, pay8_eq]
  exact canon_valOnes x2 y

end Points

end Cert.KernelIdeal.Attn

end
-- ==== Proof.BlockB.lean ====
/- What one grid point of the second half of the keys leaves in the output block. -/
module

public import proofs.«01_k».proof.Proof.BlockA

@[expose] public section

set_option maxRecDepth 16384

noncomputable section

open Idealize.ShloMosaic Idealize.ShloMosaic.TcCoe

namespace Cert.KernelIdeal.Attn

open Cert.KernelIdeal Cert.KernelIdeal.Gen

/-- Head `g`'s slab of the maxima. -/
def slabMax (x : Vec Ideal S4x1024x128 .f32) (g : Fin 4) : Vec Ideal S1x1024x128 .f32 := fun i => x (ix3 g (i 1) (i 2))
/-- Head `g`'s slab of the sums. -/
def slabSum (x : Vec Ideal S4x1024x256 .f32) (g : Fin 4) : Vec Ideal S1x1024x256 .f32 := fun i => x (ix3 g (i 1) (i 2))

/-- The maxima after one block of keys more. -/
def nextMax (x0 : Vec Ideal S1024x512 .bf16) (x1 : Vec Ideal S4096x128 .bf16) (xs0 : Vec Ideal S4x1024x128 .f32) :
    Vec Ideal S4x1024x128 .f32 := fun i => headMax x1 (headCols x0 (i 0)) (slabMax xs0 (i 0)) (ix3 0 (i 1) (i 2))
/-- The sums after one block of keys more. -/
def nextAcc (x0 : Vec Ideal S1024x512 .bf16) (x1 x2 : Vec Ideal S4096x128 .bf16) (xs0 : Vec Ideal S4x1024x128 .f32)
    (xs1 : Vec Ideal S4x1024x256 .f32) : Vec Ideal S4x1024x256 .f32 := fun i =>
  headAcc x1 (valOnes x2) (headCols x0 (i 0)) (slabMax xs0 (i 0)) (slabSum xs1 (i 0)) (ix3 0 (i 1) (i 2))

/-- The sums of the values over the sum of the ones. -/
def quot (a : Vec Ideal S1x1024x256 .f32) : Vec Ideal S1024x128 .bf16 := fun i =>
  Ideal.div (a (ix3 0 (i 0) ⟨(i 1).val, by have : (i 1).val < 128 := (i 1).isLt; omega⟩)) (a (ix3 0 (i 0) 128))

/-- The block stored for head 0. -/
theorem pay1_eq (a : Vec Ideal S1x1024x256 .f32) : k0_pay1 a = quot a := by
  funext i
  idx_vars i
  pointwise [k0_pay1, quot]

/-- The block stored for head 1. -/
theorem pay2_eq (a : Vec Ideal S1x1024x256 .f32) : k0_pay2 a = quot a := by
  funext i
  idx_vars i
  pointwise [k0_pay2, quot]

/-- The block stored for head 2. -/
theorem pay3_eq (a : Vec Ideal S1x1024x256 .f32) : k0_pay3 a = quot a := by
  funext i
  idx_vars i
  pointwise [k0_pay3, quot]

/-- The block stored for head 3. -/
theorem pay4_eq (a : Vec Ideal S1x1024x256 .f32) : k0_pay4 a = quot a := by
  funext i
  idx_vars i
  pointwise [k0_pay4, quot]

/-- A load of head 0's maxima. -/
theorem ld_slabMax0 (x : Vec Ideal S4x1024x128 .f32) :
    View.ld x (Rect.unit ![0, 0, 0] ![1, 1024, 128] inb_S4x1024x128_S1x1024x128_0_0_0) = slabMax x 0 := by
  funext j
  refine View.ld_unit_apply_of x _ _ _ j _ fun a => ?_
  match a with
  | ⟨0, _⟩ => have h : (j 0).val < 1 := (j 0).isLt
              show 0 = 0 + (j 0).val
              omega
  | ⟨1, _⟩ => exact (Nat.zero_add _).symm
  | ⟨2, _⟩ => exact (Nat.zero_add _).symm

/-- A load of head 0's sums. -/
theorem ld_slabSum0 (x : Vec Ideal S4x1024x256 .f32) :
    View.ld x (Rect.unit ![0, 0, 0] ![1, 1024, 256] inb_S4x1024x256_S1x1024x256_0_0_0) = slabSum x 0 := by
  funext j
  refine View.ld_unit_apply_of x _ _ _ j _ fun a => ?_
  match a with
  | ⟨0, _⟩ => have h : (j 0).val < 1 := (j 0).isLt
              show 0 = 0 + (j 0).val
              omega
  | ⟨1, _⟩ => exact (Nat.zero_add _).symm
  | ⟨2, _⟩ => exact (Nat.zero_add _).symm

/-- A load of head 1's maxima. -/
theorem ld_slabMax1 (x : Vec Ideal S4x1024x128 .f32) :
    View.ld x (Rect.unit ![1, 0, 0] ![1, 1024, 128] inb_S4x1024x128_S1x1024x128_1_0_0) = slabMax x 1 := by
  funext j
  refine View.ld_unit_apply_of x _ _ _ j _ fun a => ?_
  match a with
  | ⟨0, _⟩ => have h : (j 0).val < 1 := (j 0).isLt
              show 1 = 1 + (j 0).val
              omega
  | ⟨1, _⟩ => exact (Nat.zero_add _).symm
  | ⟨2, _⟩ => exact (Nat.zero_add _).symm

/-- A load of head 1's sums. -/
theorem ld_slabSum1 (x : Vec Ideal S4x1024x256 .f32) :
    View.ld x (Rect.unit ![1, 0, 0] ![1, 1024, 256] inb_S4x1024x256_S1x1024x256_1_0_0) = slabSum x 1 := by
  funext j
  refine View.ld_unit_apply_of x _ _ _ j _ fun a => ?_
  match a with
  | ⟨0, _⟩ => have h : (j 0).val < 1 := (j 0).isLt
              show 1 = 1 + (j 0).val
              omega
  | ⟨1, _⟩ => exact (Nat.zero_add _).symm
  | ⟨2, _⟩ => exact (Nat.zero_add _).symm

/-- A load of head 2's maxima. -/
theorem ld_slabMax2 (x : Vec Ideal S4x1024x128 .f32) :
    View.ld x (Rect.unit ![2, 0, 0] ![1, 1024, 128] inb_S4x1024x128_S1x1024x128_2_0_0) = slabMax x 2 := by
  funext j
  refine View.ld_unit_apply_of x _ _ _ j _ fun a => ?_
  match a with
  | ⟨0, _⟩ => have h : (j 0).val < 1 := (j 0).isLt
              show 2 = 2 + (j 0).val
              omega
  | ⟨1, _⟩ => exact (Nat.zero_add _).symm
  | ⟨2, _⟩ => exact (Nat.zero_add _).symm

/-- A load of head 2's sums. -/
theorem ld_slabSum2 (x : Vec Ideal S4x1024x256 .f32) :
    View.ld x (Rect.unit ![2, 0, 0] ![1, 1024, 256] inb_S4x1024x256_S1x1024x256_2_0_0) = slabSum x 2 := by
  funext j
  refine View.ld_unit_apply_of x _ _ _ j _ fun a => ?_
  match a with
  | ⟨0, _⟩ => have h : (j 0).val < 1 := (j 0).isLt
              show 2 = 2 + (j 0).val
              omega
  | ⟨1, _⟩ => exact (Nat.zero_add _).symm
  | ⟨2, _⟩ => exact (Nat.zero_add _).symm

/-- A load of head 3's maxima. -/
theorem ld_slabMax3 (x : Vec Ideal S4x1024x128 .f32) :
    View.ld x (Rect.unit ![3, 0, 0] ![1, 1024, 128] inb_S4x1024x128_S1x1024x128_3_0_0) = slabMax x 3 := by
  funext j
  refine View.ld_unit_apply_of x _ _ _ j _ fun a => ?_
  match a with
  | ⟨0, _⟩ => have h : (j 0).val < 1 := (j 0).isLt
              show 3 = 3 + (j 0).val
              omega
  | ⟨1, _⟩ => exact (Nat.zero_add _).symm
  | ⟨2, _⟩ => exact (Nat.zero_add _).symm

/-- A load of head 3's sums. -/
theorem ld_slabSum3 (x : Vec Ideal S4x1024x256 .f32) :
    View.ld x (Rect.unit ![3, 0, 0] ![1, 1024, 256] inb_S4x1024x256_S1x1024x256_3_0_0) = slabSum x 3 := by
  funext j
  refine View.ld_unit_apply_of x _ _ _ j _ fun a => ?_
  match a with
  | ⟨0, _⟩ => have h : (j 0).val < 1 := (j 0).isLt
              show 3 = 3 + (j 0).val
              omega
  | ⟨1, _⟩ => exact (Nat.zero_add _).symm
  | ⟨2, _⟩ => exact (Nat.zero_add _).symm

/-- A load of the values and ones after new values are stored over old ones. -/
theorem ld_valOnes {sg : RefSig} (w : View sg .tc .vmem S4096x256 .bf16) (f : w.ty.Contents (Elt Ideal)) (v v' : Vec Ideal S4096x128 .bf16)
    (hf : View.read (Elt Ideal) w f = valOnes v') :
    View.ld (View.read (Elt Ideal) w (w.writes (Elt Ideal) f
      [(⟨Rect.unit ![0, 0] ![4096, 128] inb_S4096x256_S4096x128_0_0, v⟩ : View.Piece (Elt Ideal) S4096x256 .bf16)]))
      (Rect.unit ![0, 0] ![4096, 256] inb_S4096x256_S4096x256_0_0) = valOnes v := by
  refine (View.ld_unit_lit (S := S4096x256) _ _ (by decide)).trans ?_
  funext y
  by_cases h : (y 1).val < 128
  · have hm : y ∈ (Rect.unit (s := S4096x256) ![0, 0] ![4096, 128] inb_S4096x256_S4096x128_0_0).set := by
      rw [Rect.mem_set_unit]
      have h0 : (y 0).val < 4096 := (y 0).isLt
      intro a
      fin_cases a <;> simp <;> omega
    refine (View.read_writes_apply_eq_canon w f y
      [(⟨Rect.unit ![0, 0] ![4096, 128] inb_S4096x256_S4096x128_0_0, v⟩ : View.Piece (Elt Ideal) S4096x256 .bf16)]
      ⟨⟨Rect.unit ![0, 0] ![4096, 128] inb_S4096x256_S4096x128_0_0, v⟩, List.mem_singleton.mpr rfl, hm⟩).trans ?_
    refine Eq.trans ?_ (canon_valOnes v y)
    obtain ⟨x, rfl⟩ := (Rect.unit (s := S4096x256) ![0, 0] ![4096, 128] inb_S4096x256_S4096x128_0_0).exists_idx_of_mem hm
    exact (View.canon_cons_emb _ _ _ x).trans (View.canon_cons_emb _ _ _ x).symm
  · have hm : y ∉ (Rect.unit (s := S4096x256) ![0, 0] ![4096, 128] inb_S4096x256_S4096x128_0_0).set := by
      rw [Rect.mem_set_unit]
      intro ha
      exact h (by have := (ha 1).2; simpa using this)
    refine (View.read_writes_apply_of_forall_not_mem (v := w) (f := f) y
      [(⟨Rect.unit ![0, 0] ![4096, 128] inb_S4096x256_S4096x128_0_0, v⟩ : View.Piece (Elt Ideal) S4096x256 .bf16)]
      (fun p hp => by
        rw [List.mem_singleton] at hp
        rw [hp]
        exact hm)).trans ?_
    rw [hf]
    unfold valOnes
    rw [dif_neg h, dif_neg h]

/-- The output block of a point of the second half. -/
def outB (x0 : Vec Ideal S1024x512 .bf16) (x1 x2 : Vec Ideal S4096x128 .bf16) (xs0 : Vec Ideal S4x1024x128 .f32)
    (xs1 : Vec Ideal S4x1024x256 .f32) : Vec Ideal S1024x512 .bf16 := fun y =>
  quot (headAcc x1 (valOnes x2) (headCols x0 ⟨(y 1).val / 128, colHead (y 1)⟩) (slabMax xs0 ⟨(y 1).val / 128, colHead (y 1)⟩)
    (slabSum xs1 ⟨(y 1).val / 128, colHead (y 1)⟩)) (ix2 (y 0) ⟨(y 1).val % 128, Nat.mod_lt _ (by norm_num)⟩)

/-- What a point of the second half stores, when the scratches hold the first half's. -/
theorem out_B (c : Dev nD) (i : grid0.Coords) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1024x512 .bf16) (harg7 : arg7.IsWhole) (arg8 : Memref sig .tc .vmem S4x1024x128 .f32) (harg8 : arg8.IsWhole) (arg9 : Memref sig .tc .vmem S4x1024x256 .f32) (harg9 : arg9.IsWhole) (arg10 : Memref sig .tc .vmem S4096x256 .bf16) (harg10 : arg10.IsWhole)
    (x0 : Vec Ideal S1024x512 .bf16) (x1 : Vec Ideal S4096x128 .bf16) (x2 : Vec Ideal S4096x128 .bf16)
    (xs0 : Vec Ideal S4x1024x128 .f32) (xs1 : Vec Ideal S4x1024x256 .f32) (v : Vec Ideal S4096x128 .bf16)
    (hc0 : ¬cond0_0 i) (hc1 : cond0_1 i) :
    out0_B_3 c i arg4 harg4 arg5 harg5 arg6 harg6 arg7 harg7 arg8 harg8 arg9 harg9 arg10 harg10 hc0 hc1 x0 x1 x2 xs0 xs1 (valOnes v) = outB x0 x1 x2 xs0 xs1 := by
  have hva : View.ld (View.read (Elt Ideal) arg10.view (arg10.view.writes (Elt Ideal) (harg10.unread (valOnes v))
      [(⟨Rect.unit ![0, 0] ![4096, 128] inb_S4096x256_S4096x128_0_0, x2⟩ : View.Piece (Elt Ideal) S4096x256 .bf16)]))
      (Rect.unit ![0, 0] ![4096, 256] inb_S4096x256_S4096x256_0_0) = valOnes x2 :=
    ld_valOnes arg10.view _ x2 v (harg10.read_unread _)
  unfold out0_B_3
  rw [View.read_writes_eq_canon _ _ _ (cover0_B_3 c i arg4 harg4 arg5 harg5 arg6 harg6 arg7 harg7 arg8 harg8 arg9 harg9 arg10 harg10 hc0 hc1 x0 x1 x2 xs0 xs1 (valOnes v))]
  unfold kernelRun0_B
  dsimp only
  sl_unfold_words
  simp only [View.readAt_eq_ld, harg4.read_unread, harg5.read_unread, harg6.read_unread, harg8.read_unread, harg9.read_unread, harg10.read_unread]
  simp (disch := first | decide | rfl) only [↓View.readCov_skip, View.readCov_cons_toLoadRect]
  funext y
  refine (columns _ _ _ _ y).trans ?_
  simp only [ld_cols0, ld_cols1, ld_cols2, ld_cols3, ld_slabMax0, ld_slabMax1, ld_slabMax2, ld_slabMax3, ld_slabSum0, ld_slabSum1,
    ld_slabSum2, ld_slabSum3, acc_head0, acc_head1, acc_head2, acc_head3, ld_whole, pay8_eq, hva, pay1_eq, pay2_eq, pay3_eq, pay4_eq]
  exact congrFun (pick (fun g => quot (headAcc x1 (valOnes x2) (headCols x0 g) (slabMax xs0 g) (slabSum xs1 g))) _) _

end Cert.KernelIdeal.Attn

end
-- ==== Proof.Rows.lean ====
/- One entry of the attention kernel's output block, from the scores and values of its row. -/
module

public import proofs.«01_k».proof.Proof.BlockB

@[expose] public section

set_option maxRecDepth 16384

noncomputable section

open Idealize.ShloMosaic Idealize.ShloMosaic.TcCoe

namespace Cert.KernelIdeal.Attn

open Cert.KernelIdeal Cert.KernelIdeal.Gen Softmax

/-- A column of the values and ones, among the values. -/
theorem valOnes_val (v : Vec Ideal S4096x128 .bf16) (j : Fin 4096) (c : Fin 128) (h : c.val < 256) :
    valOnes v (ix2 j ⟨c.val, h⟩) = v (ix2 j c) := by
  unfold valOnes
  exact dif_pos c.isLt

/-- The column of ones. -/
theorem valOnes_one (v : Vec Ideal S4096x128 .bf16) (j : Fin 4096) : valOnes v (ix2 j 128) = (1 : EReal) := by
  unfold valOnes
  rw [dif_neg (by show ¬(128 < 128); omega)]
  exact if_pos rfl

/-- The maxima after the blocks of keys up to block `n`. -/
def maxima (x0 : ℕ → Vec Ideal S1024x512 .bf16) (x1 : ℕ → Vec Ideal S4096x128 .bf16) : ℕ → Vec Ideal S4x1024x128 .f32
  | 0 => maxA (x0 0) (x1 0)
  | n + 1 => nextMax (x0 (n + 1)) (x1 (n + 1)) (maxima x0 x1 n)

/-- The sums after the blocks of keys up to block `n`. -/
def sums (x0 : ℕ → Vec Ideal S1024x512 .bf16) (x1 x2 : ℕ → Vec Ideal S4096x128 .bf16) : ℕ → Vec Ideal S4x1024x256 .f32
  | 0 => accA (x0 0) (x1 0) (x2 0)
  | n + 1 => nextAcc (x0 (n + 1)) (x1 (n + 1)) (x2 (n + 1)) (maxima x0 x1 n) (sums x0 x1 x2 n)

/-- A block's scores and values, for a query row and a column of the values and ones. -/
def rowBlock (x0 : Vec Ideal S1024x512 .bf16) (x1 x2 : Vec Ideal S4096x128 .bf16) (g : Fin 4) (r : Fin 1024) (c : Fin 256) :
    (Fin 4096 → EReal) × (Fin 4096 → EReal) := (score x1 (headCols x0 g) r, fun j => valOnes x2 (ix2 j c))

section Row
variable (x0 : ℕ → Vec Ideal S1024x512 .bf16) (x1 x2 : ℕ → Vec Ideal S4096x128 .bf16) (g : Fin 4) (r : Fin 1024) (c : Fin 256)

/-- A head's step is the running sum's step. -/
theorem run_head (k : Vec Ideal S4096x128 .bf16) (va : Vec Ideal S4096x256 .bf16) (q : Vec Ideal S1024x128 .bf16)
    (mx : Vec Ideal S1x1024x128 .f32) (acc : Vec Ideal S1x1024x256 .f32) (l : List ((Fin 4096 → EReal) × (Fin 4096 → EReal))) :
    run (mx (ix3 0 r 0)) (acc (ix3 0 r c)) ((score k q r, fun j => va (ix2 j c)) :: l)
      = run (headMax k q mx (ix3 0 r 0)) (headAcc k va q mx acc (ix3 0 r c)) l := by
  rw [run_cons, headMax_apply, headAcc_apply]
  rfl

/-- The scratches hold the running maximum and the running sum. -/
theorem run_sums (n : ℕ) (l : List ((Fin 4096 → EReal) × (Fin 4096 → EReal))) :
    run ⊥ 0 ((List.ofFn fun i : Fin (n + 1) => rowBlock (x0 i) (x1 i) (x2 i) g r c) ++ l)
      = run (maxima x0 x1 n (ix3 g r 0)) (sums x0 x1 x2 n (ix3 g r c)) l := by
  induction n generalizing l with
  | zero => exact run_head r c (x1 0) (valOnes (x2 0)) (headCols (x0 0) g) noMax noSum l
  | succ n ih =>
    rw [List.ofFn_succ', List.concat_eq_append, List.append_assoc]
    refine (ih _).trans ?_
    exact run_head r c (x1 (n + 1)) (valOnes (x2 (n + 1))) (headCols (x0 (n + 1)) g) (slabMax (maxima x0 x1 n) g)
      (slabSum (sums x0 x1 x2 n) g) l

/-- A head's sums at the last block are the online sum over all keys. -/
theorem sums_online (n : ℕ) (s v : Fin ((n + 1 + 1) * 4096) → EReal)
    (hs : ∀ (i : Fin (n + 1 + 1)) j, score (x1 i) (headCols (x0 i) g) r j = s (key i j))
    (hv : ∀ (i : Fin (n + 1 + 1)) j, valOnes (x2 i) (ix2 j c) = v (key i j)) :
    headAcc (x1 (n + 1)) (valOnes (x2 (n + 1))) (headCols (x0 (n + 1)) g) (slabMax (maxima x0 x1 n) g)
      (slabSum (sums x0 x1 x2 n) g) (ix3 0 r c) = online (n + 1 + 1) s v := by
  have e : blocks (n + 1 + 1) s v = List.ofFn fun i : Fin (n + 1 + 1) => rowBlock (x0 i) (x1 i) (x2 i) g r c := by
    unfold blocks
    refine congrArg List.ofFn (funext fun i => Prod.ext (funext fun j => (hs i j).symm) (funext fun j => (hv i j).symm))
  unfold online
  rw [e, ← List.append_nil (List.ofFn _), run_sums]
  rfl

end Row

/-- An entry of the output block: the quotient of the online sums of the values and of the ones. -/
theorem outB_apply (n : ℕ) (x0 : ℕ → Vec Ideal S1024x512 .bf16) (x1 x2 : ℕ → Vec Ideal S4096x128 .bf16) (r : Fin 1024) (c : Fin 512)
    (s v : Fin ((n + 1 + 1) * 4096) → EReal)
    (hs : ∀ (i : Fin (n + 1 + 1)) j, score (x1 i) (headCols (x0 i) ⟨c.val / 128, colHead c⟩) r j = s (key i j))
    (hv : ∀ (i : Fin (n + 1 + 1)) j, x2 i (ix2 j ⟨c.val % 128, Nat.mod_lt _ (by norm_num)⟩) = v (key i j)) :
    outB (x0 (n + 1)) (x1 (n + 1)) (x2 (n + 1)) (maxima x0 x1 n) (sums x0 x1 x2 n) (ix2 r c)
      = Ideal.div (online (n + 1 + 1) s v) (online (n + 1 + 1) s fun _ => 1) := by
  unfold outB quot
  refine congrArg₂ Ideal.div ?_ ?_
  · exact sums_online x0 x1 x2 ⟨c.val / 128, colHead c⟩ r ⟨c.val % 128, by omega⟩ n s v hs
      fun i j => (valOnes_val (x2 i) j ⟨c.val % 128, Nat.mod_lt _ (by norm_num)⟩ _).trans (hv i j)
  · exact sums_online x0 x1 x2 ⟨c.val / 128, colHead c⟩ r 128 n s (fun _ => 1) hs fun i j => valOnes_one (x2 i) j

end Cert.KernelIdeal.Attn

end
-- ==== Proof.Tiles.lean ====
/- The attention kernel's result array, read at an index. -/
module

public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Softmax

/-- The query blocks: 1024 rows of a batch, 512 columns of a group of heads. -/
theorem index0 : ∀ t : Fin grid0.N, win0_0.index t 0 = t.val / 32 * 8 + t.val / 2 % 8 ∧ win0_0.index t 1 = 7 + t.val / 16 % 2 := by
  decide +kernel
/-- The key blocks: 4096 rows of a batch, one head. -/
theorem index1 : ∀ t : Fin grid0.N, win0_1.index t 0 = t.val / 32 * 2 + t.val % 2 ∧ win0_1.index t 1 = 36 + t.val / 16 % 2 := by
  decide +kernel
/-- The value blocks likewise. -/
theorem index2 : ∀ t : Fin grid0.N, win0_2.index t 0 = t.val / 32 * 2 + t.val % 2 ∧ win0_2.index t 1 = 38 + t.val / 16 % 2 := by
  decide +kernel
/-- The output blocks lie as the query blocks. -/
theorem index3 : ∀ t : Fin grid0.N, win0_3.index t 0 = t.val / 32 * 8 + t.val / 2 % 8 ∧ win0_3.index t 1 = t.val / 16 % 2 := by
  decide +kernel

/-- The score of query row `R` in the head of column `C` against key `j` of its batch. -/
def scoreAt (p : Vec Ideal S65536x5120 .bf16) (R : Fin 32768) (C : Fin 1024) (j : Fin 8192) : EReal :=
  ∑ d : Fin 128, p (ix2 ⟨R.val, by omega⟩ ⟨3584 + 128 * (C.val / 128) + d.val, by omega⟩)
    * p (ix2 ⟨8192 * (R.val / 8192) + j.val, by omega⟩ ⟨4608 + 128 * (C.val / 512) + d.val, by omega⟩)

/-- The value of key `j` in column `C`. -/
def valueAt (p : Vec Ideal S65536x5120 .bf16) (R : Fin 32768) (C : Fin 1024) (j : Fin 8192) : EReal :=
  p (ix2 ⟨8192 * (R.val / 8192) + j.val, by omega⟩ ⟨4864 + 128 * (C.val / 512) + C.val % 128, by omega⟩)

/-- What the kernel leaves at row `R`, column `C`. -/
def result (p : Vec Ideal S65536x5120 .bf16) : Vec Ideal S32768x1024 .bf16 := fun y =>
  Ideal.div (online 2 (scoreAt p (y 0) (y 1)) (valueAt p (y 0) (y 1))) (online 2 (scoreAt p (y 0) (y 1)) fun _ => 1)

variable (m : (ℓ : Loc nD τ sig) → Buf (Elt Ideal) ℓ) (c : Dev nD)

/-- The kernel's argument. -/
abbrev proj : Vec Ideal S65536x5120 .bf16 := m ((c : Thread nD τ).loc main_arg0)

/-- An entry of a query block. -/
theorem iblk0_apply (t : Fin cfg0.N) (r : Fin 1024) (d : Fin 512) (R : Fin 65536) (C : Fin 5120)
    (hR : R.val = 1024 * (t.val / 32 * 8 + t.val / 2 % 8) + r.val) (hC : C.val = 512 * (7 + t.val / 16 % 2) + d.val) :
    (iblk m c 0 t : Vec Ideal S1024x512 .bf16) (ix2 r d) = proj m c (ix2 R C) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [(index0 t).1, hR]; omega
  | ⟨1, _⟩ => show win0_0.index t 1 * 512 + 1 * d.val = C.val; rw [(index0 t).2, hC]; omega

/-- An entry of a key block. -/
theorem iblk1_apply (t : Fin cfg0.N) (r : Fin 4096) (d : Fin 128) (R : Fin 65536) (C : Fin 5120)
    (hR : R.val = 4096 * (t.val / 32 * 2 + t.val % 2) + r.val) (hC : C.val = 128 * (36 + t.val / 16 % 2) + d.val) :
    (iblk m c 1 t : Vec Ideal S4096x128 .bf16) (ix2 r d) = proj m c (ix2 R C) := by
  unfold iblk
  rw [View.read_apply]
  show V m c main_arg0 _ = m (c.tc.loc main_arg0) _
  unfold V
  congr 1
  funext a
  apply Fin.ext
  match a with
  | ⟨0, _⟩ => show win0_1.index t 0 * 4096 + 1 * r.val = R.val; rw [(index1 t).1, hR]; omega
  | ⟨1, _⟩ => show win0_1.index t 1 * 128 + 1 * d.val = C.val; rw [(index1 t).2, hC]; omega

/-- An entry of a value block. -/
theorem iblk2_apply (t : Fin cfg0.N) (r : Fin 4096) (d : Fin 128) (R : Fin 65536) (C : Fin 5120)
    (hR : R.val = 4096 * (t.val / 32 * 2 + t.val % 2) + r.val) (hC : C.val = 128 * (38 + t.val / 16 % 2) + d.val) :
    (iblk m c 2 t : Vec Ideal S4096x128 .bf16) (ix2 r d) = proj m c (ix2 R C) := by
  unfold iblk
  rw [View.read_apply]
  show V m c main_arg0 _ = m (c.tc.loc main_arg0) _
  unfold V
  congr 1
  funext a
  apply Fin.ext
  match a with
  | ⟨0, _⟩ => show win0_2.index t 0 * 4096 + 1 * r.val = R.val; rw [(index2 t).1, hR]; omega
  | ⟨1, _⟩ => show win0_2.index t 1 * 128 + 1 * d.val = C.val; rw [(index2 t).2, hC]; omega

/-- The point of block `k` of the keys, for a point `t` of the last block. -/
def point (t : Fin cfg0.N) (k : ℕ) : Fin cfg0.N := ⟨min (t.val - 1 + k) t.val, Nat.lt_of_le_of_lt (Nat.min_le_right _ _) t.isLt⟩

theorem point_val (t : Fin cfg0.N) (k : ℕ) : (point t k).val = min (t.val - 1 + k) t.val := rfl

/-- The query, key and value blocks of the points up to `t`. -/
abbrev queries (t : Fin cfg0.N) (k : ℕ) : Vec Ideal S1024x512 .bf16 := iblk m c 0 (point t k)
abbrev keys (t : Fin cfg0.N) (k : ℕ) : Vec Ideal S4096x128 .bf16 := iblk m c 1 (point t k)
abbrev values (t : Fin cfg0.N) (k : ℕ) : Vec Ideal S4096x128 .bf16 := iblk m c 2 (point t k)

/-- What a point of the second half writes back, over the input blocks of it and of the point before. -/
theorem flushed_eq (t : Fin cfg0.N) (ht : t.val % 2 = 1) :
    (dats m 0 c).flushed 3 t = (cfg0.win 3).cut (grid0.coords t)
      (outB (queries m c t 1) (keys m c t 1) (values m c t 1) (maxima (queries m c t) (keys m c t) 0)
        (sums (queries m c t) (keys m c t) (values m c t) 0)) := by
  have hv : (point t 0).val = t.val - 1 := by rw [point_val]; omega
  have e1 : point t 1 = t := Fin.ext (by rw [point_val]; omega)
  rw [Value.flushed3_B m c t (by omega) ht]
  have e := outsAt0_A m c (point t 0) (by omega) (by omega)
  rw [soutA_0, soutA_1, soutA_2] at e
  have e' : outsAt0 m c (t.val - 1) (Nat.lt_of_le_of_lt (Nat.sub_le _ _) t.isLt) = outsAt0 m c (point t 0).val (point t 0).isLt := by
    simp only [hv]
  rw [e', e]
  dsimp only
  rw [out_B]
  unfold queries keys values
  rw [e1]
  rfl

/-- An entry of what a point of the second half writes back. -/
theorem outB_result (t : Fin cfg0.N) (ht : t.val % 2 = 1) (r : Fin 1024) (d : Fin 512) (R : Fin 32768) (C : Fin 1024)
    (hR : R.val = 1024 * (t.val / 32 * 8 + t.val / 2 % 8) + r.val) (hC : C.val = 512 * (t.val / 16 % 2) + d.val) :
    outB (queries m c t 1) (keys m c t 1) (values m c t 1) (maxima (queries m c t) (keys m c t) 0)
        (sums (queries m c t) (keys m c t) (values m c t) 0) (ix2 r d)
      = result (proj m c) (ix2 R C) := by
  have hN : t.val < 128 := lt_of_lt_of_eq t.isLt N_0
  have hr := r.isLt
  have hd := d.isLt
  refine outB_apply 0 _ _ _ r d (scoreAt (proj m c) R C) (valueAt (proj m c) R C) (fun i j => ?_) fun i j => ?_
  · have hi := i.isLt
    have hk := key_val i j
    have hp := point_val t i.val
    unfold score scoreAt
    refine Finset.sum_congr rfl fun e _ => congrArg₂ (· * ·) ?_ ?_
    · exact iblk0_apply m c _ r _ _ _ (by dsimp only; omega) (by dsimp only [ix2]; omega)
    · exact iblk1_apply m c _ j e _ _ (by dsimp only; omega) (by dsimp only; omega)
  · have hi := i.isLt
    have hk := key_val i j
    have hp := point_val t i.val
    unfold valueAt
    exact iblk2_apply m c _ j _ _ _ (by dsimp only; omega) (by dsimp only; omega)

/-- The result array, as contents of its buffer. -/
abbrev resultBuf : Buf (Elt Ideal) ((c : Thread nD τ).loc main_v0) := result (proj m c)

/-- Every write-back writes its block of the result. -/
theorem flushed_result (t : Fin cfg0.N) (hf : (cfg0.win 3).flush t = true) :
    (dats m 0 c).flushed 3 t = ((cfg0.win 3).blk t).view.read (Elt Ideal) (resultBuf m c) := by
  have ht : t.val % 2 = 1 := (flush0_3 t).mp hf
  have hN : t.val < 128 := lt_of_lt_of_eq t.isLt N_0
  rw [flushed_eq m c t ht]
  funext y
  have hy0 : (y 0).val < 1024 := (y 0).isLt
  have hy1 : (y 1).val < 512 := (y 1).isLt
  rw [View.read_apply]
  have e : ((cfg0.win 3).blk t).view.emb y = (ix2 (⟨1024 * (t.val / 32 * 8 + t.val / 2 % 8) + (y 0).val, by omega⟩ : Fin 32768)
      (⟨512 * (t.val / 16 % 2) + (y 1).val, by omega⟩ : Fin 1024) : S32768x1024.Idx) := by
    funext a
    apply Fin.ext
    match a with
    | ⟨0, _⟩ => show win0_3.index t 0 * 1024 + 1 * (y 0).val = 1024 * (t.val / 32 * 8 + t.val / 2 % 8) + (y 0).val
                rw [(index3 t).1]; omega
    | ⟨1, _⟩ => show win0_3.index t 1 * 512 + 1 * (y 1).val = 512 * (t.val / 16 % 2) + (y 1).val
                rw [(index3 t).2]; omega
  rw [e]
  have ey : (y : S1024x512.Idx) = ix2 (⟨(y 0).val, hy0⟩ : Fin 1024) (⟨(y 1).val, hy1⟩ : Fin 512) := by
    funext a
    match a with
    | ⟨0, _⟩ => rfl
    | ⟨1, _⟩ => rfl
  refine Eq.trans ?_ (outB_result m c t ht ⟨(y 0).val, hy0⟩ ⟨(y 1).val, hy1⟩ _ _ rfl rfl)
  rw [← ey]

/-- The result array after the run. -/
theorem final_result : (dats m 0 c).arrAt 3 cfg0.N = resultBuf m c :=
  (dats m 0 c).arrAt_eq_of_cover 3 (resultBuf m c) (flushed_result m c) fun i => by
    have h0 : (i 0 : Nat) < 32768 := (i 0).isLt
    have h1 : (i 1 : Nat) < 1024 := (i 1).isLt
    have hN : cfg0.N = 128 := N_0
    let t : Fin cfg0.N := ⟨32 * ((i 0).val / 8192) + 16 * ((i 1).val / 512) + 2 * ((i 0).val / 1024 % 8) + 1, by omega⟩
    have ht : t.val = 32 * ((i 0).val / 8192) + 16 * ((i 1).val / 512) + 2 * ((i 0).val / 1024 % 8) + 1 := rfl
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1]; omega
    | ⟨1, _⟩ => show win0_3.index t 1 * 512 ≤ (i 1 : Nat) ∧ (i 1 : Nat) < win0_3.index t 1 * 512 + 512
                rw [(index3 t).2]; omega

end Cert.KernelIdeal.Attn

end
-- ==== Proof.RefRows.lean ====
/- The softmax of the attention's reference, over the last axis of the scores, at any number of sequences and of tokens. -/
module

public import proofs.«01_k».proof.Proof.Softmax
public import Idealize.ShloMosaic.Lib.StableHlo
public import Idealize.ShloMosaic.Lib.Pointwise
public import Idealize.ShloMosaic.Lib.Pipeline.Value
public import Idealize.ShloMosaic.Lib.ValueIdx
public import Idealize.ShloMosaic.PureOps.Ideal.Laws

@[expose] public section

set_option maxRecDepth 16384

noncomputable section

open Idealize.ShloMosaic Idealize.ShloMosaic.StableHlo

namespace Cert.RefRows

/-- The scores' shape: sequence, head of the keys, head of its group, query, key. -/
abbrev Scores (B T : ℕ) : Shape := ⟨5, ![B, 2, 4, T, T]⟩
/-- A number for every query. -/
abbrev Rows (B T : ℕ) : Shape := ⟨4, ![B, 2, 4, T]⟩
/-- The same with an axis for the keys. -/
abbrev Kept (B T : ℕ) : Shape := ⟨5, ![B, 2, 4, T, 1]⟩
/-- A single number. -/
abbrev One : Shape := ⟨0, ![]⟩

variable {B T : ℕ} (hr : (Scores B T).ReducesTo [4] (Rows B T)) (h0 : One.BroadcastsInDim (Rows B T) (![] : Fin 0 → Fin 4))
  (h1 : (Rows B T).BroadcastsInDim (Kept B T) (![0, 1, 2, 3] : Fin 4 → Fin 5))
  (h2 : (Kept B T).BroadcastsInDim (Scores B T) (![0, 1, 2, 3, 4] : Fin 5 → Fin 5)) (hz : 0 < One.numel)

/-- A row's number at every key of the row. -/
def spread (x : FVec Ideal (Rows B T) .f32) : FVec Ideal (Scores B T) .f32 :=
  broadcastInDim (Scores B T) ![0, 1, 2, 3, 4] h2 (broadcastInDim (Kept B T) ![0, 1, 2, 3] h1 x)

theorem spread_apply (x : FVec Ideal (Rows B T) .f32) (b : Fin B) (h : Fin 2) (g : Fin 4) (q k : Fin T) :
    spread h1 h2 x (ix5 b h g q k) = x (ix4 b h g q) := by
  have ib := b.isLt
  have iq := q.isLt
  unfold spread
  refine (broadcastInDim_apply _ h2 _ _ (ix5 b h g q 0) fun a => ?_).trans (broadcastInDim_apply _ h1 x _ (ix4 b h g q) fun a => ?_)
  · match a with
    | ⟨0, _⟩ => show b.val = if B = 1 then 0 else b.val; split_ifs <;> omega
    | ⟨1, _⟩ => rfl
    | ⟨2, _⟩ => rfl
    | ⟨3, _⟩ => show q.val = if T = 1 then 0 else q.val; split_ifs <;> omega
    | ⟨4, _⟩ => rfl
  · match a with
    | ⟨0, _⟩ => show b.val = if B = 1 then 0 else b.val; split_ifs <;> omega
    | ⟨1, _⟩ => rfl
    | ⟨2, _⟩ => rfl
    | ⟨3, _⟩ => show q.val = if T = 1 then 0 else q.val; split_ifs <;> omega

/-- The greatest score of each row. -/
def maxima (s : FVec Ideal (Scores B T) .f32) : FVec Ideal (Rows B T) .f32 :=
  maximumf (broadcastInDim (Rows B T) ![] h0 (constant One .f32 0xFF800000#32))
    (Host.reduce FloatOps.maximumf s (constant One .f32 0xFF800000#32) hr hz)

/-- The exponentials, the row's greatest score taken off. -/
def exps (s : FVec Ideal (Scores B T) .f32) : FVec Ideal (Scores B T) .f32 :=
  Host.exp (subf s (spread h1 h2 (maxima hr h0 hz s)))

/-- The weights: the exponentials over their row's sum. -/
def weights (s : FVec Ideal (Scores B T) .f32) : FVec Ideal (Scores B T) .f32 :=
  Host.divf (exps hr h0 h1 h2 hz s)
    (spread h1 h2 (Host.reduceAdd (exps hr h0 h1 h2 hz s) (constant One .f32 0x00000000#32) hr hz))

/-- The pattern of minus infinity. -/
theorem neg_inf : FloatOps.ofBits (F := Ideal) .f32 0xFF800000#32 = (⊥ : EReal) := by
  show Ideal.ofBits .f32 0xFF800000#32 = ⊥
  simp [Ideal.ofBits, Ideal.ieee]

variable (s : FVec Ideal (Scores B T) .f32) (b : Fin B) (h : Fin 2) (g : Fin 4) (q : Fin T) (f : Fin T → EReal)
  (hf : ∀ k, s (ix5 b h g q k) = f k)

include hf in
/-- A row's greatest score. -/
theorem maxima_apply : maxima hr h0 hz s (ix4 b h g q) = max ⊥ (Softmax.top f) := by
  obtain rfl : (fun k => s (ix5 b h g q k)) = f := funext hf
  unfold maxima
  refine congrArg₂ (fun x y : EReal => max x y) neg_inf ?_
  rw [Host.reduce_eq_fold, Shape.ReducesTo.fold_fiber_r5_a4]
  exact congrArg (fun x : EReal => Finset.univ.fold max x fun k : Fin T => s (ix5 b h g q k)) neg_inf

include hf in
/-- An exponential. -/
theorem exps_apply (k : Fin T) : exps hr h0 h1 h2 hz s (ix5 b h g q k) = Ideal.exp (f k - max ⊥ (Softmax.top f)) := by
  unfold exps
  show Ideal.exp (s (ix5 b h g q k) - spread h1 h2 (maxima hr h0 hz s) (ix5 b h g q k)) = _
  rw [spread_apply, maxima_apply hr h0 hz s b h g q f hf, hf]

include hf in
/-- A weight. -/
theorem weights_apply (hs : (Scores B T).Reduces [4] (Rows B T)) (k : Fin T) : weights hr h0 h1 h2 hz s (ix5 b h g q k)
    = Ideal.div (Ideal.exp (f k - max ⊥ (Softmax.top f))) (0 + ∑ j, Ideal.exp (f j - max ⊥ (Softmax.top f))) := by
  unfold weights
  show Ideal.div (exps hr h0 h1 h2 hz s (ix5 b h g q k)) (spread h1 h2 _ (ix5 b h g q k)) = _
  rw [spread_apply, exps_apply hr h0 h1 h2 hz s b h g q f hf]
  refine congrArg (fun x : EReal => Ideal.div _ x) ?_
  simp only [Host.reduceAdd, Ideal.hostReduceAdd_def]
  rw [Ideal.hostReduceAdd_single hr hs]
  refine congrArg₂ (fun x y : EReal => x + y) Ideal.ofBits_zero_f32 (Finset.sum_congr rfl fun j _ => ?_)
  refine Eq.trans (congrArg (exps hr h0 h1 h2 hz s) (funext fun a => ?_)) (exps_apply hr h0 h1 h2 hz s b h g q f hf j)
  match a with
  | ⟨0, _⟩ => rfl
  | ⟨1, _⟩ => rfl
  | ⟨2, _⟩ => rfl
  | ⟨3, _⟩ => rfl
  | ⟨4, _⟩ => rfl

end Cert.RefRows

end
-- ==== Proof.RefValue.lean ====
/- The reference's result at an index: a softmax row over the keys of the batch. -/
module

public import proofs.«01_k».proof.Proof.Gen.ReferenceIdeal.Read
public import proofs.«01_k».proof.Proof.RefRows
public import Idealize.ShloMosaic.Lib.Pointwise

@[expose] public section

set_option maxRecDepth 16384

noncomputable section

open Idealize.ShloMosaic

namespace Cert.ReferenceIdeal.Attn

open Cert.ReferenceIdeal Cert.ReferenceIdeal.Gen Cert.ReferenceIdeal.Read

variable (p : Vec Ideal S65536x5120 .bf16)

/-- An entry of the queries. -/
theorem query_apply (b : Fin 4) (q : Fin 8192) (h : Fin 2) (g : Fin 4) (d : Fin 128) :
    val_main_v3 (F := Ideal) p (ix5 b q h g d)
      = p (ix2 ⟨8192 * b.val + q.val, by omega⟩ ⟨3584 + 512 * h.val + 128 * g.val + d.val, by omega⟩) := by
  rw [val_main_v3_apply, val_main_v2_apply, val_main_v1_apply, val_main_v0_apply]
  refine congrArg p (funext fun a => Fin.ext ?_)
  match a with
  | ⟨0, _⟩ => show ((((b.val * 8192 + q.val) * 2 + h.val) * 4 + g.val) * 128 + d.val) / 1024 = 8192 * b.val + q.val
              omega
  | ⟨1, _⟩ => show 3584 + ((((b.val * 8192 + q.val) * 2 + h.val) * 4 + g.val) * 128 + d.val) % 1024
                = 3584 + 512 * h.val + 128 * g.val + d.val
              omega

/-- An entry of the keys. -/
theorem key_apply (b : Fin 4) (k : Fin 8192) (h : Fin 2) (d : Fin 128) :
    val_main_v5 (F := Ideal) p (ix4 b k h d)
      = p (ix2 ⟨8192 * b.val + k.val, by omega⟩ ⟨4608 + 128 * h.val + d.val, by omega⟩) := by
  rw [val_main_v5_apply, val_main_v4_apply, val_main_v1_apply, val_main_v0_apply]
  refine congrArg p (funext fun a => Fin.ext ?_)
  match a with
  | ⟨0, _⟩ => show (((b.val * 8192 + k.val) * 2 + h.val) * 128 + d.val) / 256 = 8192 * b.val + k.val
              omega
  | ⟨1, _⟩ => show 4608 + (((b.val * 8192 + k.val) * 2 + h.val) * 128 + d.val) % 256 = 4608 + 128 * h.val + d.val
              omega

/-- An entry of the values. -/
theorem value_apply (b : Fin 4) (k : Fin 8192) (h : Fin 2) (d : Fin 128) :
    val_main_v7 (F := Ideal) p (ix4 b k h d)
      = p (ix2 ⟨8192 * b.val + k.val, by omega⟩ ⟨4864 + 128 * h.val + d.val, by omega⟩) := by
  rw [val_main_v7_apply, val_main_v6_apply, val_main_v1_apply, val_main_v0_apply]
  refine congrArg p (funext fun a => Fin.ext ?_)
  match a with
  | ⟨0, _⟩ => show (((b.val * 8192 + k.val) * 2 + h.val) * 128 + d.val) / 256 = 8192 * b.val + k.val
              omega
  | ⟨1, _⟩ => show 4864 + (((b.val * 8192 + k.val) * 2 + h.val) * 128 + d.val) % 256 = 4864 + 128 * h.val + d.val
              omega

/-- The factor the queries are multiplied by: the logarithm of two. -/
theorem factor (i : S4x8192x2x4x128.Idx) : val_main_v9 (F := Ideal) i = ((Real.log 2 : ℝ) : EReal) := by
  rw [val_main_v9_apply, val_main_v8_apply, val_main_cst_apply]
  have e : FloatOps.ofBits (F := Ideal) .f32 0x40000000#32 = ((2 : ℝ) : EReal) := by
    show Ideal.ofBits .f32 0x40000000#32 = _
    simp [Ideal.ofBits, Ideal.ieee, -EReal.coe_mul]
    try norm_num
  rw [e]
  show Ideal.log ((2 : ℝ) : EReal) = _
  rw [Ideal.log_coe, if_neg (by norm_num)]

/-- A score: the key against the scaled query. -/
def score (b : Fin 4) (h : Fin 2) (g : Fin 4) (q k : Fin 8192) : EReal :=
  ∑ d : Fin 128, p (ix2 ⟨8192 * b.val + k.val, by omega⟩ ⟨4608 + 128 * h.val + d.val, by omega⟩)
    * (p (ix2 ⟨8192 * b.val + q.val, by omega⟩ ⟨3584 + 512 * h.val + 128 * g.val + d.val, by omega⟩) * ((Real.log 2 : ℝ) : EReal))

/-- An entry of the scores. -/
theorem scores_apply (b : Fin 4) (h : Fin 2) (g : Fin 4) (q k : Fin 8192) :
    val_main_v12 (F := Ideal) p (ix5 b h g q k) = score p b h g q k := by
  rw [val_main_v12_apply, val_main_v11_apply]
  unfold score
  refine Finset.sum_congr rfl fun d _ => congrArg₂ (· * ·) ?_ ?_
  · refine Eq.trans (congrArg (val_main_v5 (F := Ideal) p) (funext fun a => ?_)) (key_apply p b k h d)
    match a with
    | ⟨0, _⟩ => rfl
    | ⟨1, _⟩ => rfl
    | ⟨2, _⟩ => rfl
    | ⟨3, _⟩ => rfl
  · rw [val_main_v10_apply, factor]
    refine congrArg (fun x : EReal => x * ((Real.log 2 : ℝ) : EReal)) ?_
    refine Eq.trans (congrArg (val_main_v3 (F := Ideal) p) (funext fun a => ?_)) (query_apply p b q h g d)
    match a with
    | ⟨0, _⟩ => rfl
    | ⟨1, _⟩ => rfl
    | ⟨2, _⟩ => rfl
    | ⟨3, _⟩ => rfl
    | ⟨4, _⟩ => rfl

/-- A weight: an exponential over the sum of its row's. -/
theorem weight_apply (b : Fin 4) (h : Fin 2) (g : Fin 4) (q k : Fin 8192) :
    val_main_v23 (F := Ideal) p (ix5 b h g q k)
      = Ideal.div (Ideal.exp (score p b h g q k - max ⊥ (Softmax.top (score p b h g q))))
          (0 + ∑ j, Ideal.exp (score p b h g q j - max ⊥ (Softmax.top (score p b h g q)))) := by
  have e : val_main_v23 (F := Ideal) p = RefRows.weights reducesTo_S4x2x4x8192x8192_S4x2x4x8192_d4 bcast_S_S4x2x4x8192
      bcast_S4x2x4x8192_S4x2x4x8192x1_0_1_2_3 bcast_S4x2x4x8192x1_S4x2x4x8192x8192_0_1_2_3_4 h_S_ (val_main_v12 (F := Ideal) p) := rfl
  rw [e]
  exact RefRows.weights_apply _ _ _ _ _ _ b h g q _ (scores_apply p b h g q) (by decide) k

/-- The result at a row and a column: the softmax row of the scores against the column of the values. -/
theorem result_apply (R : Fin 32768) (C : Fin 1024) (b : Fin 4) (q : Fin 8192) (h : Fin 2) (g : Fin 4) (d : Fin 128)
    (hR : R.val = 8192 * b.val + q.val) (hC : C.val = 512 * h.val + 128 * g.val + d.val) :
    val_main_v27 (F := Ideal) p (ix2 R C)
      = Softmax.softmax (score p b h g q) fun k => p (ix2 ⟨8192 * b.val + k.val, by omega⟩ ⟨4864 + 128 * h.val + d.val, by omega⟩) := by
  rw [val_main_v27_apply]
  refine (?_ : val_main_v26 (F := Ideal) p (ix2 R C) = _)
  rw [val_main_v26_apply, val_main_v25_apply, val_main_v24_apply]
  unfold Softmax.softmax
  have e0 : (R.val * 1024 + C.val) / 8388608 = b.val := by omega
  have e1 : (R.val * 1024 + C.val) / 1024 % 8192 = q.val := by omega
  have e2 : (R.val * 1024 + C.val) / 512 % 2 = h.val := by omega
  have e3 : (R.val * 1024 + C.val) / 128 % 4 = g.val := by omega
  have e4 : (R.val * 1024 + C.val) % 128 = d.val := by omega
  refine Finset.sum_congr rfl fun k _ => congrArg₂ (· * ·) ?_ ?_
  · refine Eq.trans (congrArg (val_main_v7 (F := Ideal) p) (funext fun a => Fin.ext ?_)) (value_apply p b k h d)
    match a with
    | ⟨0, _⟩ => exact e0
    | ⟨1, _⟩ => rfl
    | ⟨2, _⟩ => exact e2
    | ⟨3, _⟩ => exact e4
  · refine Eq.trans (congrArg (val_main_v23 (F := Ideal) p) (funext fun a => Fin.ext ?_)) (weight_apply p b h g q k)
    match a with
    | ⟨0, _⟩ => exact e0
    | ⟨1, _⟩ => exact e2
    | ⟨2, _⟩ => exact e3
    | ⟨3, _⟩ => exact e1
    | ⟨4, _⟩ => rfl

end Cert.ReferenceIdeal.Attn

end
-- ==== Proof.Equal.lean ====
/- Where the queries and keys are finite, the kernel's result is the reference's. -/
module

public import proofs.«01_k».proof.Pre_finite
public import proofs.«01_k».proof.Proof.Tiles
public import proofs.«01_k».proof.Proof.RefValue

@[expose] public section

set_option maxRecDepth 16384

noncomputable section

open Idealize.ShloMosaic

namespace Cert.Attn

/-- The side conditions of the precondition's operations. -/
theorem finiteFacts : Cert.Pre_finite.Facts where
  slices_S65536x5120_S32768x1280_0_3584 := by decide
  bitsLt_bf16_f32 := by decide
  bcast_S_S32768x1280 := by decide

/-- The pattern of infinity. -/
theorem pos_inf : Ideal.ofBits .f32 0x7F800000#32 = ⊤ := by
  simp [Ideal.ofBits, Ideal.ieee]

/-- An extended real whose absolute value is below infinity is real. -/
theorem real_of_abs (x : EReal) (h : max x (-x) < ⊤) : ∃ r : ℝ, x = r := by
  induction x with
  | bot => exact absurd h (by simp)
  | top => exact absurd h (by simp)
  | coe r => exact ⟨r, rfl⟩

/-- The precondition's test of an entry says that it is real. -/
theorem real_of_test (x : EReal) (h : Ideal.cmp .olt (max x (-x)) (Ideal.ofBits .f32 0x7F800000#32) = 1#1) : ∃ r : ℝ, x = r := by
  refine real_of_abs _ ?_
  rw [pos_inf] at h
  by_contra hn
  rw [Ideal.cmp, decide_eq_false hn] at h
  exact absurd h (by decide)

/-- Products of real queries and keys are real, and with the queries multiplied by the logarithm of two they are those times it. -/
theorem scores_scaled {T : ℕ} (x : Fin 128 → EReal) (y : Fin T → Fin 128 → EReal) (hx : ∀ e, ∃ r : ℝ, x e = r)
    (hy : ∀ j e, ∃ r : ℝ, y j e = r) : ∃ s : Fin T → ℝ, (fun j => ∑ e, x e * y j e) = (fun j => (s j : EReal))
      ∧ (fun j => ∑ e, y j e * (x e * ((Real.log 2 : ℝ) : EReal))) = fun j => ((s j * Real.log 2 : ℝ) : EReal) := by
  choose u hu using hx
  choose w hw using hy
  refine ⟨fun j => ∑ e, u e * w j e, funext fun j => ?_, funext fun j => ?_⟩
  · refine Eq.trans (Finset.sum_congr rfl fun e _ => ?_) (Softmax.coe_sum _ _).symm
    rw [EReal.coe_mul, ← hu, ← hw]
  · rw [Finset.sum_mul]
    refine Eq.trans (Finset.sum_congr rfl fun e _ => ?_) (Softmax.coe_sum _ _).symm
    rw [hu, hw, ← EReal.coe_mul, ← EReal.coe_mul]
    exact congrArg _ (by ring)

/-- Under the precondition the queries and keys are real. -/
theorem real_entry (p : FVec Ideal Cert.Pre_finite.S65536x5120 .bf16)
    (h : @Cert.Pre_finite.fn finiteFacts Ideal _ p = fun _ => 1#1) (R : Fin 65536) (C : Fin 5120)
    (hR : R.val < 32768) (hC : 3584 ≤ C.val) (hC' : C.val < 4864) : ∃ r : ℝ, (p (ix2 R C) : EReal) = r := by
  have e := congrFun h (ix2 ⟨R.val, hR⟩ ⟨C.val - 3584, by omega⟩)
  unfold Cert.Pre_finite.fn at e
  refine real_of_test _ (Eq.trans ?_ e)
  have e1 : extractStridedSlice Cert.Pre_finite.S32768x1280 ![0, 3584] p finiteFacts.slices_S65536x5120_S32768x1280_0_3584
      (ix2 ⟨R.val, hR⟩ ⟨C.val - 3584, by omega⟩) = p (ix2 R C) :=
    extractStridedSlice_apply ![0, 3584] p _ _ _ fun a => by
      match a with
      | ⟨0, _⟩ => show R.val = 0 + R.val; omega
      | ⟨1, _⟩ => show C.val = 3584 + (C.val - 3584); omega
  rw [← e1]
  rfl

/-- A score of the kernel is real, and the reference's is it times the logarithm of two. -/
theorem scores_real (p : FVec Ideal Cert.Pre_finite.S65536x5120 .bf16)
    (h : @Cert.Pre_finite.fn finiteFacts Ideal _ p = fun _ => 1#1) (R : Fin 32768) (C : Fin 1024)
    (b : Fin 4) (q : Fin 8192) (hh : Fin 2) (g : Fin 4) (d : Fin 128)
    (hR : R.val = 8192 * b.val + q.val) (hC : C.val = 512 * hh.val + 128 * g.val + d.val) :
    ∃ s : Fin 8192 → ℝ, Cert.KernelIdeal.Attn.scoreAt p R C = (fun j => (s j : EReal))
      ∧ Cert.ReferenceIdeal.Attn.score p b hh g q = fun j => ((s j * Real.log 2 : ℝ) : EReal) := by
  have hx : ∀ e : Fin 128, ∃ r : ℝ,
      (p (ix2 ⟨8192 * b.val + q.val, by omega⟩ ⟨3584 + 512 * hh.val + 128 * g.val + e.val, by omega⟩) : EReal) = r :=
    fun e => real_entry p h _ _ (by dsimp only; omega) (by dsimp only; omega) (by dsimp only; omega)
  have hy : ∀ (j : Fin 8192) (e : Fin 128), ∃ r : ℝ,
      (p (ix2 ⟨8192 * b.val + j.val, by omega⟩ ⟨4608 + 128 * hh.val + e.val, by omega⟩) : EReal) = r :=
    fun j e => real_entry p h _ _ (by dsimp only; omega) (by dsimp only; omega) (by dsimp only; omega)
  obtain ⟨s, hs, hs'⟩ := scores_scaled _ _ hx hy
  refine ⟨s, Eq.trans (funext fun j => ?_) hs, hs'⟩
  unfold Cert.KernelIdeal.Attn.scoreAt
  refine Finset.sum_congr rfl fun e _ => ?_
  have e1 : 3584 + 128 * (C.val / 128) + e.val = 3584 + 512 * hh.val + 128 * g.val + e.val := by omega
  have e2 : 8192 * ((8192 * b.val + q.val) / 8192) + j.val = 8192 * b.val + j.val := by omega
  have e3 : 4608 + 128 * (C.val / 512) + e.val = 4608 + 128 * hh.val + e.val := by omega
  simp only [e1, e2, e3, hR]

/-- The kernel's result is the reference's. -/
theorem result_eq (p : FVec Ideal Cert.Pre_finite.S65536x5120 .bf16)
    (h : @Cert.Pre_finite.fn finiteFacts Ideal _ p = fun _ => 1#1) :
    Cert.KernelIdeal.Attn.result p = Cert.ReferenceIdeal.Read.val_main_v27 (F := Ideal) p := by
  funext y
  have h0 : (y 0).val < 32768 := (y 0).isLt
  have h1 : (y 1).val < 1024 := (y 1).isLt
  have ey : y = ix2 (⟨(y 0).val, h0⟩ : Fin 32768) (⟨(y 1).val, h1⟩ : Fin 1024) := by
    funext a
    match a with
    | ⟨0, _⟩ => rfl
    | ⟨1, _⟩ => rfl
  rw [ey]
  generalize (⟨(y 0).val, h0⟩ : Fin 32768) = R
  generalize (⟨(y 1).val, h1⟩ : Fin 1024) = C
  have hR : R.val = 8192 * (R.val / 8192) + R.val % 8192 := by omega
  have hC : C.val = 512 * (C.val / 512) + 128 * (C.val / 128 % 4) + C.val % 128 := by omega
  have b : (R.val / 8192) < 4 := by omega
  have q : (R.val % 8192) < 8192 := by omega
  have hh : C.val / 512 < 2 := by omega
  have g : C.val / 128 % 4 < 4 := by omega
  have d : C.val % 128 < 128 := by omega
  rw [Cert.ReferenceIdeal.Attn.result_apply p R C ⟨_, b⟩ ⟨_, q⟩ ⟨_, hh⟩ ⟨_, g⟩ ⟨_, d⟩ hR hC]
  obtain ⟨s, hs, hs'⟩ := scores_real p h R C ⟨_, b⟩ ⟨_, q⟩ ⟨_, hh⟩ ⟨_, g⟩ ⟨_, d⟩ hR hC
  rw [hs']
  refine Eq.trans ?_ (Softmax.online_softmax 1 s _)
  show Ideal.div (Softmax.online 2 (Cert.KernelIdeal.Attn.scoreAt p R C) (Cert.KernelIdeal.Attn.valueAt p R C))
    (Softmax.online 2 (Cert.KernelIdeal.Attn.scoreAt p R C) fun _ => 1) = _
  rw [hs]
  rfl

end Cert.Attn

end
-- ==== Proof.FfnBody.lean ====
/- The expert layer's kernel: what its launch reads off the memory, and its body run on any staging buffers, in each of its
   four cases (the experts' weights reloaded or kept, the tile full or empty). For any values. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.ReadBack
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the proof's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (`ok0`). The frame holds under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1088 .i32 := Memref.whole main_arg0
abbrev htbM0_0 : tbM0_0.IsWhole := Memref.isWhole_whole _
abbrev tbM0_1 : Memref sig .tc .smem S1088 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- Each window's current staging memref at point `t`, spelled as the pipeline passes it (`bodyAt0`), and its wholeness. -/
abbrev ms0_0 (hO : Ok m) (t : Fin (cfgM m hO).N) : Memref sig .tc .vmem S512x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2048 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2048x512 .bf16 := Memref.whole cc0_scratch0
abbrev scM0_1 : Memref sig .tc .vmem S2048x512 .bf16 := Memref.whole cc0_scratch1
abbrev scM0_2 : Memref sig .tc .vmem S512x2048 .bf16 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The words the body reads of the tables -/

/-- The tile's expert, -/
abbrev teW (c : Dev nD) (xt0 : TbBuf0 (F := F) c tbM0_0) (i : grid0.Coords) : BitVec 32 :=
  View.readAt (Elt F) tbM0_0.view (Rect.unit (s := S1088) (k0_off1 i) S1.size (k0_off1_inb i)).toLoadRect xt0 (Shape.Idx.first (numel1_S1.symm ▸ Nat.one_pos))
/-- the expert of the tile before, -/
abbrev tpW (c : Dev nD) (xt0 : TbBuf0 (F := F) c tbM0_0) (i : grid0.Coords) : BitVec 32 :=
  View.readAt (Elt F) tbM0_0.view (Rect.unit (s := S1088) (k0_off2 i) S1.size (k0_off2_inb i)).toLoadRect xt0 (Shape.Idx.first (numel1_S1.symm ▸ Nat.one_pos))
/-- and the tile's count of rows. -/
abbrev nvW (c : Dev nD) (xt1 : TbBuf0 (F := F) c tbM0_1) (i : grid0.Coords) : BitVec 32 :=
  View.readAt (Elt F) tbM0_1.view (Rect.unit (s := S1088) (k0_off1 i) S1.size (k0_off1_inb i)).toLoadRect xt1 (Shape.Idx.first (numel1_S1.symm ▸ Nat.one_pos))
/-- The weights are reloaded: at the first tile, and where the expert is not that of the tile before. -/
abbrev reloads (c : Dev nD) (xt0 : TbBuf0 (F := F) c tbM0_0) (i : grid0.Coords) : Prop :=
  (Scalar.cmpi .ne (Scalar.extui (Scalar.ori (Scalar.cmpi .eq (BitVec.ofNat 32 (i 0).val) 0#32) (Scalar.cmpi .ne (teW c xt0 i) (tpW c xt0 i)))) 0#32) = 1#1

/-! ## The body, case by case -/

/-- A load of a whole buffer reads what it holds. -/
theorem rd_unread {sp : Space} {s : Shape} {e : EltTy} (M : Memref sig .tc sp s e) (hM : M.IsWhole) (x : s.Idx → Elt F e) {off : Fin s.rank → ℕ}
    (inb : ∀ a, off a + s.size a ≤ s.size a) :
    View.readAt (Elt F) M.view (Rect.unit off s.size inb).toLoadRect (hM.unread x) = x :=
  (View.readAt_full _ _ inb).trans (hM.read_unread x)

set_option maxHeartbeats 4000000 in
/-- The weights reloaded, the tile full. -/
theorem body_A (c : Dev nD) (i : grid0.Coords) (arg3 : Memref sig .tc .vmem S512x1024 .i32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S512x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1)
    (hc0 : reloads c xt0 i) (h2 : k0_cond2 (nvW c xt1 i) = 1#1) (h3 : ¬k0_cond3 (nvW c xt1 i) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3) ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | (guard_target = Scalar.cmpi _ _ _ = _; exact hc0) | (guard_target = k0_cond2 _ = _; exact h2) | (guard_target = ¬(k0_cond3 _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact (View.read_writes_full _ _ _ _ _).trans (congr (congr (congr (congrArg k0_pay4 (rd_unread arg3 harg3 x0 _)) ((View.readCov_full _ _ _ _ _).trans (congrArg k0_pay1 (rd_unread arg4 harg4 x1 _)))) ((View.readCov_full _ _ _ _ _).trans (congrArg k0_pay2 (rd_unread arg5 harg5 x2 _)))) ((View.readCov_full _ _ _ _ _).trans (congrArg k0_pay3 (rd_unread arg6 harg6 x3 _))))
  isplitl [HS0]
  · iexists _; isplitr
    swap; · iexact HS0
    ipureintro
    exact (View.read_writes_full _ _ _ _ _).trans (congrArg k0_pay1 (rd_unread arg4 harg4 x1 _))
  isplitl [HS1]
  · iexists _; isplitr
    swap; · iexact HS1
    ipureintro
    exact (View.read_writes_full _ _ _ _ _).trans (congrArg k0_pay2 (rd_unread arg5 harg5 x2 _))
  isplitl [HS2]
  · iexists _; isplitr
    swap; · iexact HS2
    ipureintro
    exact (View.read_writes_full _ _ _ _ _).trans (congrArg k0_pay3 (rd_unread arg6 harg6 x3 _))
  isplitl [HT0]; · iexact HT0
  iexact HT1

set_option maxHeartbeats 4000000 in
/-- The weights reloaded, the tile empty. -/
theorem body_B (c : Dev nD) (i : grid0.Coords) (arg3 : Memref sig .tc .vmem S512x1024 .i32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S512x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1)
    (hc0 : reloads c xt0 i) (h2 : ¬k0_cond2 (nvW c xt1 i) = 1#1) (h3 : k0_cond3 (nvW c xt1 i) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (F := F)) ∗ owns (c : Thread nD τ) arg8 fullShare (k0_pay1 x1) ∗ owns (c : Thread nD τ) arg9 fullShare (k0_pay2 x2) ∗ owns (c : Thread nD τ) arg10 fullShare (k0_pay3 x3) ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | (guard_target = Scalar.cmpi _ _ _ = _; exact hc0) | (guard_target = ¬(k0_cond2 _ = _); exact h2) | (guard_target = k0_cond3 _ = _; exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact View.read_writes_full _ _ _ _ _
  isplitl [HS0]
  · iexists _; isplitr
    swap; · iexact HS0
    ipureintro
    exact (View.read_writes_full _ _ _ _ _).trans (congrArg k0_pay1 (rd_unread arg4 harg4 x1 _))
  isplitl [HS1]
  · iexists _; isplitr
    swap; · iexact HS1
    ipureintro
    exact (View.read_writes_full _ _ _ _ _).trans (congrArg k0_pay2 (rd_unread arg5 harg5 x2 _))
  isplitl [HS2]
  · iexists _; isplitr
    swap; · iexact HS2
    ipureintro
    exact (View.read_writes_full _ _ _ _ _).trans (congrArg k0_pay3 (rd_unread arg6 harg6 x3 _))
  isplitl [HT0]; · iexact HT0
  iexact HT1

set_option maxHeartbeats 4000000 in
/-- The weights kept, the tile full. -/
theorem body_C (c : Dev nD) (i : grid0.Coords) (arg3 : Memref sig .tc .vmem S512x1024 .i32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S512x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xs0 : Vec F S2048x512 .bf16) (xs1 : Vec F S2048x512 .bf16) (xs2 : Vec F S512x2048 .bf16)
    (hc0 : ¬reloads c xt0 i) (h2 : k0_cond2 (nvW c xt1 i) = 1#1) (h3 : ¬k0_cond3 (nvW c xt1 i) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 x0 xs0 xs1 xs2) ∗ owns (c : Thread nD τ) arg8 fullShare xs0 ∗ owns (c : Thread nD τ) arg9 fullShare xs1 ∗ owns (c : Thread nD τ) arg10 fullShare xs2 ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  sl_exec (disch := first | (guard_target = ¬(Scalar.cmpi _ _ _ = _); exact hc0) | (guard_target = k0_cond2 _ = _; exact h2) | (guard_target = ¬(k0_cond3 _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact (View.read_writes_full _ _ _ _ _).trans (congr (congr (congr (congrArg k0_pay4 (rd_unread arg3 harg3 x0 _)) (rd_unread arg8 harg8 xs0 _)) (rd_unread arg9 harg9 xs1 _)) (rd_unread arg10 harg10 xs2 _))
  isplitl [HS0]
  · iexists _; isplitr
    swap; · iexact HS0
    ipureintro
    exact harg8.read_unread _
  isplitl [HS1]
  · iexists _; isplitr
    swap; · iexact HS1
    ipureintro
    exact harg9.read_unread _
  isplitl [HS2]
  · iexists _; isplitr
    swap; · iexact HS2
    ipureintro
    exact harg10.read_unread _
  isplitl [HT0]; · iexact HT0
  iexact HT1

set_option maxHeartbeats 4000000 in
/-- The weights kept, the tile empty. -/
theorem body_D (c : Dev nD) (i : grid0.Coords) (arg3 : Memref sig .tc .vmem S512x1024 .i32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S512x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xs0 : Vec F S2048x512 .bf16) (xs1 : Vec F S2048x512 .bf16) (xs2 : Vec F S512x2048 .bf16)
    (hc0 : ¬reloads c xt0 i) (h2 : ¬k0_cond2 (nvW c xt1 i) = 1#1) (h3 : k0_cond3 (nvW c xt1 i) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (F := F)) ∗ owns (c : Thread nD τ) arg8 fullShare xs0 ∗ owns (c : Thread nD τ) arg9 fullShare xs1 ∗ owns (c : Thread nD τ) arg10 fullShare xs2 ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  sl_exec (disch := first | (guard_target = ¬(Scalar.cmpi _ _ _ = _); exact hc0) | (guard_target = ¬(k0_cond2 _ = _); exact h2) | (guard_target = k0_cond3 _ = _; exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact View.read_writes_full _ _ _ _ _
  isplitl [HS0]
  · iexists _; isplitr
    swap; · iexact HS0
    ipureintro
    exact harg8.read_unread _
  isplitl [HS1]
  · iexists _; isplitr
    swap; · iexact HS1
    ipureintro
    exact harg9.read_unread _
  isplitl [HS2]
  · iexists _; isplitr
    swap; · iexact HS2
    ipureintro
    exact harg10.read_unread _
  isplitl [HT0]; · iexact HT0
  iexact HT1

end Cert.Kernel2Ideal.Moe

end
-- ==== Proof.FfnFrame.lean ====
/- The expert layer's kernel launched: for tables whose experts are within the weights and whose counts of rows are not
   negative, every run ends, with the arguments as they were and each tile of the output as the case of its point leaves it. -/
module

public import proofs.«01_k».proof.Proof.FfnBody
public import Idealize.ShloMosaic.Lib.Claim
public import Idealize.ShloMosaic.Lib.Pointwise.Index

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The words of the tables -/

/-- Tile `t`'s expert. -/
def teAt (t : Fin grid0.N) : BitVec 32 := (tbl m 0 : S1088.Idx → BitVec 32) (ix1 ⟨t.val, lt_of_lt_of_eq t.isLt N_0⟩)
/-- Tile `t`'s count of rows. -/
def nvAt (t : Fin grid0.N) : BitVec 32 := (tbl m 1 : S1088.Idx → BitVec 32) (ix1 ⟨t.val, lt_of_lt_of_eq t.isLt N_0⟩)

/-- The grid coordinate of a point. -/
theorem coord (t : Fin grid0.N) : (grid0.coords t 0).val = t.val := by
  have ht : t.val < 1088 := Nat.lt_of_lt_of_eq t.isLt N_0
  have e0 : (grid0.coords t 0).val = t.val / 1 % 1088 := Pipeline.Grid.coords_val t 0 (by decide) rfl
  rw [e0]; omega

theorem off1_at (t : Fin grid0.N) : k0_off1 (grid0.coords t) 0 = t.val := by
  rw [k0_off1_eq]; exact coord t
theorem off2_at : ∀ t : Fin grid0.N, k0_off2 (grid0.coords t) 0 = t.val - 1 := by
  decide +kernel

/-- A bit widened and compared with zero is the bit. -/
theorem guard_eq : ∀ b : BitVec 1, Scalar.cmpi .ne (Scalar.extui b : BitVec 32) 0#32 = b := by decide
theorem cond2_eq (v : BitVec 32) : k0_cond2 v = Scalar.cmpi .sgt v 0#32 := guard_eq _
theorem cond3_eq (v : BitVec 32) : k0_cond3 v = Scalar.cmpi .eq v 0#32 := guard_eq _

theorem sgt_iff (a b : BitVec 32) : Scalar.cmpi .sgt a b = 1#1 ↔ b.toInt < a.toInt := by
  have h1 : (1#1 : BitVec 1) = BitVec.ofBool true := rfl
  simp only [Scalar.cmpi, IntOp.cmpi, h1, BitVec.ofBool_eq_iff_eq, BitVec.slt_iff_toInt_lt]
theorem eq_iff (a b : BitVec 32) : Scalar.cmpi .eq a b = 1#1 ↔ a = b := by
  have h1 : (1#1 : BitVec 1) = BitVec.ofBool true := rfl
  simp only [Scalar.cmpi, IntOp.cmpi, h1, BitVec.ofBool_eq_iff_eq, beq_iff_eq]
theorem ne_iff (a b : BitVec 32) : Scalar.cmpi .ne a b = 1#1 ↔ a ≠ b := by
  have h1 : (1#1 : BitVec 1) = BitVec.ofBool true := rfl
  simp only [Scalar.cmpi, IntOp.cmpi, h1, BitVec.ofBool_eq_iff_eq, bne_iff_ne, ne_eq]

/-- The tile is computed when it has rows, -/
theorem cond2_iff (v : BitVec 32) : k0_cond2 v = 1#1 ↔ 0 < v.toInt := by
  rw [cond2_eq]; exact sgt_iff v 0#32
/-- and filled with zeros when it has none. -/
theorem cond3_iff (v : BitVec 32) : k0_cond3 v = 1#1 ↔ v.toInt = 0 := by
  rw [cond3_eq]; exact (eq_iff v 0#32).trans ⟨fun h => h ▸ rfl, fun h => BitVec.eq_of_toInt_eq h⟩

/-- The words the body reads at a point are the tables' there. -/
theorem teW_eq (c : Dev nD) (t : Fin grid0.N) : teW c (tbl m 0) (grid0.coords t) = teAt m t := by
  refine congrArg (tbl m 0 : S1088.Idx → BitVec 32) (funext fun a => Fin.ext ?_)
  match a with
  | ⟨0, _⟩ => exact (Nat.add_zero _).trans (off1_at t)
theorem nvW_eq (c : Dev nD) (t : Fin grid0.N) : nvW c (tbl m 1) (grid0.coords t) = nvAt m t := by
  refine congrArg (tbl m 1 : S1088.Idx → BitVec 32) (funext fun a => Fin.ext ?_)
  match a with
  | ⟨0, _⟩ => exact (Nat.add_zero _).trans (off1_at t)
theorem tpW_eq (c : Dev nD) (t : Fin grid0.N) :
    tpW c (tbl m 0) (grid0.coords t) = teAt m ⟨t.val - 1, Nat.lt_of_le_of_lt (Nat.sub_le _ _) t.isLt⟩ := by
  refine congrArg (tbl m 0 : S1088.Idx → BitVec 32) (funext fun a => Fin.ext ?_)
  match a with
  | ⟨0, _⟩ => exact (Nat.add_zero _).trans (off2_at t)

theorem or_left : ∀ b : BitVec 1, Scalar.ori 1#1 b = 1#1 := by decide
theorem or_right : ∀ a b : BitVec 1, ¬Scalar.ori a b = 1#1 → ¬b = 1#1 := by decide

/-- The first tile's weights are loaded. -/
theorem reloads_first (c : Dev nD) (t : Fin grid0.N) (h : t.val = 0) : reloads c (tbl m 0) (grid0.coords t) := by
  show Scalar.cmpi .ne (Scalar.extui (Scalar.ori (Scalar.cmpi .eq (BitVec.ofNat 32 (grid0.coords t 0).val) 0#32) _)) 0#32 = 1#1
  rw [guard_eq, coord t, h]
  exact or_left _
/-- Weights that are kept are those of the tile before: it has the same expert. -/
theorem kept (c : Dev nD) (t : Fin grid0.N) (h : ¬reloads c (tbl m 0) (grid0.coords t)) :
    teAt m t = teAt m ⟨t.val - 1, Nat.lt_of_le_of_lt (Nat.sub_le _ _) t.isLt⟩ := by
  have h' : ¬Scalar.ori (Scalar.cmpi .eq (BitVec.ofNat 32 (grid0.coords t 0).val) 0#32)
      (Scalar.cmpi .ne (teW c (tbl m 0) (grid0.coords t)) (tpW c (tbl m 0) (grid0.coords t))) = 1#1 := fun e =>
    h ((guard_eq _).trans e)
  have h2 := or_right _ _ h'
  rw [teW_eq, tpW_eq] at h2
  exact Classical.not_not.mp fun hne => h2 ((ne_iff _ _).mpr hne)

/-- Every count of rows is not negative. -/
def Counts : Prop := ∀ t : Fin grid0.N, 0 ≤ (nvAt m t).toInt

/-! ## The weights' blocks -/

theorem tr1 (t : Fin grid0.N) : cc0_transform_1 k0_off1_inb numel1_S1 (tbl m) (grid0.coords t) 1 = (teAt m t).toNat := by
  refine congrArg BitVec.toNat (congrArg (tbl m 0 : S1088.Idx → BitVec 32) (funext fun a => Fin.ext ?_))
  match a with
  | ⟨0, _⟩ => exact (Nat.add_zero _).trans (off1_at t)
theorem tr2 (t : Fin grid0.N) : cc0_transform_2 k0_off1_inb numel1_S1 (tbl m) (grid0.coords t) 1 = (teAt m t).toNat := by
  refine congrArg BitVec.toNat (congrArg (tbl m 0 : S1088.Idx → BitVec 32) (funext fun a => Fin.ext ?_))
  match a with
  | ⟨0, _⟩ => exact (Nat.add_zero _).trans (off1_at t)
theorem tr3 (t : Fin grid0.N) : cc0_transform_3 k0_off1_inb numel1_S1 (tbl m) (grid0.coords t) 1 = (teAt m t).toNat := by
  refine congrArg BitVec.toNat (congrArg (tbl m 0 : S1088.Idx → BitVec 32) (funext fun a => Fin.ext ?_))
  match a with
  | ⟨0, _⟩ => exact (Nat.add_zero _).trans (off1_at t)

/-- The experts are within the weights. -/
theorem te_lt (hO : Ok m) (t : Fin grid0.N) : (teAt m t).toNat < 64 := by
  obtain ⟨h, -⟩ := hO.1 (grid0.coords t)
  have h1 := h 1
  rw [tr1] at h1
  have h2 : ((teAt m t).toNat + 1) * 1 ≤ 64 := h1
  omega

/-- An entry of a block of the first weights, -/
theorem iblk1_apply (hO : Ok m) (c : Dev nD) (t : Fin grid0.N) (r : Fin 2048) (d : Fin 512) :
    (iblk m hO c 1 t : Vec F S1x1x2048x512 .f32) (ix4 0 0 r d)
      = (m ((c : Thread nD τ).loc main_arg3) : Vec F S2x64x2048x512 .f32) (ix4 0 ⟨(teAt m t).toNat, te_lt m hO t⟩ r d) := by
  unfold iblk
  show V m c main_arg3 ((((cfgM m hO).win 1).blk t).view.emb (ix4 0 0 r d : S1x1x2048x512.Idx)) = m (c.tc.loc main_arg3) _
  unfold V
  congr 1
  funext a
  apply Fin.ext
  match a with
  | ⟨0, _⟩ => rfl
  | ⟨1, _⟩ => show cc0_transform_1 k0_off1_inb numel1_S1 (tbl m) (grid0.coords t) 1 * 1 + 1 * 0 = (teAt m t).toNat; rw [tr1]; omega
  | ⟨2, _⟩ => show 0 * 2048 + 1 * r.val = r.val; omega
  | ⟨3, _⟩ => show 0 * 512 + 1 * d.val = d.val; omega
/-- of the second, -/
theorem iblk2_apply (hO : Ok m) (c : Dev nD) (t : Fin grid0.N) (r : Fin 2048) (d : Fin 512) :
    (iblk m hO c 2 t : Vec F S1x1x2048x512 .f32) (ix4 0 0 r d)
      = (m ((c : Thread nD τ).loc main_arg4) : Vec F S2x64x2048x512 .f32) (ix4 0 ⟨(teAt m t).toNat, te_lt m hO t⟩ r d) := by
  unfold iblk
  show V m c main_arg4 ((((cfgM m hO).win 2).blk t).view.emb (ix4 0 0 r d : S1x1x2048x512.Idx)) = m (c.tc.loc main_arg4) _
  unfold V
  congr 1
  funext a
  apply Fin.ext
  match a with
  | ⟨0, _⟩ => rfl
  | ⟨1, _⟩ => show cc0_transform_2 k0_off1_inb numel1_S1 (tbl m) (grid0.coords t) 1 * 1 + 1 * 0 = (teAt m t).toNat; rw [tr2]; omega
  | ⟨2, _⟩ => show 0 * 2048 + 1 * r.val = r.val; omega
  | ⟨3, _⟩ => show 0 * 512 + 1 * d.val = d.val; omega
/-- and of the third. -/
theorem iblk3_apply (hO : Ok m) (c : Dev nD) (t : Fin grid0.N) (r : Fin 512) (d : Fin 2048) :
    (iblk m hO c 3 t : Vec F S1x1x512x2048 .f32) (ix4 0 0 r d)
      = (m ((c : Thread nD τ).loc main_arg5) : Vec F S2x64x512x2048 .f32) (ix4 0 ⟨(teAt m t).toNat, te_lt m hO t⟩ r d) := by
  unfold iblk
  show V m c main_arg5 ((((cfgM m hO).win 3).blk t).view.emb (ix4 0 0 r d : S1x1x512x2048.Idx)) = m (c.tc.loc main_arg5) _
  unfold V
  congr 1
  funext a
  apply Fin.ext
  match a with
  | ⟨0, _⟩ => rfl
  | ⟨1, _⟩ => show cc0_transform_3 k0_off1_inb numel1_S1 (tbl m) (grid0.coords t) 1 * 1 + 1 * 0 = (teAt m t).toNat; rw [tr3]; omega
  | ⟨2, _⟩ => show 0 * 512 + 1 * r.val = r.val; omega
  | ⟨3, _⟩ => show 0 * 2048 + 1 * d.val = d.val; omega

/-- An index of a block of the first or second weights is its row and column. -/
theorem idx_w (i : S1x1x2048x512.Idx) : i = ix4 0 0 (i 2) (i 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl
theorem idx_d (i : S1x1x512x2048.Idx) : i = ix4 0 0 (i 2) (i 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- Tiles of one expert have one block of each of the weights. -/
theorem iblk1_same (hO : Ok m) (c : Dev nD) (t s : Fin grid0.N) (h : teAt m t = teAt m s) :
    (iblk m hO c 1 t : Vec F S1x1x2048x512 .f32) = iblk m hO c 1 s := by
  funext i
  rw [idx_w i]
  refine (iblk1_apply m hO c t _ _).trans (Eq.trans ?_ (iblk1_apply m hO c s _ _).symm)
  simp only [h]
  rfl
theorem iblk2_same (hO : Ok m) (c : Dev nD) (t s : Fin grid0.N) (h : teAt m t = teAt m s) :
    (iblk m hO c 2 t : Vec F S1x1x2048x512 .f32) = iblk m hO c 2 s := by
  funext i
  rw [idx_w i]
  refine (iblk2_apply m hO c t _ _).trans (Eq.trans ?_ (iblk2_apply m hO c s _ _).symm)
  simp only [h]
  rfl
theorem iblk3_same (hO : Ok m) (c : Dev nD) (t s : Fin grid0.N) (h : teAt m t = teAt m s) :
    (iblk m hO c 3 t : Vec F S1x1x512x2048 .f32) = iblk m hO c 3 s := by
  funext i
  rw [idx_d i]
  refine (iblk3_apply m hO c t _ _).trans (Eq.trans ?_ (iblk3_apply m hO c s _ _).symm)
  simp only [h]
  rfl

/-! ## What each point leaves -/

/-- The scratches after point `t`: the weights of its expert. -/
def w1 (hO : Ok m) (c : Dev nD) (t : Fin grid0.N) : Vec F S2048x512 .bf16 := k0_pay1 (iblk m hO c 1 t)
def w2 (hO : Ok m) (c : Dev nD) (t : Fin grid0.N) : Vec F S2048x512 .bf16 := k0_pay2 (iblk m hO c 2 t)
def w3 (hO : Ok m) (c : Dev nD) (t : Fin grid0.N) : Vec F S512x2048 .bf16 := k0_pay3 (iblk m hO c 3 t)
/-- The output's block after point `t`. -/
def outAt (hO : Ok m) (c : Dev nD) (t : Fin grid0.N) : Vec F S512x2048 .f32 :=
  if 0 < (nvAt m t).toInt then k0_pay4 (iblk m hO c 0 t) (w1 m hO c t) (w2 m hO c t) (w3 m hO c t) else k0_pay5

/-- What the kernel holds between points: the tables' halves, and after the first point the scratches at the weights of the
    last point's expert. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare (w1 m hO c ⟨n, hn⟩) ∗ owns (c : Thread nD τ) scM0_1 fullShare (w2 m hO c ⟨n, hn⟩) ∗ owns (c : Thread nD τ) scM0_2 fullShare (w3 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (t : Fin grid0.N) :
    PhiS m hO c (t.val + 1) t.isLt = iprop(iprop(iprop(owns (c : Thread nD τ) scM0_0 fullShare (w1 m hO c t) ∗ owns (c : Thread nD τ) scM0_1 fullShare (w2 m hO c t) ∗ owns (c : Thread nD τ) scM0_2 fullShare (w3 m hO c t)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (w1 m hO c ⟨n - 1, Nat.lt_of_lt_of_le (Nat.sub_one_lt hz) h⟩) ∗ owns (c : Thread nD τ) scM0_1 fullShare (w2 m hO c ⟨n - 1, Nat.lt_of_lt_of_le (Nat.sub_one_lt hz) h⟩) ∗ owns (c : Thread nD τ) scM0_2 fullShare (w3 m hO c ⟨n - 1, Nat.lt_of_lt_of_le (Nat.sub_one_lt hz) h⟩)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the output's at `outAt`; the invariant `PhiS`; nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 6400000 in
/-- The body at any point: the case its words select. -/
theorem sound_body (hO : Ok m) (hC : Counts m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ m hO c t, PhiT0_eq, PhiS_castSucc m hO c t]
  have hnv : ∀ P : BitVec 32 → Prop, P (nvAt m t) → P (nvW c (tbl m 1) (grid0.coords t)) := fun P h => (nvW_eq m c t).symm ▸ h
  by_cases hr : reloads c (tbl m 0) (grid0.coords t)
  · by_cases hf : 0 < (nvAt m t).toInt
    · by_cases hz : t.val = 0
      · have hout : outAt m hO c t = k0_pay4 (iblk m hO c 0 t) (k0_pay1 (iblk m hO c 1 t)) (k0_pay2 (iblk m hO c 2 t)) (k0_pay3 (iblk m hO c 3 t)) := if_pos hf
        rw [PhiS_zero m hO c _ _ hz, PhiT0_eq, PhiA0_eq, hout]
        iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
        iapply (body_A c (grid0.coords t) _ _ _ _ _ _ _ _ _ _ _ _ _ _ _ _ (iblk m hO c 0 t) (iblk m hO c 1 t) (iblk m hO c 2 t) (iblk m hO c 3 t) (tbl m 0) (tbl m 1) hr (hnv (fun v => k0_cond2 v = 1#1) ((cond2_iff _).mpr hf)) (hnv (fun v => ¬k0_cond3 v = 1#1) fun e => absurd ((cond3_iff _).mp e) (by omega)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT0]; · iexact HT0
        isplitl [HT1]; · iexact HT1
        iintro ⟨H0, H1, H2, H3, H4, HS0, HS1, HS2, HT0, HT1⟩
        isplitl [HS0 HS1 HS2 Hg HT0 HT1]
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · have hout : outAt m hO c t = k0_pay4 (iblk m hO c 0 t) (k0_pay1 (iblk m hO c 1 t)) (k0_pay2 (iblk m hO c 2 t)) (k0_pay3 (iblk m hO c 3 t)) := if_pos hf
        rw [PhiS_pos m hO c _ _ hz, PhiT0_eq, hout]
        iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
        iapply (body_A c (grid0.coords t) _ _ _ _ _ _ _ _ _ _ _ _ _ _ _ _ (iblk m hO c 0 t) (iblk m hO c 1 t) (iblk m hO c 2 t) (iblk m hO c 3 t) (tbl m 0) (tbl m 1) hr (hnv (fun v => k0_cond2 v = 1#1) ((cond2_iff _).mpr hf)) (hnv (fun v => ¬k0_cond3 v = 1#1) fun e => absurd ((cond3_iff _).mp e) (by omega)) Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HS1]; · iexists _; iexact HS1
        isplitl [HS2]; · iexists _; iexact HS2
        isplitl [HT0]; · iexact HT0
        isplitl [HT1]; · iexact HT1
        iintro ⟨H0, H1, H2, H3, H4, HS0, HS1, HS2, HT0, HT1⟩
        isplitl [HS0 HS1 HS2 Hg HT0 HT1]
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
    · have hf0 := hC t
      by_cases hz : t.val = 0
      · have hout : outAt m hO c t = k0_pay5 := if_neg hf
        rw [PhiS_zero m hO c _ _ hz, PhiT0_eq, PhiA0_eq, hout]
        iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
        iapply (body_B c (grid0.coords t) _ _ _ _ _ _ _ _ _ _ _ _ _ _ _ _ (iblk m hO c 0 t) (iblk m hO c 1 t) (iblk m hO c 2 t) (iblk m hO c 3 t) (tbl m 0) (tbl m 1) hr (hnv (fun v => ¬k0_cond2 v = 1#1) fun e => hf ((cond2_iff _).mp e)) (hnv (fun v => k0_cond3 v = 1#1) ((cond3_iff _).mpr (by omega))) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT0]; · iexact HT0
        isplitl [HT1]; · iexact HT1
        iintro ⟨H0, H1, H2, H3, H4, HS0, HS1, HS2, HT0, HT1⟩
        isplitl [HS0 HS1 HS2 Hg HT0 HT1]
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · have hout : outAt m hO c t = k0_pay5 := if_neg hf
        rw [PhiS_pos m hO c _ _ hz, PhiT0_eq, hout]
        iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
        iapply (body_B c (grid0.coords t) _ _ _ _ _ _ _ _ _ _ _ _ _ _ _ _ (iblk m hO c 0 t) (iblk m hO c 1 t) (iblk m hO c 2 t) (iblk m hO c 3 t) (tbl m 0) (tbl m 1) hr (hnv (fun v => ¬k0_cond2 v = 1#1) fun e => hf ((cond2_iff _).mp e)) (hnv (fun v => k0_cond3 v = 1#1) ((cond3_iff _).mpr (by omega))) Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HS1]; · iexists _; iexact HS1
        isplitl [HS2]; · iexists _; iexact HS2
        isplitl [HT0]; · iexact HT0
        isplitl [HT1]; · iexact HT1
        iintro ⟨H0, H1, H2, H3, H4, HS0, HS1, HS2, HT0, HT1⟩
        isplitl [HS0 HS1 HS2 Hg HT0 HT1]
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
  · have hz : t.val ≠ 0 := fun h => hr (reloads_first m c t h)
    have hk := kept m c t hr
    have k1 : w1 m hO c ⟨t.val - 1, Nat.lt_of_lt_of_le (Nat.sub_one_lt hz) (Nat.le_of_lt t.isLt)⟩ = w1 m hO c t := congrArg k0_pay1 (iblk1_same m hO c _ _ hk.symm)
    have k2 : w2 m hO c ⟨t.val - 1, Nat.lt_of_lt_of_le (Nat.sub_one_lt hz) (Nat.le_of_lt t.isLt)⟩ = w2 m hO c t := congrArg k0_pay2 (iblk2_same m hO c _ _ hk.symm)
    have k3 : w3 m hO c ⟨t.val - 1, Nat.lt_of_lt_of_le (Nat.sub_one_lt hz) (Nat.le_of_lt t.isLt)⟩ = w3 m hO c t := congrArg k0_pay3 (iblk3_same m hO c _ _ hk.symm)
    by_cases hf : 0 < (nvAt m t).toInt
    · have hout : outAt m hO c t = k0_pay4 (iblk m hO c 0 t) (w1 m hO c t) (w2 m hO c t) (w3 m hO c t) := if_pos hf
      rw [PhiS_pos m hO c _ _ hz, PhiT0_eq, hout, k1, k2, k3]
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
      iapply (body_C c (grid0.coords t) _ _ _ _ _ _ _ _ _ _ _ _ _ _ _ _ (iblk m hO c 0 t) (iblk m hO c 1 t) (iblk m hO c 2 t) (iblk m hO c 3 t) (tbl m 0) (tbl m 1) _ _ _ hr (hnv (fun v => k0_cond2 v = 1#1) ((cond2_iff _).mpr hf)) (hnv (fun v => ¬k0_cond3 v = 1#1) fun e => absurd ((cond3_iff _).mp e) (by omega)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      iintro ⟨H0, H1, H2, H3, H4, HS0, HS1, HS2, HT0, HT1⟩
      isplitl [HS0 HS1 HS2 Hg HT0 HT1]
      · isplitl [HS0 HS1 HS2 Hg]
        · isplitl [HS0 HS1 HS2]
          · isplitl [HS0]
            · iexact HS0
            isplitl [HS1]
            · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have hf0 := hC t
      have hout : outAt m hO c t = k0_pay5 := if_neg hf
      rw [PhiS_pos m hO c _ _ hz, PhiT0_eq, hout, k1, k2, k3]
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
      iapply (body_D c (grid0.coords t) _ _ _ _ _ _ _ _ _ _ _ _ _ _ _ _ (iblk m hO c 0 t) (iblk m hO c 1 t) (iblk m hO c 2 t) (iblk m hO c 3 t) (tbl m 0) (tbl m 1) _ _ _ hr (hnv (fun v => ¬k0_cond2 v = 1#1) fun e => hf ((cond2_iff _).mp e)) (hnv (fun v => k0_cond3 v = 1#1) ((cond3_iff _).mpr (by omega))) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      iintro ⟨H0, H1, H2, H3, H4, HS0, HS1, HS2, HT0, HT1⟩
      isplitl [HS0 HS1 HS2 Hg HT0 HT1]
      · isplitl [HS0 HS1 HS2 Hg]
        · isplitl [HS0 HS1 HS2]
          · isplitl [HS0]
            · iexact HS0
            isplitl [HS1]
            · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body at every point, as the launch asks it: the output is written back at every point. -/
theorem body_obligation (hO : Ok m) (hC : Counts m) (c : Dev nD) : BodyObligation (dats (F := F) m hO 0 c) (defs₀ (F := F)) Variants.none () Set.univ := fun t => by
  rw [bigSep_W0, bigSep_W0, defs₀_row m hO]
  have h4 : (dats m hO 0 c).leavesExact 4 t = owns (c : Thread nD τ) (ms0_4 m hO t) fullShare ((dats m hO 0 c).after 4 t) := by
    unfold Dat.leavesExact
    rw [flush0_4 (adm m hO) t]
    cases (cfgM m hO).idle 4 ((cfgM m hO).grid.coords t) <;> rfl
  exact triple_restated (sound_body m hO hC c t) rfl .rfl fun _ =>
    sep_mono .rfl (sep_mono .rfl (sep_mono .rfl (sep_mono .rfl (sep_mono .rfl (sep_mono .rfl (Entails.of_eq h4.symm))))))

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1088 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hO : Ok m) (hC : Counts m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hC c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hC : Counts m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hC)

/-- `frame` without the counters: the argument arrays end unchanged. -/
theorem unchanged (hO : Ok m) (hC : Counts m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO hC)

/-- The arguments end as they were, and every counter at zero. -/
theorem frame (hO : Ok m) (hC : Counts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hC) ((θ_run defs _ _).mono (fun _ h => h.2) (run_main_quiescent m ρ hO hC))

end Cert.Kernel2Ideal.Moe

end
-- ==== Proof.FfnPre.lean ====
/- What the precondition on the tables says of each word: the expert is one of the sixty-four, the count is not negative. -/
module

public import proofs.«01_k».proof.Pre_tables
public import Idealize.ShloMosaic.Lib.StableHlo.Predicate

@[expose] public section

set_option maxRecDepth 16384

noncomputable section

namespace Moe

open Idealize.ShloMosaic Cert.Pre_tables

/-- A conjunction of bits. -/
theorem and_bit : ∀ a b : BitVec 1, IntOp.andi a b = 1#1 → a = 1#1 ∧ b = 1#1 := by decide

/-- The tables' words under the precondition. -/
theorem words {F : FTy → Type} [FloatOps F] [Facts] (te nv : IVec S1088 32) (x : IVec S557056x1024 32)
    (a b : FVec F S2x64x2048x512 .f32) (d : FVec F S2x64x512x2048 .f32)
    (h : fn te nv x a b d = fun _ => 1#1) (i : S1088.Idx) :
    0 ≤ (te i).toInt ∧ (te i).toInt < 64 ∧ 0 ≤ (nv i).toInt := by
  have e : IntOp.andi (IntOp.andi (IntOp.cmpi .sge (te i) 0#32) (IntOp.cmpi .slt (te i) 64#32)) (IntOp.cmpi .sge (nv i) 0#32) = 1#1 :=
    congrFun h i
  obtain ⟨e12, e3⟩ := and_bit _ _ e
  obtain ⟨e1, e2⟩ := and_bit _ _ e12
  have h1 : (1#1 : BitVec 1) = BitVec.ofBool true := rfl
  simp only [IntOp.cmpi, h1, BitVec.ofBool_eq_iff_eq, BitVec.slt_iff_toInt_lt, BitVec.sle_iff_toInt_le] at e1 e2 e3
  exact ⟨e1, e2, e3⟩

/-- A word within the experts is the number it names. -/
theorem toNat_lt (w : BitVec 32) (h0 : 0 ≤ w.toInt) (h1 : w.toInt < 64) : w.toNat < 64 ∧ w.toInt.toNat = w.toNat := by
  have hw := w.isLt
  rw [BitVec.toInt_eq_toNat_cond] at h0 h1 ⊢
  split at h0 <;> split at h1 <;> simp_all <;> omega

end Moe

end
-- ==== Proof.FfnOk.lean ====
/- The precondition on the tables gives what the launch of the expert layer's kernel needs. -/
module

public import proofs.«01_k».proof.Proof.FfnFrame
public import proofs.«01_k».proof.Proof.FfnPre
public import proofs.«01_k».proof.Defs

@[expose] public section

set_option maxRecDepth 16384

noncomputable section

namespace Cert.Kernel2Ideal.Moe

open Cert.Kernel2Ideal Cert.Kernel2Ideal.Gen
open Idealize.ShloMosaic Idealize.ShloMosaic.TcCoe

variable {F : FTy → Type} [FloatOps F]
variable (m : (ℓ : Loc nD τ sig) → Buf (Elt F) ℓ)

/-- Experts within the weights: every block of weights is within its array. -/
theorem ok_of_words (h : ∀ i : S1088.Idx, ((tbl m 0 : S1088.Idx → BitVec 32) i).toNat < 64) : Ok m := by
  refine ⟨fun i => ⟨fun a => ?_, .inl rfl⟩, fun i => ⟨fun a => ?_, .inl rfl⟩, fun i => ⟨fun a => ?_, .inl rfl⟩⟩
  · match a with
    | ⟨0, _⟩ => show (0 + 1) * 1 ≤ 2; omega
    | ⟨1, _⟩ => exact (Nat.mul_one _).le.trans (h _)
    | ⟨2, _⟩ => show (0 + 1) * 2048 ≤ 2048; omega
    | ⟨3, _⟩ => show (0 + 1) * 512 ≤ 512; omega
  · match a with
    | ⟨0, _⟩ => show (0 + 1) * 1 ≤ 2; omega
    | ⟨1, _⟩ => exact (Nat.mul_one _).le.trans (h _)
    | ⟨2, _⟩ => show (0 + 1) * 2048 ≤ 2048; omega
    | ⟨3, _⟩ => show (0 + 1) * 512 ≤ 512; omega
  · match a with
    | ⟨0, _⟩ => show (0 + 1) * 1 ≤ 2; omega
    | ⟨1, _⟩ => exact (Nat.mul_one _).le.trans (h _)
    | ⟨2, _⟩ => show (0 + 1) * 512 ≤ 512; omega
    | ⟨3, _⟩ => show (0 + 1) * 2048 ≤ 2048; omega

end Cert.Kernel2Ideal.Moe

namespace Cert.Kernel2Ideal.Moe

open Cert.Kernel2Ideal Cert.Kernel2Ideal.Gen
open Idealize.ShloMosaic Idealize.ShloMosaic.TcCoe

variable [Cert.Pre_tables.Facts] (m : (ℓ : Loc nD τ sig) → Buf (Elt Ideal) ℓ)

/-- The words of the tables the kernel reads. -/
theorem words_tbl (h : Cert.Pre_Kernel2Ideal m) (i : S1088.Idx) :
    0 ≤ ((tbl m 0 : S1088.Idx → BitVec 32) i).toInt ∧ ((tbl m 0 : S1088.Idx → BitVec 32) i).toInt < 64
      ∧ 0 ≤ ((tbl m 1 : S1088.Idx → BitVec 32) i).toInt :=
  _root_.Moe.words _ _ _ _ _ _ (h 0) i

theorem ok_of_pre (h : Cert.Pre_Kernel2Ideal m) : Ok m :=
  ok_of_words m fun i => (_root_.Moe.toNat_lt _ (words_tbl m h i).1 (words_tbl m h i).2.1).1

theorem counts_of_pre (h : Cert.Pre_Kernel2Ideal m) : Counts m := fun t => (words_tbl m h _).2.2

end Cert.Kernel2Ideal.Moe

end
-- ==== Proof.FfnSame.lean ====
/- The expert layer's kernel and its ideal program have one text, so the frame of the one is the other's. -/
module

public import proofs.«01_k».proof.Proof.FfnOk
public import proofs.«01_k».proof.Proof.Gen.Kernel2

@[expose] public section

set_option maxRecDepth 16384

noncomputable section

namespace Cert.Kernel2.Moe

open Idealize.ShloMosaic Idealize.ShloMosaic.TcCoe Idealize.SL.Sem

/-- The kernels' functions are the same. -/
theorem defs₀_eq : @Cert.Kernel2.defs₀ Bits _ Cert.Kernel2.Gen.facts = @Cert.Kernel2Ideal.defs₀ Bits _ Cert.Kernel2Ideal.Gen.facts := by
  delta Cert.Kernel2.defs₀ Cert.Kernel2Ideal.defs₀
  refine congrArg _ (funext fun l => funext fun x => ?_)
  match l, x with
  | 0, (t, _) =>
    show Cert.Kernel2.cc0_moe_ffn (Cert.Kernel2.grid0.coords t) _ _ _ _ _ _ _ _ _ _ _ _ _ _ _ _ _ _ _ _
      = Cert.Kernel2Ideal.cc0_moe_ffn (Cert.Kernel2Ideal.grid0.coords t) _ _ _ _ _ _ _ _ _ _ _ _ _ _ _ _ _ _ _ _
    delta Cert.Kernel2.cc0_moe_ffn Cert.Kernel2Ideal.cc0_moe_ffn
    rfl

/-- So are their pipelines. -/
theorem defs_eq : @Cert.Kernel2.defs Bits _ Cert.Kernel2.Gen.facts = @Cert.Kernel2Ideal.defs Bits _ Cert.Kernel2Ideal.Gen.facts := by
  delta Cert.Kernel2.defs Cert.Kernel2Ideal.defs
  exact congrArg (Idealize.ShloMosaic.Pipeline.defs (@Cert.Kernel2.pcfgs Bits _ Cert.Kernel2.Gen.facts)) defs₀_eq

/-- From tables of experts and counts the kernel runs, keeps its arguments and leaves every counter at zero. -/
theorem frame [Cert.Pre_tables.Facts] : Cert.quiescent_Kernel2 := fun m ρ h => by
  have w := fun i => _root_.Moe.words _ _ _ _ _ _ (h 0) i
  have k := Cert.Kernel2Ideal.Moe.frame (F := Bits) m ρ
    (Cert.Kernel2Ideal.Moe.ok_of_words m fun i => (_root_.Moe.toNat_lt _ (w i).1 (w i).2.1).1) fun t => (w _).2.2
  rw [defs_eq]
  exact k

end Cert.Kernel2.Moe

end
-- ==== Proof.FfnMath.lean ====
/- One row of the expert layer, as sums. -/
module

public import Idealize.ShloMosaic.Lib.Pointwise

@[expose] public section

noncomputable section

open Idealize.ShloMosaic

namespace Moe

/-- A row of numbers out of words that hold two each: the low halves, then the high halves. -/
def unpack (x : Fin 1024 → BitVec 32) (k : Fin 2048) : EReal :=
  if h : k.val < 1024 then Ideal.ofBits .f32 (x ⟨k.val, h⟩ <<< (16#32 : BitVec 32))
  else Ideal.ofBits .f32 (x ⟨k.val - 1024, by omega⟩ &&& 4294901760#32)

/-- A row against a column. -/
def dot (x : Fin 2048 → EReal) (w : Fin 2048 → Fin 512 → EReal) (j : Fin 512) : EReal := ∑ k, x k * w k j

/-- A shift of a word by sixteen, on either unit. -/
theorem shl_16 (u : ArithUnit) (x : BitVec 32) : IntOp.shli u x 16#32 = x <<< (16#32 : BitVec 32) := if_pos (by decide)

/-- An unpacked row against a column: the low halves' sum and the high halves'. -/
theorem dot_unpack (x : Fin 1024 → BitVec 32) (w : Fin 2048 → Fin 512 → EReal) (j : Fin 512) :
    dot (unpack x) w j = ∑ k : Fin 1024, Ideal.ofBits .f32 (x k <<< (16#32 : BitVec 32)) * w ⟨k.val, by omega⟩ j
      + ∑ k : Fin 1024, Ideal.ofBits .f32 (x k &&& 4294901760#32) * w ⟨1024 + k.val, by omega⟩ j := by
  unfold dot
  refine (Fin.sum_univ_add (a := 1024) (b := 1024) fun k : Fin (1024 + 1024) => unpack x k * w k j).trans ?_
  refine congrArg₂ (· + ·) (Finset.sum_congr rfl fun k _ => ?_) (Finset.sum_congr rfl fun k _ => ?_)
  · refine congrArg₂ (· * ·) ?_ rfl
    unfold unpack
    rw [dif_pos (show (Fin.castAdd 1024 k).val < 1024 from k.isLt)]
    rfl
  · refine congrArg₂ (· * ·) ?_ rfl
    unfold unpack
    have e : (Fin.natAdd 1024 k).val = 1024 + k.val := rfl
    rw [dif_neg (by omega)]
    have e' : (⟨(Fin.natAdd 1024 k).val - 1024, by omega⟩ : Fin 1024) = k := Fin.ext (by show 1024 + k.val - 1024 = k.val; omega)
    rw [e']

/-- A hidden number: the gate through `y / (1 + exp (-y))`, times the other product. -/
def hidden (x : Fin 2048 → EReal) (wg wu : Fin 2048 → Fin 512 → EReal) (j : Fin 512) : EReal :=
  dot x wg j * Ideal.div 1 (1 + Ideal.exp (0 - dot x wg j)) * dot x wu j

/-- The layer's row. -/
def ffn (x : Fin 2048 → EReal) (wg wu : Fin 2048 → Fin 512 → EReal) (wd : Fin 512 → Fin 2048 → EReal) (C : Fin 2048) : EReal :=
  ∑ j, hidden x wg wu j * wd j C

/-- The expert a word of the table names. -/
def pick (te : BitVec 32) : Fin 64 := ⟨te.toNat % 64, Nat.mod_lt _ (by decide)⟩

/-- An output entry: the layer with the tile's expert's weights, and zero in an empty tile. -/
def entry (te nv : BitVec 32) (x : Fin 1024 → BitVec 32) (wg wu : Fin 64 → Fin 2048 → Fin 512 → EReal)
    (wd : Fin 64 → Fin 512 → Fin 2048 → EReal) (C : Fin 2048) : EReal :=
  if 0 < nv.toInt then ffn (unpack x) (wg (pick te)) (wu (pick te)) (wd (pick te)) C else 0

/-- The word of one. -/
theorem one_f32 : Ideal.ofBits .f32 0x3F800000#32 = 1 := by
  simp [Ideal.ofBits, Ideal.ieee, -EReal.coe_mul]
  try norm_num

end Moe

end
-- ==== Proof.FfnPay.lean ====
/- What the expert layer's kernel computes of a tile, at an entry. -/
module

public import proofs.«01_k».proof.Proof.FfnFrame
public import proofs.«01_k».proof.Proof.FfnMath

@[expose] public section

set_option maxRecDepth 16384

noncomputable section

open Idealize.ShloMosaic Idealize.ShloMosaic.TcCoe Idealize.SL.Sem
open Idealize.ShloMosaic.Pipeline (Dat)

namespace Cert.Kernel2Ideal.Moe

open Cert.Kernel2Ideal Cert.Kernel2Ideal.Gen

/-- The scratches hold the blocks of weights. -/
theorem pay1_apply (v : Vec Ideal S1x1x2048x512 .f32) (r : Fin 2048) (d : Fin 512) : k0_pay1 v (ix2 r d) = v (ix4 0 0 r d) := by
  pointwise [k0_pay1]
theorem pay2_apply (v : Vec Ideal S1x1x2048x512 .f32) (r : Fin 2048) (d : Fin 512) : k0_pay2 v (ix2 r d) = v (ix4 0 0 r d) := by
  pointwise [k0_pay2]
theorem pay3_apply (v : Vec Ideal S1x1x512x2048 .f32) (r : Fin 512) (d : Fin 2048) : k0_pay3 v (ix2 r d) = v (ix4 0 0 r d) := by
  pointwise [k0_pay3]

/-- An empty tile's output is zero. -/
theorem pay5_apply (r : Fin 512) (d : Fin 2048) : k0_pay5 (F := Ideal) (ix2 r d) = (0 : EReal) := by
  pointwise [k0_pay5]

/-- A tile's output: the layer's row of its words. -/
theorem pay4_apply (x : Vec Ideal S512x1024 .i32) (w1 w2 : Vec Ideal S2048x512 .bf16) (w3 : Vec Ideal S512x2048 .bf16) (r : Fin 512) (C : Fin 2048) :
    k0_pay4 x w1 w2 w3 (ix2 r C)
      = _root_.Moe.ffn (_root_.Moe.unpack fun k => x (ix2 r k)) (fun k j => w1 (ix2 k j)) (fun k j => w2 (ix2 k j)) (fun j D => w3 (ix2 j D)) C := by
  unfold _root_.Moe.ffn
  pointwise [k0_pay4]
  refine Finset.sum_congr rfl fun j _ => congrArg₂ (· * ·) ?_ rfl
  unfold _root_.Moe.hidden
  rw [_root_.Moe.dot_unpack, _root_.Moe.dot_unpack]
  simp only [_root_.Moe.shl_16]
  rfl

variable (m : (ℓ : Loc nD τ sig) → Buf (Elt Ideal) ℓ)

theorem tile_lt (y : S557056x2048.Idx) : (y 0).val / 512 < grid0.N := by
  have h : (y 0).val < 557056 := (y 0).isLt
  rw [show grid0.N = 1088 from N_0]
  omega

/-- The layer's output at row `R`, column `C`: with the weights of the expert of the row's tile, and zero where the tile is empty. -/
def result (c : Dev nD) : Vec Ideal S557056x2048 .f32 := fun y =>
  _root_.Moe.entry (teAt m ⟨(y 0).val / 512, tile_lt y⟩) (nvAt m ⟨(y 0).val / 512, tile_lt y⟩)
    (fun k => (m ((c : Thread nD τ).loc main_arg2) : Vec Ideal S557056x1024 .i32) (ix2 (y 0) k))
    (fun e k j => (m ((c : Thread nD τ).loc main_arg3) : Vec Ideal S2x64x2048x512 .f32) (ix4 0 e k j))
    (fun e k j => (m ((c : Thread nD τ).loc main_arg4) : Vec Ideal S2x64x2048x512 .f32) (ix4 0 e k j))
    (fun e j D => (m ((c : Thread nD τ).loc main_arg5) : Vec Ideal S2x64x512x2048 .f32) (ix4 0 e j D)) (y 1)

/-- The words' and the output's blocks: 512 rows each. -/
theorem tr0 : ∀ t : Fin grid0.N, cc0_transform_0 (grid0.coords t) 0 = t.val ∧ cc0_transform_0 (grid0.coords t) 1 = 0 := by
  decide +kernel
theorem tr4 : ∀ t : Fin grid0.N, cc0_transform_4 (grid0.coords t) 0 = t.val ∧ cc0_transform_4 (grid0.coords t) 1 = 0 := by
  decide +kernel

/-- An entry of a block of words. -/
theorem iblk0_apply (hO : Ok m) (c : Dev nD) (t : Fin grid0.N) (r : Fin 512) (k : Fin 1024) (R : Fin 557056) (hR : R.val = 512 * t.val + r.val) :
    (iblk m hO c 0 t : Vec Ideal S512x1024 .i32) (ix2 r k) = (m ((c : Thread nD τ).loc main_arg2) : Vec Ideal S557056x1024 .i32) (ix2 R k) := by
  unfold iblk
  show V m c main_arg2 ((((cfgM m hO).win 0).blk t).view.emb (ix2 r k : S512x1024.Idx)) = m (c.tc.loc main_arg2) _
  unfold V
  congr 1
  funext a
  apply Fin.ext
  match a with
  | ⟨0, _⟩ => show cc0_transform_0 (grid0.coords t) 0 * 512 + 1 * r.val = R.val; rw [(tr0 t).1, hR]; omega
  | ⟨1, _⟩ => show cc0_transform_0 (grid0.coords t) 1 * 1024 + 1 * k.val = k.val; rw [(tr0 t).2]; omega

/-- An entry of what a point leaves. -/
theorem outAt_apply (hO : Ok m) (c : Dev nD) (t : Fin grid0.N) (r : Fin 512) (C : Fin 2048) (R : Fin 557056) (hR : R.val = 512 * t.val + r.val) :
    outAt m hO c t (ix2 r C) = result m c (ix2 R C) := by
  have hr := r.isLt
  have et : (⟨R.val / 512, tile_lt (ix2 R C)⟩ : Fin grid0.N) = t := Fin.ext (by show R.val / 512 = t.val; omega)
  have ep : (⟨(teAt m t).toNat, te_lt m hO t⟩ : Fin 64) = _root_.Moe.pick (teAt m t) :=
    Fin.ext (Nat.mod_eq_of_lt (te_lt m hO t)).symm
  have es : result m c (ix2 R C) = _root_.Moe.entry (teAt m t) (nvAt m t)
      (fun k => (m ((c : Thread nD τ).loc main_arg2) : Vec Ideal S557056x1024 .i32) (ix2 R k))
      (fun e k j => (m ((c : Thread nD τ).loc main_arg3) : Vec Ideal S2x64x2048x512 .f32) (ix4 0 e k j))
      (fun e k j => (m ((c : Thread nD τ).loc main_arg4) : Vec Ideal S2x64x2048x512 .f32) (ix4 0 e k j))
      (fun e j D => (m ((c : Thread nD τ).loc main_arg5) : Vec Ideal S2x64x512x2048 .f32) (ix4 0 e j D)) C := by
    show _root_.Moe.entry (teAt m ⟨R.val / 512, tile_lt (ix2 R C)⟩) (nvAt m ⟨R.val / 512, tile_lt (ix2 R C)⟩) _ _ _ _ _ = _
    rw [et]
    rfl
  rw [es]
  unfold outAt _root_.Moe.entry
  split
  · refine (pay4_apply _ _ _ _ r C).trans ?_
    have e0 : (fun k => (iblk m hO c 0 t : Vec Ideal S512x1024 .i32) (ix2 r k))
        = fun k => (m ((c : Thread nD τ).loc main_arg2) : Vec Ideal S557056x1024 .i32) (ix2 R k) :=
      funext fun k => iblk0_apply m hO c t r k R hR
    have e1 : (fun k j => w1 m hO c t (ix2 k j))
        = fun k j => (m ((c : Thread nD τ).loc main_arg3) : Vec Ideal S2x64x2048x512 .f32) (ix4 0 ⟨(teAt m t).toNat, te_lt m hO t⟩ k j) :=
      funext fun k => funext fun j => (pay1_apply _ k j).trans (iblk1_apply m hO c t k j)
    have e2 : (fun k j => w2 m hO c t (ix2 k j))
        = fun k j => (m ((c : Thread nD τ).loc main_arg4) : Vec Ideal S2x64x2048x512 .f32) (ix4 0 ⟨(teAt m t).toNat, te_lt m hO t⟩ k j) :=
      funext fun k => funext fun j => (pay2_apply _ k j).trans (iblk2_apply m hO c t k j)
    have e3 : (fun k j => w3 m hO c t (ix2 k j))
        = fun k j => (m ((c : Thread nD τ).loc main_arg5) : Vec Ideal S2x64x512x2048 .f32) (ix4 0 ⟨(teAt m t).toNat, te_lt m hO t⟩ k j) :=
      funext fun k => funext fun j => (pay3_apply _ k j).trans (iblk3_apply m hO c t k j)
    rw [e0, e1, e2, e3, ep]
  · exact pay5_apply r C

/-- The result array, as contents of its buffer. -/
abbrev resultBuf (c : Dev nD) : Buf (Elt Ideal) ((c : Thread nD τ).loc main_v0) := result m c

/-- Every write-back writes its block of the result. -/
theorem flushed_result (hO : Ok m) (c : Dev nD) (t : Fin (cfgM m hO).N) :
    (dats m hO 0 c).flushed 4 t = (((cfgM m hO).win 4).blk t).view.read (Elt Ideal) (resultBuf m c) := by
  have hN : t.val < 1088 := lt_of_lt_of_eq t.isLt N_0
  show ((cfgM m hO).win 4).cut (grid0.coords t) ((dats m hO 0 c).after 4 t) = _
  rw [after0_4]
  refine funext fun (y : S512x2048.Idx) => ?_
  have hy0 : (y 0).val < 512 := (y 0).isLt
  have hy1 : (y 1).val < 2048 := (y 1).isLt
  have e : (((cfgM m hO).win 4).blk t).view.emb y = (ix2 (⟨512 * t.val + (y 0).val, by omega⟩ : Fin 557056)
      (⟨(y 1).val, hy1⟩ : Fin 2048) : S557056x2048.Idx) := by
    funext a
    apply Fin.ext
    match a with
    | ⟨0, _⟩ => show cc0_transform_4 (grid0.coords t) 0 * 512 + 1 * (y 0).val = 512 * t.val + (y 0).val; rw [(tr4 t).1]; omega
    | ⟨1, _⟩ => show cc0_transform_4 (grid0.coords t) 1 * 2048 + 1 * (y 1).val = (y 1).val; rw [(tr4 t).2]; omega
  refine Eq.trans ?_ (congrArg (resultBuf m c) e.symm)
  have ey : (y : S512x2048.Idx) = ix2 (⟨(y 0).val, hy0⟩ : Fin 512) (⟨(y 1).val, hy1⟩ : Fin 2048) := by
    funext a
    match a with
    | ⟨0, _⟩ => rfl
    | ⟨1, _⟩ => rfl
  refine Eq.trans ?_ (outAt_apply m hO c t ⟨(y 0).val, hy0⟩ ⟨(y 1).val, hy1⟩ _ rfl)
  exact congrArg (outAt m hO c t) ey

/-- The result array after the run. -/
theorem final_result (hO : Ok m) (c : Dev nD) : (dats m hO 0 c).arrAt 4 (cfgM m hO).N = resultBuf m c :=
  (dats m hO 0 c).arrAt_eq_of_cover 4 (resultBuf m c) (fun t _ => flushed_result m hO c t) fun (i : S557056x2048.Idx) => by
    have h0 : (i 0 : Nat) < 557056 := (i 0).isLt
    have h1 : (i 1 : Nat) < 2048 := (i 1).isLt
    have hN : (cfgM m hO).N = 1088 := N_0
    let t : Fin (cfgM m hO).N := ⟨(i 0).val / 512, by omega⟩
    have ht : t.val = (i 0).val / 512 := rfl
    refine ⟨t, flush0_4 (adm m hO) t, ?_⟩
    refine (congrArg (i ∈ ·) (View.set_slice_whole main_v0 (((cfgM m hO).win 4).rect t))).mpr (Rect.mem_set_unit.mpr ?_)
    intro a
    match a with
    | ⟨0, _⟩ => show cc0_transform_4 (grid0.coords t) 0 * 512 ≤ (i 0 : Nat) ∧ (i 0 : Nat) < cc0_transform_4 (grid0.coords t) 0 * 512 + 512
                rw [(tr4 t).1]; omega
    | ⟨1, _⟩ => show cc0_transform_4 (grid0.coords t) 1 * 2048 ≤ (i 1 : Nat) ∧ (i 1 : Nat) < cc0_transform_4 (grid0.coords t) 1 * 2048 + 2048
                rw [(tr4 t).2]; omega

/-- The run with the result named. -/
theorem run_result (ρ : Dev nD → PrngReg) (hO : Ok m) (hC : Counts m) :
    θ_run defs (onTc (τ := τ) (main (F := Ideal))) ⟨m, fun _ => 0, ρ⟩ fun r => ∀ c : Dev nD,
      r.2.mem ((c : Thread nD τ).loc main_v0) = resultBuf m c :=
  (θ_run defs _ _).mono (fun r h c => ((h c).1 4).trans (final_result m hO c)) (run_main m ρ hO hC)

end Cert.Kernel2Ideal.Moe

end
-- ==== Proof.FfnRef.lean ====
/- The reference's expert layer at an index: the layer with the weights of the expert of the row's tile, zero in an empty tile. -/
module

public import proofs.«01_k».proof.Proof.Gen.Reference2Ideal.Read
public import proofs.«01_k».proof.Proof.FfnMath
public import proofs.«01_k».proof.Proof.FfnPre
public import Idealize.ShloMosaic.Lib.Pointwise

@[expose] public section

set_option maxRecDepth 16384

noncomputable section

open Idealize.ShloMosaic

namespace Cert.Reference2Ideal.Moe

open Cert.Reference2Ideal Cert.Reference2Ideal.Gen Cert.Reference2Ideal.Read

/-! ## Whole slices gathered along the first axis -/

section Slices
variable {α : Type}

/-- The dimension numbers of a choice of whole `A × B` slices, one per start index. -/
abbrev sliceDims (A B : Nat) (wf : GatherDims.WF ⟨3, ![64, A, B]⟩ ⟨2, ![1088, 1]⟩ ⟨3, ![1088, A, B]⟩ [1, 2] [0] [] [0] [] 1 ![1, A, B]) :
    GatherDims ⟨3, ![64, A, B]⟩ ⟨2, ![1088, 1]⟩ ⟨3, ![1088, A, B]⟩ where
  offsetDims := [1, 2]
  collapsedSliceDims := [0]
  operandBatchingDims := []
  startIndicesBatchingDims := []
  startIndexMap := [0]
  indexVectorDim := 1
  sliceSizes := ![1, A, B]
  wf := wf

/-- An entry of a chosen slice. -/
theorem gather_slices_apply {A B : Nat} (wf : GatherDims.WF ⟨3, ![64, A, B]⟩ ⟨2, ![1088, 1]⟩ ⟨3, ![1088, A, B]⟩ [1, 2] [0] [] [0] [] 1 ![1, A, B])
    (x : (⟨3, ![64, A, B]⟩ : Shape).Idx → α) (idx : IVec ⟨2, ![1088, 1]⟩ 32) (t : Fin 1088) (p : Fin A) (q : Fin B) :
    Host.gather (sliceDims A B wf) x idx (ix3 t p q) = x (ix3 ⟨min (idx (ix2 t 0)).toInt.toNat 63, by omega⟩ p q) := by
  unfold Host.gather
  congr 1
  funext a
  refine Fin.ext ?_
  show (sliceDims A B wf).start (ix3 t p q) idx a + (sliceDims A B wf).batchCoord (ix3 t p q) a
    + (sliceDims A B wf).offCoord (ix3 t p q) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (sliceDims A B wf).startIndexMap from List.mem_singleton.mpr rfl)]
    have hsi : (sliceDims A B wf).siIdx (ix3 t p q) ⟨List.idxOf (0 : Fin 3) (sliceDims A B wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start GatherDims.offCoord
    rw [dif_neg (show (1 : Fin 3) ∉ (sliceDims A B wf).startIndexMap from (by decide : (1 : Fin 3) ∉ ([0] : List (Fin 3)))),
      dif_pos (show (1 : Fin 3) ∈ (sliceDims A B wf).sKept from (GatherDims.mem_sKept _ _).mpr ⟨(by decide : (1 : Fin 3) ∉ ([0] : List (Fin 3))), List.not_mem_nil⟩), Nat.zero_add]
    rfl
  · unfold GatherDims.start GatherDims.offCoord
    rw [dif_neg (show (2 : Fin 3) ∉ (sliceDims A B wf).startIndexMap from (by decide : (2 : Fin 3) ∉ ([0] : List (Fin 3)))),
      dif_pos (show (2 : Fin 3) ∈ (sliceDims A B wf).sKept from (GatherDims.mem_sKept _ _).mpr ⟨(by decide : (2 : Fin 3) ∉ ([0] : List (Fin 3))), List.not_mem_nil⟩), Nat.zero_add]
    rfl

end Slices

/-! ## The operands -/

variable (te nv : IVec S1088 32) (x : IVec S557056x1024 32) (wg wu : Vec Ideal S2x64x2048x512 .f32) (wd : Vec Ideal S2x64x512x2048 .f32)

/-- An unpacked row's number. -/
theorem row_apply (R : Fin 557056) (k : Fin 2048) :
    val_main_v6 (F := Ideal) x (ix2 R k) = _root_.Moe.unpack (fun j => x (ix2 R j)) k := by
  unfold val_main_v6 _root_.Moe.unpack
  by_cases h : k.val < 1024
  · rw [dif_pos h]
    refine (concatenate_pair_apply_left (s₁ := S557056x1024) (s₂ := S557056x1024) 1 _ _ _ (ix2 R k) rfl (ix2 R ⟨k.val, h⟩ : S557056x1024.Idx) ?_).trans ?_
    · intro b
      match b with
      | ⟨0, _⟩ => rfl
      | ⟨1, _⟩ => rfl
    · rw [val_main_v2_apply, val_main_v1_apply, val_main_v0_apply, val_main_c_apply, _root_.Moe.shl_16]
      rfl
  · rw [dif_neg h]
    refine (concatenate_pair_apply_right (s₁ := S557056x1024) (s₂ := S557056x1024) 1 _ _ _ (ix2 R k) rfl rfl (ix2 R ⟨k.val - 1024, by omega⟩ : S557056x1024.Idx) ?_ ?_).trans ?_
    · intro b hb
      match b with
      | ⟨0, _⟩ => rfl
      | ⟨1, _⟩ => exact absurd rfl hb
    · show k.val - 1024 + 1024 = k.val
      omega
    · rw [val_main_v5_apply, val_main_v4_apply, val_main_v3_apply, val_main_c_0_apply]
      rfl

/-- The same number, in its tile. -/
theorem tile_apply (t : Fin 1088) (r : Fin 512) (k : Fin 2048) (R : Fin 557056) (hR : R.val = 512 * t.val + r.val) :
    val_main_v7 (F := Ideal) x (ix3 t r k) = _root_.Moe.unpack (fun j => x (ix2 R j)) k := by
  rw [val_main_v7_apply]
  refine Eq.trans (congrArg (val_main_v6 (F := Ideal) x) (funext fun a => Fin.ext ?_)) (row_apply x R k)
  match a with
  | ⟨0, _⟩ => show ((t.val * 512 + r.val) * 2048 + k.val) / 2048 = R.val; omega
  | ⟨1, _⟩ => show ((t.val * 512 + r.val) * 2048 + k.val) % 2048 = k.val; omega

/-- A bit of a comparison that fails. -/
theorem slt_zero (w : BitVec 32) (h : 0 ≤ w.toInt) : IntOp.cmpi .slt w 0#32 = 0#1 := by
  have e : w.slt 0#32 = false := by
    rw [Bool.eq_false_iff]
    intro h'
    have h'' := BitVec.slt_iff_toInt_lt.mp h'
    have e0 : (0#32 : BitVec 32).toInt = 0 := rfl
    omega
  show BitVec.ofBool (w.slt 0#32) = 0#1
  rw [e]
  rfl

/-- The choices' start indices are the tables' words. -/
theorem start1 (h : ∀ i, 0 ≤ (te i).toInt) (t : Fin 1088) : val_main_v15 (F := Ideal) te (ix2 t 0) = te (ix1 t) := by
  rw [val_main_v15_apply, val_main_v14_apply, val_main_v11_apply, val_main_v10_apply, val_main_c_1_apply, slt_zero _ (h _)]
  refine congrArg te (funext fun a => ?_)
  match a with
  | ⟨0, _⟩ => rfl
theorem start2 (h : ∀ i, 0 ≤ (te i).toInt) (t : Fin 1088) : val_main_v26 (F := Ideal) te (ix2 t 0) = te (ix1 t) := by
  rw [val_main_v26_apply, val_main_v25_apply, val_main_v22_apply, val_main_v21_apply, val_main_c_3_apply, slt_zero _ (h _)]
  refine congrArg te (funext fun a => ?_)
  match a with
  | ⟨0, _⟩ => rfl
theorem start3 (h : ∀ i, 0 ≤ (te i).toInt) (t : Fin 1088) : val_main_v37 (F := Ideal) te (ix2 t 0) = te (ix1 t) := by
  rw [val_main_v37_apply, val_main_v36_apply, val_main_v33_apply, val_main_v32_apply, val_main_c_5_apply, slt_zero _ (h _)]
  refine congrArg te (funext fun a => ?_)
  match a with
  | ⟨0, _⟩ => rfl

/-- A word within the experts, brought between the first and the last, is the expert it names. -/
theorem clamp_pick (w : BitVec 32) (h0 : 0 ≤ w.toInt) (h1 : w.toInt < 64) (h : min w.toInt.toNat 63 < 64) :
    (⟨min w.toInt.toNat 63, h⟩ : Fin 64) = _root_.Moe.pick w := by
  obtain ⟨hl, e⟩ := _root_.Moe.toNat_lt w h0 h1
  refine Fin.ext ?_
  show min w.toInt.toNat 63 = w.toNat % 64
  rw [e]
  omega

/-- The experts' weights. -/
theorem gate_apply (h : ∀ i, 0 ≤ (te i).toInt ∧ (te i).toInt < 64) (t : Fin 1088) (k : Fin 2048) (j : Fin 512) :
    val_main_v16 (F := Ideal) te wg (ix3 t k j) = wg (ix4 0 (_root_.Moe.pick (te (ix1 t))) k j) := by
  unfold val_main_v16
  refine (gather_slices_apply gather_S64x2048x512_S1088x1_S1088x2048x512_12_0_n_n_0_1_12048512_wf _ _ t k j).trans ?_
  simp only [start1 te (fun i => (h i).1) t, clamp_pick _ (h (ix1 t)).1 (h (ix1 t)).2]
  generalize _root_.Moe.pick (te (ix1 t)) = e
  rw [val_main_v9_apply, val_main_v8_apply]
  refine congrArg wg (funext fun a => Fin.ext ?_)
  match a with
  | ⟨0, _⟩ => rfl
  | ⟨1, _⟩ => show ((e.val * 2048 + k.val) * 512 + j.val) / 1048576 % 64 = e.val; omega
  | ⟨2, _⟩ => show ((e.val * 2048 + k.val) * 512 + j.val) / 512 % 2048 = k.val; omega
  | ⟨3, _⟩ => show ((e.val * 2048 + k.val) * 512 + j.val) % 512 = j.val; omega
theorem up_apply (h : ∀ i, 0 ≤ (te i).toInt ∧ (te i).toInt < 64) (t : Fin 1088) (k : Fin 2048) (j : Fin 512) :
    val_main_v27 (F := Ideal) te wu (ix3 t k j) = wu (ix4 0 (_root_.Moe.pick (te (ix1 t))) k j) := by
  unfold val_main_v27
  refine (gather_slices_apply gather_S64x2048x512_S1088x1_S1088x2048x512_12_0_n_n_0_1_12048512_wf _ _ t k j).trans ?_
  simp only [start2 te (fun i => (h i).1) t, clamp_pick _ (h (ix1 t)).1 (h (ix1 t)).2]
  generalize _root_.Moe.pick (te (ix1 t)) = e
  rw [val_main_v20_apply, val_main_v19_apply]
  refine congrArg wu (funext fun a => Fin.ext ?_)
  match a with
  | ⟨0, _⟩ => rfl
  | ⟨1, _⟩ => show ((e.val * 2048 + k.val) * 512 + j.val) / 1048576 % 64 = e.val; omega
  | ⟨2, _⟩ => show ((e.val * 2048 + k.val) * 512 + j.val) / 512 % 2048 = k.val; omega
  | ⟨3, _⟩ => show ((e.val * 2048 + k.val) * 512 + j.val) % 512 = j.val; omega
theorem down_apply (h : ∀ i, 0 ≤ (te i).toInt ∧ (te i).toInt < 64) (t : Fin 1088) (j : Fin 512) (C : Fin 2048) :
    val_main_v38 (F := Ideal) te wd (ix3 t j C) = wd (ix4 0 (_root_.Moe.pick (te (ix1 t))) j C) := by
  unfold val_main_v38
  refine (gather_slices_apply gather_S64x512x2048_S1088x1_S1088x512x2048_12_0_n_n_0_1_15122048_wf _ _ t j C).trans ?_
  simp only [start3 te (fun i => (h i).1) t, clamp_pick _ (h (ix1 t)).1 (h (ix1 t)).2]
  generalize _root_.Moe.pick (te (ix1 t)) = e
  rw [val_main_v31_apply, val_main_v30_apply]
  refine congrArg wd (funext fun a => Fin.ext ?_)
  match a with
  | ⟨0, _⟩ => rfl
  | ⟨1, _⟩ => show ((e.val * 512 + j.val) * 2048 + C.val) / 1048576 % 64 = e.val; omega
  | ⟨2, _⟩ => show ((e.val * 512 + j.val) * 2048 + C.val) / 2048 % 512 = j.val; omega
  | ⟨3, _⟩ => show ((e.val * 512 + j.val) * 2048 + C.val) % 2048 = C.val; omega

/-! ## The layer -/

section Layer
variable (h : ∀ i, 0 ≤ (te i).toInt ∧ (te i).toInt < 64) (t : Fin 1088) (r : Fin 512) (R : Fin 557056) (hR : R.val = 512 * t.val + r.val)
include h hR

theorem gateDot_apply (j : Fin 512) :
    val_main_v17 (F := Ideal) te x wg (ix3 t r j)
      = _root_.Moe.dot (_root_.Moe.unpack fun k => x (ix2 R k)) (fun k j => wg (ix4 0 (_root_.Moe.pick (te (ix1 t))) k j)) j := by
  rw [val_main_v17_apply]
  unfold _root_.Moe.dot
  refine Finset.sum_congr rfl fun k _ => congrArg₂ (· * ·) ?_ ?_
  · refine Eq.trans (congrArg (val_main_v7 (F := Ideal) x) (funext fun a => ?_)) (tile_apply x t r k R hR)
    match a with
    | ⟨0, _⟩ => rfl
    | ⟨1, _⟩ => rfl
    | ⟨2, _⟩ => rfl
  · refine Eq.trans (congrArg (val_main_v16 (F := Ideal) te wg) (funext fun a => ?_)) (gate_apply te wg h t k j)
    match a with
    | ⟨0, _⟩ => rfl
    | ⟨1, _⟩ => rfl
    | ⟨2, _⟩ => rfl
theorem upDot_apply (j : Fin 512) :
    val_main_v28 (F := Ideal) te x wu (ix3 t r j)
      = _root_.Moe.dot (_root_.Moe.unpack fun k => x (ix2 R k)) (fun k j => wu (ix4 0 (_root_.Moe.pick (te (ix1 t))) k j)) j := by
  rw [val_main_v28_apply]
  unfold _root_.Moe.dot
  refine Finset.sum_congr rfl fun k _ => congrArg₂ (· * ·) ?_ ?_
  · refine Eq.trans (congrArg (val_main_v7 (F := Ideal) x) (funext fun a => ?_)) (tile_apply x t r k R hR)
    match a with
    | ⟨0, _⟩ => rfl
    | ⟨1, _⟩ => rfl
    | ⟨2, _⟩ => rfl
  · refine Eq.trans (congrArg (val_main_v27 (F := Ideal) te wu) (funext fun a => ?_)) (up_apply te wu h t k j)
    match a with
    | ⟨0, _⟩ => rfl
    | ⟨1, _⟩ => rfl
    | ⟨2, _⟩ => rfl

/-- A hidden number. -/
theorem hidden_apply (j : Fin 512) :
    val_main_v29 (F := Ideal) te x wg wu (ix3 t r j)
      = _root_.Moe.hidden (_root_.Moe.unpack fun k => x (ix2 R k)) (fun k j => wg (ix4 0 (_root_.Moe.pick (te (ix1 t))) k j))
          (fun k j => wu (ix4 0 (_root_.Moe.pick (te (ix1 t))) k j)) j := by
  rw [val_main_v29_apply, val_main_v18_apply, val_main_call0_v5_apply, val_main_call0_v4_apply, val_main_call0_cst_0_apply,
    val_main_call0_v3_apply, val_main_call0_v2_apply, val_main_call0_cst_apply, val_main_call0_v1_apply, val_main_call0_v0_apply,
    gateDot_apply te x wg h t r R hR j, upDot_apply te x wu h t r R hR j]
  unfold _root_.Moe.hidden
  rw [sub_eq_add_neg, zero_add, ← _root_.Moe.one_f32]
  rfl

/-- An entry of the layer's output. -/
theorem ffn_apply (C : Fin 2048) :
    val_main_v39 (F := Ideal) te x wg wu wd (ix3 t r C)
      = _root_.Moe.ffn (_root_.Moe.unpack fun k => x (ix2 R k)) (fun k j => wg (ix4 0 (_root_.Moe.pick (te (ix1 t))) k j))
          (fun k j => wu (ix4 0 (_root_.Moe.pick (te (ix1 t))) k j)) (fun j D => wd (ix4 0 (_root_.Moe.pick (te (ix1 t))) j D)) C := by
  rw [val_main_v39_apply]
  unfold _root_.Moe.ffn
  refine Finset.sum_congr rfl fun j _ => congrArg₂ (· * ·) ?_ ?_
  · refine Eq.trans (congrArg (val_main_v29 (F := Ideal) te x wg wu) (funext fun a => ?_)) (hidden_apply te x wg wu h t r R hR j)
    match a with
    | ⟨0, _⟩ => rfl
    | ⟨1, _⟩ => rfl
    | ⟨2, _⟩ => rfl
  · refine Eq.trans (congrArg (val_main_v38 (F := Ideal) te wd) (funext fun a => ?_)) (down_apply te wd h t j C)
    match a with
    | ⟨0, _⟩ => rfl
    | ⟨1, _⟩ => rfl
    | ⟨2, _⟩ => rfl

/-- An entry of the result: the layer where the tile has rows, else zero. -/
theorem result_apply (C : Fin 2048) :
    val_main_v44 (F := Ideal) te nv x wg wu wd (ix2 R C)
      = _root_.Moe.entry (te (ix1 t)) (nv (ix1 t)) (fun k => x (ix2 R k)) (fun e k j => wg (ix4 0 e k j)) (fun e k j => wu (ix4 0 e k j))
          (fun e j D => wd (ix4 0 e j D)) C := by
  have hr := r.isLt
  have hC := C.isLt
  have e44 : idx_main_v44 (ix2 R C) = ix3 t r C := by
    funext a
    apply Fin.ext
    match a with
    | ⟨0, _⟩ => show (R.val * 2048 + C.val) / 1048576 = t.val; omega
    | ⟨1, _⟩ => show (R.val * 2048 + C.val) / 2048 % 512 = r.val; omega
    | ⟨2, _⟩ => show (R.val * 2048 + C.val) % 2048 = C.val; omega
  have env : val_main_call1_v1 (F := Ideal) nv (ix3 t r C) = IntOp.cmpi .sgt (nv (ix1 t)) 0#32 := by
    rw [val_main_call1_v1_apply, val_main_v42_apply, val_main_v41_apply, val_main_c_7_apply, val_main_v40_apply]
    refine congrArg (fun w => IntOp.cmpi .sgt w 0#32) (congrArg nv (funext fun a => ?_))
    match a with
    | ⟨0, _⟩ => rfl
  rw [val_main_v44_apply, e44, val_main_v43_apply, env, ffn_apply te x wg wu wd h t r R hR C, val_main_call1_v2_apply,
    val_main_call1_v0_apply, val_main_cst_apply]
  unfold _root_.Moe.entry
  have h1 : (1#1 : BitVec 1) = BitVec.ofBool true := rfl
  by_cases hn : 0 < (nv (ix1 t)).toInt
  · rw [if_pos hn]
    have e : IntOp.cmpi .sgt (nv (ix1 t)) 0#32 = 1#1 := by
      simp only [IntOp.cmpi, h1, BitVec.ofBool_eq_iff_eq, BitVec.slt_iff_toInt_lt]
      exact hn
    rw [e]
    rfl
  · rw [if_neg hn]
    have e : IntOp.cmpi .sgt (nv (ix1 t)) 0#32 = 0#1 := by
      have e' : (0#32 : BitVec 32).slt (nv (ix1 t)) = false := by
        rw [Bool.eq_false_iff]
        exact fun h' => hn (BitVec.slt_iff_toInt_lt.mp h')
      show BitVec.ofBool ((0#32 : BitVec 32).slt (nv (ix1 t))) = 0#1
      rw [e']
      rfl
    rw [e]
    exact Ideal.ofBits_zero_f32

end Layer

end Cert.Reference2Ideal.Moe

end
-- ==== Proof.FfnEqual.lean ====
/- The expert layer's kernel and the reference compute the same array. -/
module

public import proofs.«01_k».proof.Proof.FfnPay
public import proofs.«01_k».proof.Proof.FfnRef
public import proofs.«01_k».proof.Proof.FfnOk

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

variable [Cert.Pre_tables.Facts] (m : (ℓ : Loc nD τ sig) → Buf (Elt Ideal) ℓ)

/-- The kernel's result is the reference's of the same arguments. -/
theorem result_eq (h : Cert.Pre_Kernel2Ideal m) (c : Dev nD) :
    resultBuf m c = Cert.Reference2Ideal.Read.val_main_v44 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  obtain rfl : c = 0 := Subsingleton.elim _ _
  refine funext fun (y : S557056x2048.Idx) => ?_
  have h0 : (y 0).val < 557056 := (y 0).isLt
  have ey : y = ix2 (y 0) (y 1) := by
    funext a
    match a with
    | ⟨0, _⟩ => rfl
    | ⟨1, _⟩ => rfl
  have e := Cert.Reference2Ideal.Moe.result_apply (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (m (((0 : Dev nD) : Thread nD τ).loc main_arg4)) (m (((0 : Dev nD) : Thread nD τ).loc main_arg5))
    (fun i => ⟨(words_tbl m h i).1, (words_tbl m h i).2.1⟩) ⟨(y 0).val / 512, by omega⟩ ⟨(y 0).val % 512, by omega⟩ (y 0)
    (by show (y 0).val = 512 * ((y 0).val / 512) + (y 0).val % 512; omega) (y 1)
  refine Eq.trans ?_ (e.symm.trans (congrArg _ ey.symm))
  rfl

/-- The run with the result named, and the arguments as they were. -/
theorem run_all (ρ : Dev nD → PrngReg) (h : Cert.Pre_Kernel2Ideal m) :
    θ_run defs (onTc (τ := τ) (main (F := Ideal))) ⟨m, fun _ => 0, ρ⟩ fun r => ∀ c : Dev nD,
      r.2.mem ((c.tc : Thread nD τ).loc main_v0) = resultBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => ⟨hr.1 c, hr.2 c⟩)
    (θ_run_and (run_result m ρ (ok_of_pre m h) (counts_of_pre m h)) (unchanged m ρ (ok_of_pre m h) (counts_of_pre m h)))

end Cert.Kernel2Ideal.Moe

end
-- ==== Proof.ProjRun.lean ====
/- The input projection's run: its result array is what its points write back, and its arguments are kept. -/
module

public import proofs.«01_k».proof.Proof.Gen.Kernel3Ideal.Frame
public import Idealize.ShloMosaic.Lib.Pipeline.Value

@[expose] public section

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a point writes back: what the body leaves in the output's block. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- The result array after the run. -/
theorem post10 (r : PUnit × MemSt nD τ sig (Elt F)) (h : Pipeline.FramePost cfgs (dats m) 0 (V m) r) (c : Dev nD) :
    r.2.mem ((c : Thread nD τ).loc main_v7) = (dats m 0 c).arrAt 10 cfg0.N :=
  (h c).1 10

/-- An argument is kept. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- An argument is kept. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- An argument is kept. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- An argument is kept. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- An argument is kept. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- An argument is kept. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- An argument is kept. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- An argument is kept. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- An argument is kept. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- An argument is kept. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- An argument is kept. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 9).trans (((dats m 0 c).arrAt_in 9 rfl _).trans ((A_eq m c 9).trans (V_main_arg10 m c)))

/-- The program runs; its result is the result window's array after the last step, and its arguments are kept. -/
theorem run_blocks : θ_run defs (onTc (τ := τ) (main (F := F))) ⟨m, fun _ => 0, ρ⟩ fun r => ∀ c : Dev nD,
      r.2.mem ((c : Thread nD τ).loc main_v7) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel3Ideal.Proj

end
-- ==== Proof.ProjMath.lean ====
/- One row of the input projection: norms, rotations and the sigmoid's product, as functions of a row. -/
module

public import Idealize.ShloMosaic.Lib.Pointwise

@[expose] public section

noncomputable section

open Idealize.ShloMosaic

namespace Proj

/-- The number added under the root. -/
def eps : EReal := Ideal.ofBits .f32 0x358637BD#32
/-- The keys' factor, `1 / √128` as it is written. -/
def scale : EReal := Ideal.ofBits .f32 0x3DB504F3#32
/-- The queries' factor, `log2(e) / √128` as it is written. -/
def scale2 : EReal := Ideal.ofBits .f32 0x3E0293EE#32

/-- A row over its root mean square, times gains. -/
def rms {n : Nat} (N : EReal) (u g : Fin n → EReal) (d : Fin n) : EReal :=
  u d * Ideal.rsqrt (Ideal.div (∑ e, u e * u e) N + eps) * g d

/-- The row `k` lanes on, around its end. -/
def turn (k : Nat) (u : Fin 128 → EReal) (d : Fin 128) : EReal := u ⟨(d.val + k) % 128, Nat.mod_lt _ (by decide)⟩

/-- Both halves of a row against each other, with a row of cosines and a row of signed sines. -/
def rope (u c s : Fin 128 → EReal) (d : Fin 128) : EReal := u d * c d + turn 64 u d * s d

/-- The quarters of each half against each other. -/
def axial (u c s : Fin 128 → EReal) (d : Fin 128) : EReal :=
  u d * c d + (if d.val / 32 % 2 = 0 then turn 32 u d else turn 96 u d) * s d

/-- A number through `y / (1 + exp (-y))`. -/
def silu (y : EReal) : EReal := y * Ideal.div 1 (1 + Ideal.exp (0 - y))

/-- An entry of the normed and modulated row. -/
def modulated (x g sc sh : Fin 2048 → EReal) (k : Fin 2048) : EReal :=
  rms (Ideal.ofBits .f32 0x45000000#32) x g k * (1 + sc k) + sh k

/-- The norm of a head's row. -/
def rmsHead (u g : Fin 128 → EReal) : Fin 128 → EReal := rms (Ideal.ofBits .f32 0x43000000#32) u g

/-- A row of cosines for a rotation of halves. -/
def cosRow (c : Fin 64 → EReal) (d : Fin 128) : EReal := c ⟨d.val % 64, Nat.mod_lt _ (by decide)⟩
/-- A row of signed sines for it. -/
def sinRow (s : Fin 64 → EReal) (d : Fin 128) : EReal :=
  if d.val < 64 then -s ⟨d.val % 64, Nat.mod_lt _ (by decide)⟩ else s ⟨d.val % 64, Nat.mod_lt _ (by decide)⟩

/-- A row of cosines for a rotation of quarters, of the row's place and of the column's. -/
def cosAx (cr cc : Fin 32 → EReal) (d : Fin 128) : EReal :=
  if d.val < 64 then cr ⟨d.val % 32, Nat.mod_lt _ (by decide)⟩ else cc ⟨d.val % 32, Nat.mod_lt _ (by decide)⟩
/-- A row of signed sines for it. -/
def sinAx (sr sc : Fin 32 → EReal) (d : Fin 128) : EReal :=
  if d.val < 64 then (if d.val / 32 % 2 = 0 then -sr ⟨d.val % 32, Nat.mod_lt _ (by decide)⟩ else sr ⟨d.val % 32, Nat.mod_lt _ (by decide)⟩)
  else (if d.val / 32 % 2 = 0 then -sc ⟨d.val % 32, Nat.mod_lt _ (by decide)⟩ else sc ⟨d.val % 32, Nat.mod_lt _ (by decide)⟩)

/-- What becomes of head `H`'s row of the projection. -/
def head (H : Nat) (u rc rs ac az : Fin 128 → EReal) (g : Fin 4 → Fin 128 → EReal) (d : Fin 128) : EReal :=
  if H < 4 then rope u rc rs d
  else if H < 8 then rope u rc rs d * scale
  else if H < 12 then u d
  else if H < 16 then silu (u d)
  else if H < 20 then rmsHead u (g 0) d
  else if H < 24 then rmsHead u (g 1) d
  else if H < 28 then u d
  else if H < 36 then axial (rmsHead u (g 2)) ac az d * scale2
  else if H < 38 then axial (rmsHead u (g 3)) ac az d
  else u d

/-- The sequence of token `R`: four of 8192 tokens, then two of 16384. -/
def seqOf (R : Fin 65536) : Fin 8 :=
  ⟨if R.val < 32768 then R.val / 8192 else 4 + (R.val - 32768) / 16384, by have := R.isLt; split <;> omega⟩
/-- Its place in its sequence. -/
def posOf (R : Fin 65536) : Fin 16384 :=
  ⟨if R.val < 32768 then R.val % 8192 else (R.val - 32768) % 16384, by have := R.isLt; split <;> omega⟩

/-- The normed and modulated tokens. -/
def normed (x : Fin 65536 → Fin 2048 → EReal) (g : Fin 2048 → EReal) (sc sh : Fin 8 → Fin 2048 → EReal)
    (R : Fin 65536) (k : Fin 2048) : EReal := modulated (x R) g (sc (seqOf R)) (sh (seqOf R)) k

/-- Their projection. -/
def projAt (h : Fin 65536 → Fin 2048 → EReal) (w : Fin 2048 → Fin 5120 → EReal) (R : Fin 65536) (C : Fin 5120) : EReal :=
  ∑ k : Fin 2048, h R k * w k C

/-- The input projection's result at token `R`, column `C`, from the projection `p`. -/
def resultAt (p : Fin 65536 → Fin 5120 → EReal) (c s : Fin 16384 → Fin 64 → EReal)
    (cr sr cc sn : Fin 16384 → Fin 32 → EReal) (g : Fin 4 → Fin 128 → EReal) (R : Fin 65536) (C : Fin 5120) : EReal :=
  head (C.val / 128) (fun e => p R ⟨128 * (C.val / 128) + e.val, by have := C.isLt; omega⟩) (cosRow (c (posOf R))) (sinRow (s (posOf R)))
    (cosAx (cr (posOf R)) (cc (posOf R))) (sinAx (sr (posOf R)) (sn (posOf R))) g ⟨C.val % 128, Nat.mod_lt _ (by decide)⟩

end Proj

end
-- ==== Proof.ProjPay.lean ====
/- What the input projection's kernel computes of a head's block, row by row. -/
module

public import proofs.«01_k».proof.Proof.ProjMath
public import proofs.«01_k».proof.Proof.Gen.Kernel3Ideal.Skeleton

@[expose] public section

set_option maxRecDepth 16384

noncomputable section

open Idealize.ShloMosaic

namespace Cert.Kernel3Ideal.Proj

open Cert.Kernel3Ideal Cert.Kernel3Ideal.Gen _root_.Proj

/-- A row of a block. -/
abbrev row {a b : Nat} (v : (⟨2, ![a, b]⟩ : Shape).Idx → EReal) (r : Fin a) : Fin b → EReal := fun e => v (ix2 r e)

/-- The bit that tells the quarters of a half apart. -/
theorem quarter_bit : ∀ d : Fin 128, IntOp.cmpi .eq (IntOp.andi (BitVec.ofNat 32 d.val) 32#32) 0#32 = if d.val / 32 % 2 = 0 then 1#1 else 0#1 := by
  decide +kernel

/-- A choice by that bit. -/
theorem quarter (d : Fin 128) (a b : EReal) :
    Scalar.select (IntOp.cmpi .eq (IntOp.andi (BitVec.ofNat 32 d.val) 32#32) 0#32) a b = if d.val / 32 % 2 = 0 then a else b := by
  rw [quarter_bit d]
  by_cases h : d.val / 32 % 2 = 0
  · rw [if_pos h, if_pos h]; rfl
  · rw [if_neg h, if_neg h]; rfl

variable (r : Fin 1024) (d : Fin 128) (u c s : Vec Ideal S1024x128 .f32) (g : Vec Ideal S1x128 .f32)

/-- Row by row, what is stored of a head's block. -/
theorem rot0_apply : k0_pay6 u c s (ix2 r d) = rope (row u r) (row c r) (row s r) d := by
  pointwise [k0_pay6]
  rfl
/-- Row by row, what is stored of a head's block. -/
theorem rot1_apply : k0_pay7 u c s (ix2 r d) = rope (row u r) (row c r) (row s r) d := by
  pointwise [k0_pay7]
  rfl
/-- Row by row, what is stored of a head's block. -/
theorem rot2_apply : k0_pay8 u c s (ix2 r d) = rope (row u r) (row c r) (row s r) d := by
  pointwise [k0_pay8]
  rfl
/-- Row by row, what is stored of a head's block. -/
theorem rot3_apply : k0_pay29 u c s (ix2 r d) = rope (row u r) (row c r) (row s r) d := by
  pointwise [k0_pay29]
  rfl
/-- Row by row, what is stored of a head's block. -/
theorem key0_apply : k0_pay9 u c s (ix2 r d) = rope (row u r) (row c r) (row s r) d * scale := by
  pointwise [k0_pay9]
  rfl
/-- Row by row, what is stored of a head's block. -/
theorem key1_apply : k0_pay10 u c s (ix2 r d) = rope (row u r) (row c r) (row s r) d * scale := by
  pointwise [k0_pay10]
  rfl
/-- Row by row, what is stored of a head's block. -/
theorem key2_apply : k0_pay30 u (k0_pay11 s) (k0_pay12 u c) (ix2 r d) = rope (row u r) (row c r) (row s r) d * scale := by
  pointwise [k0_pay30, k0_pay11, k0_pay12]
  rfl
/-- Row by row, what is stored of a head's block. -/
theorem key3_apply : k0_pay31 u c s (ix2 r d) = rope (row u r) (row c r) (row s r) d * scale := by
  pointwise [k0_pay31]
  rfl
/-- Row by row, what is stored of a head's block. -/
theorem nrm0_apply : k0_pay13 u g (ix2 r d) = rmsHead (row u r) (row g 0) d := by
  pointwise [k0_pay13]
  rfl
/-- Row by row, what is stored of a head's block. -/
theorem nrm1_apply : k0_pay14 u g (ix2 r d) = rmsHead (row u r) (row g 0) d := by
  pointwise [k0_pay14]
  rfl
/-- Row by row, what is stored of a head's block. -/
theorem nrm2_apply : k0_pay34 u g (k0_pay15 u) (ix2 r d) = rmsHead (row u r) (row g 0) d := by
  pointwise [k0_pay34, k0_pay15]
  rfl
/-- Row by row, what is stored of a head's block. -/
theorem nrm3_apply : k0_pay35 u g (ix2 r d) = rmsHead (row u r) (row g 0) d := by
  pointwise [k0_pay35]
  rfl
/-- Row by row, what is stored of a head's block. -/
theorem nrm4_apply : k0_pay16 u g (ix2 r d) = rmsHead (row u r) (row g 0) d := by
  pointwise [k0_pay16]
  rfl
/-- Row by row, what is stored of a head's block. -/
theorem nrm5_apply : k0_pay17 u g (ix2 r d) = rmsHead (row u r) (row g 0) d := by
  pointwise [k0_pay17]
  rfl
/-- Row by row, what is stored of a head's block. -/
theorem nrm6_apply : k0_pay1 u g (k0_pay18 u) (ix2 r d) = rmsHead (row u r) (row g 0) d := by
  pointwise [k0_pay1, k0_pay18]
  rfl
/-- Row by row, what is stored of a head's block. -/
theorem nrm7_apply : k0_pay2 u g (ix2 r d) = rmsHead (row u r) (row g 0) d := by
  pointwise [k0_pay2]
  rfl
/-- Row by row, what is stored of a head's block. -/
theorem grq0_apply : k0_pay19 u g c s (ix2 r d) = axial (rmsHead (row u r) (row g 0)) (row c r) (row s r) d * scale2 := by
  pointwise [k0_pay19]
  rw [quarter]
  rfl
/-- Row by row, what is stored of a head's block. -/
theorem grq1_apply : k0_pay21 u g (k0_pay20 u) c s (ix2 r d) = axial (rmsHead (row u r) (row g 0)) (row c r) (row s r) d * scale2 := by
  pointwise [k0_pay21, k0_pay20]
  rw [quarter]
  rfl
/-- Row by row, what is stored of a head's block. -/
theorem grq2_apply : k0_pay23 u g (k0_pay22 u) c s (ix2 r d) = axial (rmsHead (row u r) (row g 0)) (row c r) (row s r) d * scale2 := by
  pointwise [k0_pay23, k0_pay22]
  rw [quarter]
  rfl
/-- Row by row, what is stored of a head's block. -/
theorem grq3_apply : k0_pay3 (k0_pay24 u g) c s (ix2 r d) = axial (rmsHead (row u r) (row g 0)) (row c r) (row s r) d * scale2 := by
  pointwise [k0_pay3, k0_pay24]
  rw [quarter]
  rfl
/-- Row by row, what is stored of a head's block. -/
theorem grk0_apply : k0_pay25 u g c s (ix2 r d) = axial (rmsHead (row u r) (row g 0)) (row c r) (row s r) d := by
  pointwise [k0_pay25]
  rw [quarter]
  rfl
/-- Row by row, what is stored of a head's block. -/
theorem grk1_apply : k0_pay4 u g (k0_pay26 u) (Scalar.ofBits .f32 0x43000000#32) c s (ix2 r d) = axial (rmsHead (row u r) (row g 0)) (row c r) (row s r) d := by
  pointwise [k0_pay4, k0_pay26]
  rw [quarter]
  rfl

/-- An entry of the gated block. -/
theorem gate_apply (v : Vec Ideal S1024x512 .f32) (C : Fin 512) : k0_pay33 v (ix2 r C) = silu (v (ix2 r C)) := by
  pointwise [k0_pay33]
  rfl

/-- The plain block. -/
theorem plain_eq (v : Vec Ideal S1024x512 .f32) : k0_pay32 v = v := by
  funext i
  idx_vars i
  pointwise [k0_pay32]

/-- The plain half of a block. -/
theorem half_eq (v : Vec Ideal S1024x256 .f32) : k0_pay5 v = v := by
  funext i
  idx_vars i
  pointwise [k0_pay5]

/-- An entry of the normed and modulated block. -/
theorem mod_apply (x : Vec Ideal S1024x2048 .f32) (g : Vec Ideal S1x2048 .f32) (sc sh : Vec Ideal S1x1x1x1x2048 .f32) (k : Fin 2048) :
    k0_pay27 x g sc sh (ix2 r k) = modulated (row x r) (row g 0) (fun e => sc (ix5 0 0 0 0 e)) (fun e => sh (ix5 0 0 0 0 e)) k := by
  pointwise [k0_pay27]
  rfl

/-- An entry of the product. -/
theorem dot_apply (h : Vec Ideal S1024x2048 .bf16) (w : Vec Ideal S2048x512 .bf16) (C : Fin 512) :
    k0_pay28 h w (ix2 r C) = ∑ k : Fin 2048, h (ix2 r k) * w (ix2 k C) := by
  pointwise [k0_pay28]

end Cert.Kernel3Ideal.Proj

end
-- ==== Proof.ProjBlock.lean ====
/- What one grid point of the input projection's kernel leaves in the output block, as a function of its input blocks. -/
module

public import proofs.«01_k».proof.Proof.ProjPay
public import proofs.«01_k».proof.Proof.Gen.Kernel3Ideal.Frame
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384

noncomputable section

open Idealize.ShloMosaic Idealize.ShloMosaic.TcCoe

namespace Cert.Kernel3Ideal.Proj

open Cert.Kernel3Ideal Cert.Kernel3Ideal.Gen _root_.Proj

/-- The columns of head `k` in a block. -/
def cols (acc : Vec Ideal S1024x512 .f32) (k : Fin 4) : Vec Ideal S1024x128 .f32 := fun i =>
  acc (ix2 (i 0) ⟨128 * k.val + (i 1).val, by have : (i 1).val < 128 := (i 1).isLt; omega⟩)

/-- The output block of column block `j`. -/
def blockOut (j : Nat) (acc : Vec Ideal S1024x512 .f32) (rc rs ac az : Vec Ideal S1024x128 .f32) (g : Vec Ideal S4x128 .f32) :
    Vec Ideal S1024x512 .bf16 := fun y =>
  head (4 * j + (y 1).val / 128) (row (cols acc ⟨(y 1).val / 128, by have : (y 1).val < 512 := (y 1).isLt; omega⟩) (y 0))
    (row rc (y 0)) (row rs (y 0)) (row ac (y 0)) (row az (y 0)) (row g) ⟨(y 1).val % 128, Nat.mod_lt _ (by decide)⟩

/-- The same, in head `k`. -/
theorem blockOut_apply (j : Nat) (acc : Vec Ideal S1024x512 .f32) (rc rs ac az : Vec Ideal S1024x128 .f32) (g : Vec Ideal S4x128 .f32)
    (k : Fin 4) (r : Fin 1024) (d : Fin 128) (C : Fin 512) (hC : C.val = 128 * k.val + d.val) :
    blockOut j acc rc rs ac az g (ix2 r C) = head (4 * j + k.val) (row (cols acc k) r) (row rc r) (row rs r) (row ac r) (row az r) (row g) d := by
  have e1 : C.val / 128 = k.val := by omega
  have e2 : C.val % 128 = d.val := by omega
  show head (4 * j + C.val / 128) (row (cols acc ⟨C.val / 128, _⟩) r) _ _ _ _ _ ⟨C.val % 128, _⟩ = _
  simp only [e1, e2]
  rfl

/-- A head that passes as it is. -/
theorem head_plain (H : Nat) (hH : (8 ≤ H ∧ H < 12) ∨ (24 ≤ H ∧ H < 28)) (u rc rs ac az : Fin 128 → EReal) (g : Fin 4 → Fin 128 → EReal)
    (d : Fin 128) : head H u rc rs ac az g d = u d := by
  unfold head
  rcases hH with h | h
  · rw [if_neg (by omega), if_neg (by omega), if_pos (by omega)]
  · rw [if_neg (by omega), if_neg (by omega), if_neg (by omega), if_neg (by omega), if_neg (by omega), if_neg (by omega), if_pos (by omega)]

/-- A head past the grid's keys. -/
theorem head_late (H : Nat) (hH : 38 ≤ H) (u rc rs ac az : Fin 128 → EReal) (g : Fin 4 → Fin 128 → EReal)
    (d : Fin 128) : head H u rc rs ac az g d = u d := by
  unfold head
  rw [if_neg (by omega), if_neg (by omega), if_neg (by omega), if_neg (by omega), if_neg (by omega), if_neg (by omega), if_neg (by omega),
    if_neg (by omega), if_neg (by omega)]

/-- A gated head. -/
theorem head_gate (H : Nat) (hH : 12 ≤ H ∧ H < 16) (u rc rs ac az : Fin 128 → EReal) (g : Fin 4 → Fin 128 → EReal)
    (d : Fin 128) : head H u rc rs ac az g d = silu (u d) := by
  unfold head
  rw [if_neg (by omega), if_neg (by omega), if_neg (by omega), if_pos (by omega)]

/-- An entry of a block, in its head's columns. -/
theorem cols_apply (acc : Vec Ideal S1024x512 .f32) (y : S1024x512.Idx) (h : (y 1).val / 128 < 4) (h' : (y 1).val % 128 < 128) :
    row (cols acc ⟨(y 1).val / 128, h⟩) (y 0) ⟨(y 1).val % 128, h'⟩ = acc y := by
  unfold row cols
  refine congrArg acc (funext fun a => Fin.ext ?_)
  match a with
  | ⟨0, _⟩ => rfl
  | ⟨1, _⟩ => exact Nat.div_add_mod _ _

/-- One store of the whole block is read back. -/
theorem canon_whole (w : Vec Ideal S1024x512 .bf16) :
    View.canon [⟨Rect.unit ![0, 0] ![1024, 512] inb_S1024x512_S1024x512_0_0, w⟩] = w := by
  funext y
  have e : (Rect.unit (s := S1024x512) ![0, 0] ![1024, 512] inb_S1024x512_S1024x512_0_0).emb y = y := by
    funext a
    apply Fin.ext
    have h := Rect.idx_unit_val (s := S1024x512) ![0, 0] ![1024, 512] inb_S1024x512_S1024x512_0_0 y a
    match a with
    | ⟨0, _⟩ => exact h.trans (Nat.zero_add _)
    | ⟨1, _⟩ => exact h.trans (Nat.zero_add _)
  have h := View.canon_cons_emb (Rect.unit (s := S1024x512) ![0, 0] ![1024, 512] inb_S1024x512_S1024x512_0_0) w [] y
  rwa [e] at h

/-- One store of the whole normed rows is read back. -/
theorem canon_normed (w : Vec Ideal S1024x2048 .bf16) :
    View.canon [⟨Rect.unit ![0, 0] ![1024, 2048] inb_S1024x2048_S1024x2048_0_0, w⟩] = w := by
  funext y
  have e : (Rect.unit (s := S1024x2048) ![0, 0] ![1024, 2048] inb_S1024x2048_S1024x2048_0_0).emb y = y := by
    funext a
    apply Fin.ext
    have h := Rect.idx_unit_val (s := S1024x2048) ![0, 0] ![1024, 2048] inb_S1024x2048_S1024x2048_0_0 y a
    match a with
    | ⟨0, _⟩ => exact h.trans (Nat.zero_add _)
    | ⟨1, _⟩ => exact h.trans (Nat.zero_add _)
  have h := View.canon_cons_emb (Rect.unit (s := S1024x2048) ![0, 0] ![1024, 2048] inb_S1024x2048_S1024x2048_0_0) w [] y
  rwa [e] at h

/-- Four column blocks stored side by side are read back block by block. -/
theorem columns (T : Vec Ideal S1024x512 .bf16) (w0 w1 w2 w3 : Vec Ideal S1024x128 .bf16)
    (h0 : ∀ (r : Fin 1024) (d : Fin 128) (C : Fin 512), C.val = 128 * (0 : Fin 4).val + d.val → w0 (ix2 r d) = T (ix2 r C))
    (h1 : ∀ (r : Fin 1024) (d : Fin 128) (C : Fin 512), C.val = 128 * (1 : Fin 4).val + d.val → w1 (ix2 r d) = T (ix2 r C))
    (h2 : ∀ (r : Fin 1024) (d : Fin 128) (C : Fin 512), C.val = 128 * (2 : Fin 4).val + d.val → w2 (ix2 r d) = T (ix2 r C))
    (h3 : ∀ (r : Fin 1024) (d : Fin 128) (C : Fin 512), C.val = 128 * (3 : Fin 4).val + d.val → w3 (ix2 r d) = T (ix2 r C)) :
    View.canon [⟨Rect.unit ![0, 384] ![1024, 128] inb_S1024x512_S1024x128_0_384, w3⟩, ⟨Rect.unit ![0, 256] ![1024, 128] inb_S1024x512_S1024x128_0_256, w2⟩,
      ⟨Rect.unit ![0, 128] ![1024, 128] inb_S1024x512_S1024x128_0_128, w1⟩, ⟨Rect.unit ![0, 0] ![1024, 128] inb_S1024x512_S1024x128_0_0, w0⟩] = T := by
  funext y
  refine View.canon_append_of_piecesOf T []
    [⟨Rect.unit ![0, 384] ![1024, 128] inb_S1024x512_S1024x128_0_384, w3⟩, ⟨Rect.unit ![0, 256] ![1024, 128] inb_S1024x512_S1024x128_0_256, w2⟩,
      ⟨Rect.unit ![0, 128] ![1024, 128] inb_S1024x512_S1024x128_0_128, w1⟩, ⟨Rect.unit ![0, 0] ![1024, 128] inb_S1024x512_S1024x128_0_0, w0⟩] ⟨?_, ?_, ?_, ?_, trivial⟩ y ?_
  case refine_5 =>
    simp only [List.mem_cons, List.not_mem_nil, or_false, exists_eq_or_imp, exists_eq_left, Rect.mem_set_unit]
    have h0 : (y 0).val < 1024 := (y 0).isLt
    have h1 : (y 1).val < 512 := (y 1).isLt
    have e : 384 ≤ (y 1).val ∨ (256 ≤ (y 1).val ∧ (y 1).val < 384) ∨ (128 ≤ (y 1).val ∧ (y 1).val < 256) ∨ (y 1).val < 128 := by omega
    rcases e with e | e | e | e
    · exact .inl fun a => by fin_cases a <;> simp <;> omega
    · exact .inr (.inl fun a => by fin_cases a <;> simp <;> omega)
    · exact .inr (.inr (.inl fun a => by fin_cases a <;> simp <;> omega))
    · exact .inr (.inr (.inr fun a => by fin_cases a <;> simp <;> omega))
  case refine_1 =>
    intro x
    have e0 : ((Rect.unit (s := S1024x512) ![0, 384] ![1024, 128] inb_S1024x512_S1024x128_0_384).emb x 0).val = 0 + (x 0).val :=
      Rect.idx_unit_val _ _ _ x 0
    have e1 : ((Rect.unit (s := S1024x512) ![0, 384] ![1024, 128] inb_S1024x512_S1024x128_0_384).emb x 1).val = 384 + (x 1).val :=
      Rect.idx_unit_val _ _ _ x 1
    have ex : x = ix2 (x 0) (x 1) := by funext a; match a with | ⟨0, _⟩ => rfl | ⟨1, _⟩ => rfl
    rw [ex]
    refine (h3 (x 0) (x 1) ⟨384 + (x 1).val, by have : (x 1).val < 128 := (x 1).isLt; omega⟩ rfl).trans (congrArg T (funext fun a => Fin.ext ?_))
    rw [← ex]
    match a with
    | ⟨0, _⟩ => exact ((e0.trans (Nat.zero_add _))).symm
    | ⟨1, _⟩ => exact e1.symm
  case refine_2 =>
    intro x
    have e0 : ((Rect.unit (s := S1024x512) ![0, 256] ![1024, 128] inb_S1024x512_S1024x128_0_256).emb x 0).val = 0 + (x 0).val :=
      Rect.idx_unit_val _ _ _ x 0
    have e1 : ((Rect.unit (s := S1024x512) ![0, 256] ![1024, 128] inb_S1024x512_S1024x128_0_256).emb x 1).val = 256 + (x 1).val :=
      Rect.idx_unit_val _ _ _ x 1
    have ex : x = ix2 (x 0) (x 1) := by funext a; match a with | ⟨0, _⟩ => rfl | ⟨1, _⟩ => rfl
    rw [ex]
    refine (h2 (x 0) (x 1) ⟨256 + (x 1).val, by have : (x 1).val < 128 := (x 1).isLt; omega⟩ rfl).trans (congrArg T (funext fun a => Fin.ext ?_))
    rw [← ex]
    match a with
    | ⟨0, _⟩ => exact ((e0.trans (Nat.zero_add _))).symm
    | ⟨1, _⟩ => exact e1.symm
  case refine_3 =>
    intro x
    have e0 : ((Rect.unit (s := S1024x512) ![0, 128] ![1024, 128] inb_S1024x512_S1024x128_0_128).emb x 0).val = 0 + (x 0).val :=
      Rect.idx_unit_val _ _ _ x 0
    have e1 : ((Rect.unit (s := S1024x512) ![0, 128] ![1024, 128] inb_S1024x512_S1024x128_0_128).emb x 1).val = 128 + (x 1).val :=
      Rect.idx_unit_val _ _ _ x 1
    have ex : x = ix2 (x 0) (x 1) := by funext a; match a with | ⟨0, _⟩ => rfl | ⟨1, _⟩ => rfl
    rw [ex]
    refine (h1 (x 0) (x 1) ⟨128 + (x 1).val, by have : (x 1).val < 128 := (x 1).isLt; omega⟩ rfl).trans (congrArg T (funext fun a => Fin.ext ?_))
    rw [← ex]
    match a with
    | ⟨0, _⟩ => exact ((e0.trans (Nat.zero_add _))).symm
    | ⟨1, _⟩ => exact e1.symm
  case refine_4 =>
    intro x
    have e0 : ((Rect.unit (s := S1024x512) ![0, 0] ![1024, 128] inb_S1024x512_S1024x128_0_0).emb x 0).val = 0 + (x 0).val :=
      Rect.idx_unit_val _ _ _ x 0
    have e1 : ((Rect.unit (s := S1024x512) ![0, 0] ![1024, 128] inb_S1024x512_S1024x128_0_0).emb x 1).val = 0 + (x 1).val :=
      Rect.idx_unit_val _ _ _ x 1
    have ex : x = ix2 (x 0) (x 1) := by funext a; match a with | ⟨0, _⟩ => rfl | ⟨1, _⟩ => rfl
    rw [ex]
    refine (h0 (x 0) (x 1) ⟨0 + (x 1).val, by have : (x 1).val < 128 := (x 1).isLt; omega⟩ rfl).trans (congrArg T (funext fun a => Fin.ext ?_))
    rw [← ex]
    match a with
    | ⟨0, _⟩ => exact ((e0.trans (Nat.zero_add _))).symm
    | ⟨1, _⟩ => exact e1.symm

/-- Two column blocks and a wider one. -/
theorem columns2 (T : Vec Ideal S1024x512 .bf16) (w0 w1 : Vec Ideal S1024x128 .bf16) (w2 : Vec Ideal S1024x256 .bf16)
    (h0 : ∀ (r : Fin 1024) (d : Fin 128) (C : Fin 512), C.val = 128 * (0 : Fin 4).val + d.val → w0 (ix2 r d) = T (ix2 r C))
    (h1 : ∀ (r : Fin 1024) (d : Fin 128) (C : Fin 512), C.val = 128 * (1 : Fin 4).val + d.val → w1 (ix2 r d) = T (ix2 r C))
    (h2 : ∀ (r : Fin 1024) (d : Fin 256) (C : Fin 512), C.val = 256 + d.val → w2 (ix2 r d) = T (ix2 r C)) :
    View.canon [⟨Rect.unit ![0, 256] ![1024, 256] inb_S1024x512_S1024x256_0_256, w2⟩,
      ⟨Rect.unit ![0, 128] ![1024, 128] inb_S1024x512_S1024x128_0_128, w1⟩, ⟨Rect.unit ![0, 0] ![1024, 128] inb_S1024x512_S1024x128_0_0, w0⟩] = T := by
  funext y
  refine View.canon_append_of_piecesOf T []
    [⟨Rect.unit ![0, 256] ![1024, 256] inb_S1024x512_S1024x256_0_256, w2⟩,
      ⟨Rect.unit ![0, 128] ![1024, 128] inb_S1024x512_S1024x128_0_128, w1⟩, ⟨Rect.unit ![0, 0] ![1024, 128] inb_S1024x512_S1024x128_0_0, w0⟩] ⟨?_, ?_, ?_, trivial⟩ y ?_
  case refine_4 =>
    simp only [List.mem_cons, List.not_mem_nil, or_false, exists_eq_or_imp, exists_eq_left, Rect.mem_set_unit]
    have h0 : (y 0).val < 1024 := (y 0).isLt
    have h1 : (y 1).val < 512 := (y 1).isLt
    have e : 256 ≤ (y 1).val ∨ (128 ≤ (y 1).val ∧ (y 1).val < 256) ∨ (y 1).val < 128 := by omega
    rcases e with e | e | e
    · exact .inl fun a => by fin_cases a <;> simp <;> omega
    · exact .inr (.inl fun a => by fin_cases a <;> simp <;> omega)
    · exact .inr (.inr fun a => by fin_cases a <;> simp <;> omega)
  case refine_1 =>
    intro x
    have e0 : ((Rect.unit (s := S1024x512) ![0, 256] ![1024, 256] inb_S1024x512_S1024x256_0_256).emb x 0).val = 0 + (x 0).val :=
      Rect.idx_unit_val _ _ _ x 0
    have e1 : ((Rect.unit (s := S1024x512) ![0, 256] ![1024, 256] inb_S1024x512_S1024x256_0_256).emb x 1).val = 256 + (x 1).val :=
      Rect.idx_unit_val _ _ _ x 1
    have ex : x = ix2 (x 0) (x 1) := by funext a; match a with | ⟨0, _⟩ => rfl | ⟨1, _⟩ => rfl
    rw [ex]
    refine (h2 (x 0) (x 1) ⟨256 + (x 1).val, by have : (x 1).val < 256 := (x 1).isLt; omega⟩ rfl).trans (congrArg T (funext fun a => Fin.ext ?_))
    rw [← ex]
    match a with
    | ⟨0, _⟩ => exact ((e0.trans (Nat.zero_add _))).symm
    | ⟨1, _⟩ => exact e1.symm
  case refine_2 =>
    intro x
    have e0 : ((Rect.unit (s := S1024x512) ![0, 128] ![1024, 128] inb_S1024x512_S1024x128_0_128).emb x 0).val = 0 + (x 0).val :=
      Rect.idx_unit_val _ _ _ x 0
    have e1 : ((Rect.unit (s := S1024x512) ![0, 128] ![1024, 128] inb_S1024x512_S1024x128_0_128).emb x 1).val = 128 + (x 1).val :=
      Rect.idx_unit_val _ _ _ x 1
    have ex : x = ix2 (x 0) (x 1) := by funext a; match a with | ⟨0, _⟩ => rfl | ⟨1, _⟩ => rfl
    rw [ex]
    refine (h1 (x 0) (x 1) ⟨128 + (x 1).val, by have : (x 1).val < 128 := (x 1).isLt; omega⟩ rfl).trans (congrArg T (funext fun a => Fin.ext ?_))
    rw [← ex]
    match a with
    | ⟨0, _⟩ => exact ((e0.trans (Nat.zero_add _))).symm
    | ⟨1, _⟩ => exact e1.symm
  case refine_3 =>
    intro x
    have e0 : ((Rect.unit (s := S1024x512) ![0, 0] ![1024, 128] inb_S1024x512_S1024x128_0_0).emb x 0).val = 0 + (x 0).val :=
      Rect.idx_unit_val _ _ _ x 0
    have e1 : ((Rect.unit (s := S1024x512) ![0, 0] ![1024, 128] inb_S1024x512_S1024x128_0_0).emb x 1).val = 0 + (x 1).val :=
      Rect.idx_unit_val _ _ _ x 1
    have ex : x = ix2 (x 0) (x 1) := by funext a; match a with | ⟨0, _⟩ => rfl | ⟨1, _⟩ => rfl
    rw [ex]
    refine (h0 (x 0) (x 1) ⟨0 + (x 1).val, by have : (x 1).val < 128 := (x 1).isLt; omega⟩ rfl).trans (congrArg T (funext fun a => Fin.ext ?_))
    rw [← ex]
    match a with
    | ⟨0, _⟩ => exact ((e0.trans (Nat.zero_add _))).symm
    | ⟨1, _⟩ => exact e1.symm

/-- A load of head 0's columns. -/
theorem ld_cols0 (v : Vec Ideal S1024x512 .f32) :
    View.ld v (Rect.unit ![0, 0] ![1024, 128] inb_S1024x512_S1024x128_0_0) = cols v 0 := by
  funext j
  refine View.ld_unit_apply_of v _ _ _ j _ fun a => ?_
  match a with
  | ⟨0, _⟩ => exact (Nat.zero_add _).symm
  | ⟨1, _⟩ => rfl
/-- A load of head 1's columns. -/
theorem ld_cols1 (v : Vec Ideal S1024x512 .f32) :
    View.ld v (Rect.unit ![0, 128] ![1024, 128] inb_S1024x512_S1024x128_0_128) = cols v 1 := by
  funext j
  refine View.ld_unit_apply_of v _ _ _ j _ fun a => ?_
  match a with
  | ⟨0, _⟩ => exact (Nat.zero_add _).symm
  | ⟨1, _⟩ => rfl
/-- A load of head 2's columns. -/
theorem ld_cols2 (v : Vec Ideal S1024x512 .f32) :
    View.ld v (Rect.unit ![0, 256] ![1024, 128] inb_S1024x512_S1024x128_0_256) = cols v 2 := by
  funext j
  refine View.ld_unit_apply_of v _ _ _ j _ fun a => ?_
  match a with
  | ⟨0, _⟩ => exact (Nat.zero_add _).symm
  | ⟨1, _⟩ => rfl
/-- A load of head 3's columns. -/
theorem ld_cols3 (v : Vec Ideal S1024x512 .f32) :
    View.ld v (Rect.unit ![0, 384] ![1024, 128] inb_S1024x512_S1024x128_0_384) = cols v 3 := by
  funext j
  refine View.ld_unit_apply_of v _ _ _ j _ fun a => ?_
  match a with
  | ⟨0, _⟩ => exact (Nat.zero_add _).symm
  | ⟨1, _⟩ => rfl
/-- A load of one row of gains. -/
theorem ld_gain0 (g : Vec Ideal S4x128 .f32) : row (View.ld g (Rect.unit ![0, 0] ![1, 128] inb_S4x128_S1x128_0_0)) 0 = row g 0 := by
  funext e
  refine View.ld_unit_apply_of g _ _ _ (ix2 0 e) (ix2 0 e) fun a => ?_
  match a with
  | ⟨0, _⟩ => rfl
  | ⟨1, _⟩ => exact (Nat.zero_add _).symm
/-- A load of one row of gains. -/
theorem ld_gain1 (g : Vec Ideal S4x128 .f32) : row (View.ld g (Rect.unit ![1, 0] ![1, 128] inb_S4x128_S1x128_1_0)) 0 = row g 1 := by
  funext e
  refine View.ld_unit_apply_of g _ _ _ (ix2 0 e) (ix2 1 e) fun a => ?_
  match a with
  | ⟨0, _⟩ => rfl
  | ⟨1, _⟩ => exact (Nat.zero_add _).symm
/-- A load of one row of gains. -/
theorem ld_gain2 (g : Vec Ideal S4x128 .f32) : row (View.ld g (Rect.unit ![2, 0] ![1, 128] inb_S4x128_S1x128_2_0)) 0 = row g 2 := by
  funext e
  refine View.ld_unit_apply_of g _ _ _ (ix2 0 e) (ix2 2 e) fun a => ?_
  match a with
  | ⟨0, _⟩ => rfl
  | ⟨1, _⟩ => exact (Nat.zero_add _).symm
/-- A load of one row of gains. -/
theorem ld_gain3 (g : Vec Ideal S4x128 .f32) : row (View.ld g (Rect.unit ![3, 0] ![1, 128] inb_S4x128_S1x128_3_0)) 0 = row g 3 := by
  funext e
  refine View.ld_unit_apply_of g _ _ _ (ix2 0 e) (ix2 3 e) fun a => ?_
  match a with
  | ⟨0, _⟩ => rfl
  | ⟨1, _⟩ => exact (Nat.zero_add _).symm
/-- A load of a whole table's block. -/
theorem ld_table (v : Vec Ideal S1024x128 .f32) : View.ld v (Rect.unit ![0, 0] ![1024, 128] inb_S1024x128_S1024x128_0_0) = v :=
  View.ld_unit_lit _ v (by decide)
/-- A load of the whole product. -/
theorem ld_acc (v : Vec Ideal S1024x512 .f32) : View.ld v (Rect.unit ![0, 0] ![1024, 512] inb_S1024x512_S1024x512_0_0) = v :=
  View.ld_unit_lit _ v (by decide)
/-- A load of the whole rows. -/
theorem ld_rows (v : Vec Ideal S1024x2048 .f32) : View.ld v (Rect.unit ![0, 0] ![1024, 2048] inb_S1024x2048_S1024x2048_0_0) = v :=
  View.ld_unit_lit _ v (by decide)
/-- A load of the whole normed rows. -/
theorem ld_normed (v : Vec Ideal S1024x2048 .bf16) : View.ld v (Rect.unit ![0, 0] ![1024, 2048] inb_S1024x2048_S1024x2048_0_0) = v :=
  View.ld_unit_lit _ v (by decide)
/-- A load of the whole gains of the first norm. -/
theorem ld_first (v : Vec Ideal S1x2048 .f32) : View.ld v (Rect.unit ![0, 0] ![1, 2048] inb_S1x2048_S1x2048_0_0) = v :=
  View.ld_unit_lit _ v (by decide)
/-- A load of a whole modulation. -/
theorem ld_mod (v : Vec Ideal S1x1x1x1x2048 .f32) :
    View.ld v (Rect.unit ![0, 0, 0, 0, 0] ![1, 1, 1, 1, 2048] inb_S1x1x1x1x2048_S1x1x1x1x2048_0_0_0_0_0) = v :=
  View.ld_unit_lit _ v (by decide)
/-- A load of the whole weights' block. -/
theorem ld_w (v : Vec Ideal S2048x512 .bf16) : View.ld v (Rect.unit ![0, 0] ![2048, 512] inb_S2048x512_S2048x512_0_0) = v :=
  View.ld_unit_lit _ v (by decide)

section Points
variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x128 .f32) (harg11 : arg11.IsWhole) (arg12 : Memref sig .tc .vmem S1024x512 .bf16) (harg12 : arg12.IsWhole) (arg13 : Memref sig .tc .vmem S1024x2048 .bf16) (harg13 : arg13.IsWhole) (arg14 : Memref sig .tc .vmem S1024x512 .f32) (harg14 : arg14.IsWhole)
  (x0 : Vec Ideal S1024x2048 .f32) (x1 : Vec Ideal S1x1x1x1x2048 .f32) (x2 : Vec Ideal S1x1x1x1x2048 .f32) (x3 : Vec Ideal S1x2048 .f32) (x4 : Vec Ideal S2048x512 .bf16) (x5 : Vec Ideal S1024x128 .f32) (x6 : Vec Ideal S1024x128 .f32) (x7 : Vec Ideal S1024x128 .f32) (x8 : Vec Ideal S1024x128 .f32) (x9 : Vec Ideal S4x128 .f32) (xs : Vec Ideal S1024x2048 .bf16)

/-- The first column block leaves the normed rows. -/
theorem sout_A (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 = k0_pay27 x0 x3 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  rw [canon_normed]

/-- The first column block: the retention's queries. -/
theorem out_A (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 = blockOut 0 (k0_pay28 (k0_pay27 x0 x3 x1 x2) x4) x5 x6 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  refine columns _ _ _ _ _ ?_ ?_ ?_ ?_ <;> intro r d C hC
  · rw [blockOut_apply _ _ _ _ _ _ _ 0 r d C hC, rot0_apply]; rfl
  · rw [blockOut_apply _ _ _ _ _ _ _ 1 r d C hC, rot1_apply]; rfl
  · rw [blockOut_apply _ _ _ _ _ _ _ 2 r d C hC, rot2_apply]; rfl
  · rw [blockOut_apply _ _ _ _ _ _ _ 3 r d C hC, rot3_apply]; rfl

/-- The second: its keys. -/
theorem out_B (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut 1 (k0_pay28 xs x4) x5 x6 x7 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  refine columns _ _ _ _ _ ?_ ?_ ?_ ?_ <;> intro r d C hC
  · rw [blockOut_apply _ _ _ _ _ _ _ 0 r d C hC, key0_apply]; rfl
  · rw [blockOut_apply _ _ _ _ _ _ _ 1 r d C hC, key1_apply]; rfl
  · rw [blockOut_apply _ _ _ _ _ _ _ 2 r d C hC, key2_apply]; rfl
  · rw [blockOut_apply _ _ _ _ _ _ _ 3 r d C hC, key3_apply]; rfl

/-- Values pass as they are. -/
theorem out_C (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (j : Nat) (hj : j = 2 ∨ j = 6) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut j (k0_pay28 xs x4) x5 x6 x7 x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  rw [canon_whole, plain_eq]
  funext y
  unfold blockOut
  have h : (y 1).val / 128 < 4 := by have : (y 1).val < 512 := (y 1).isLt; omega
  rw [head_plain _ (by omega)]
  exact (cols_apply _ y _ _).symm

/-- The gates. -/
theorem out_D (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i) :
    out0_D_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut 3 (k0_pay28 xs x4) x5 x6 x7 x8 x9 := by
  unfold out0_D_10
  rw [View.read_writes_eq_canon _ _ _ (cover0_D_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  rw [canon_whole]
  funext y
  unfold blockOut
  have h : (y 1).val / 128 < 4 := by have : (y 1).val < 512 := (y 1).isLt; omega
  rw [head_gate _ (by omega)]
  refine (congrArg (k0_pay33 _) (show y = ix2 (y 0) (y 1) from by funext a; match a with | ⟨0, _⟩ => rfl | ⟨1, _⟩ => rfl)).trans ?_
  refine (gate_apply _ _ _).trans ?_
  refine Eq.trans (congrArg (fun z => silu (k0_pay28 xs x4 z)) (show ix2 (y 0) (y 1) = y from by funext a; match a with | ⟨0, _⟩ => rfl | ⟨1, _⟩ => rfl)) ?_
  exact congrArg silu (cols_apply _ y _ _).symm

/-- The neighbourhood's queries. -/
theorem out_E (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i) :
    out0_E_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut 4 (k0_pay28 xs x4) x5 x6 x7 x8 x9 := by
  unfold out0_E_10
  rw [View.read_writes_eq_canon _ _ _ (cover0_E_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_E
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  refine columns _ _ _ _ _ ?_ ?_ ?_ ?_ <;> intro r d C hC
  · rw [blockOut_apply _ _ _ _ _ _ _ 0 r d C hC, nrm0_apply, ld_gain0]; rfl
  · rw [blockOut_apply _ _ _ _ _ _ _ 1 r d C hC, nrm1_apply, ld_gain0]; rfl
  · rw [blockOut_apply _ _ _ _ _ _ _ 2 r d C hC, nrm2_apply, ld_gain0]; rfl
  · rw [blockOut_apply _ _ _ _ _ _ _ 3 r d C hC, nrm3_apply, ld_gain0]; rfl

/-- The neighbourhood's keys. -/
theorem out_F (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i) :
    out0_F_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut 5 (k0_pay28 xs x4) x5 x6 x7 x8 x9 := by
  unfold out0_F_10
  rw [View.read_writes_eq_canon _ _ _ (cover0_F_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_F
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  refine columns _ _ _ _ _ ?_ ?_ ?_ ?_ <;> intro r d C hC
  · rw [blockOut_apply _ _ _ _ _ _ _ 0 r d C hC, nrm4_apply, ld_gain1]; rfl
  · rw [blockOut_apply _ _ _ _ _ _ _ 1 r d C hC, nrm5_apply, ld_gain1]; rfl
  · rw [blockOut_apply _ _ _ _ _ _ _ 2 r d C hC, nrm6_apply, ld_gain1]; rfl
  · rw [blockOut_apply _ _ _ _ _ _ _ 3 r d C hC, nrm7_apply, ld_gain1]; rfl

/-- The grid's queries. -/
theorem out_G (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (j : Nat) (hj : j = 7 ∨ j = 8) :
    out0_G_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut j (k0_pay28 xs x4) x5 x6 x7 x8 x9 := by
  unfold out0_G_10
  rw [View.read_writes_eq_canon _ _ _ (cover0_G_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_G
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  refine columns _ _ _ _ _ ?_ ?_ ?_ ?_ <;> intro r d C hC
  · rw [blockOut_apply _ _ _ _ _ _ _ 0 r d C hC, grq0_apply, ld_gain2]; rcases hj with rfl | rfl <;> rfl
  · rw [blockOut_apply _ _ _ _ _ _ _ 1 r d C hC, grq1_apply, ld_gain2]; rcases hj with rfl | rfl <;> rfl
  · rw [blockOut_apply _ _ _ _ _ _ _ 2 r d C hC, grq2_apply, ld_gain2]; rcases hj with rfl | rfl <;> rfl
  · rw [blockOut_apply _ _ _ _ _ _ _ 3 r d C hC, grq3_apply, ld_gain2]; rcases hj with rfl | rfl <;> rfl

/-- The grid's keys, and its values as they are. -/
theorem out_H (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) :
    out0_H_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs = blockOut 9 (k0_pay28 xs x4) x5 x6 x7 x8 x9 := by
  unfold out0_H_10
  rw [View.read_writes_eq_canon _ _ _ (cover0_H_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 x4 x5 x6 x7 x8 x9 xs)]
  unfold kernelRun0_H
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  try simp (disch := first | decide | rfl) only [↓View.readCov_skip, View.readCov_fill, View.readCov_cons_toLoadRect]
  simp only [ld_cols0, ld_cols1, ld_cols2, ld_cols3, ld_table, ld_acc, ld_rows, ld_normed, ld_first, ld_mod, ld_w]
  refine columns2 _ _ _ _ ?_ ?_ ?_ <;> intro r d C hC
  · rw [blockOut_apply _ _ _ _ _ _ _ 0 r d C hC, grk0_apply, ld_gain3]; rfl
  · rw [blockOut_apply _ _ _ _ _ _ _ 1 r d C hC, grk1_apply, ld_gain3]; rfl
  · unfold blockOut
    have h : C.val / 128 < 4 := by omega
    have h' : 2 ≤ C.val / 128 := by omega
    show _ = head (4 * 9 + C.val / 128) _ _ _ _ _ _ _
    rw [head_late _ (by omega), half_eq]
    refine Eq.trans ?_ (cols_apply _ (ix2 r C) _ _).symm
    refine View.ld_unit_apply_of _ _ _ _ (ix2 r d) (ix2 r C) fun a => ?_
    match a with
    | ⟨0, _⟩ => exact (Nat.zero_add _).symm
    | ⟨1, _⟩ => exact hC

end Points

end Cert.Kernel3Ideal.Proj

end
-- ==== Proof.ProjCat.lean ====
/- Concatenations of two arrays, of one axis, read at an index. -/
module

public import proofs.«01_k».proof.Proof.ProjMath
public import Idealize.ShloMosaic.Lib.Pipeline.Value
public import Idealize.ShloMosaic.Lib.Pipeline.ValueKit.Tiles

@[expose] public section

noncomputable section

open Idealize.ShloMosaic

namespace Proj

variable {α : Type}

/-- The first of two arrays side by side. -/
theorem cols_left {n a b w : Nat} (x : (⟨2, ![n, a]⟩ : Shape).Idx → α) (y : (⟨2, ![n, b]⟩ : Shape).Idx → α)
    (h : Shape.Concatenates [⟨2, ![n, a]⟩, ⟨2, ![n, b]⟩] ⟨2, ![n, w]⟩ 1) (r : Fin n) (d : Fin w) (d' : Fin a) (hd : d'.val = d.val) :
    concatenate ⟨2, ![n, w]⟩ 1 [⟨⟨2, ![n, a]⟩, x⟩, ⟨⟨2, ![n, b]⟩, y⟩] h (ix2 r d) = x (ix2 r d') :=
  concatenate_pair_apply_left (s₁ := ⟨2, ![n, a]⟩) (s₂ := ⟨2, ![n, b]⟩) 1 x y h (ix2 r d) rfl (ix2 r d') fun b => by
    match b with
    | ⟨0, _⟩ => rfl
    | ⟨1, _⟩ => exact hd

/-- The second. -/
theorem cols_right {n a b w : Nat} (x : (⟨2, ![n, a]⟩ : Shape).Idx → α) (y : (⟨2, ![n, b]⟩ : Shape).Idx → α)
    (h : Shape.Concatenates [⟨2, ![n, a]⟩, ⟨2, ![n, b]⟩] ⟨2, ![n, w]⟩ 1) (r : Fin n) (d : Fin w) (d' : Fin b) (hd : d'.val + a = d.val) :
    concatenate ⟨2, ![n, w]⟩ 1 [⟨⟨2, ![n, a]⟩, x⟩, ⟨⟨2, ![n, b]⟩, y⟩] h (ix2 r d) = y (ix2 r d') :=
  concatenate_pair_apply_right (s₁ := ⟨2, ![n, a]⟩) (s₂ := ⟨2, ![n, b]⟩) 1 x y h (ix2 r d) rfl rfl (ix2 r d') (fun b hb => by
    match b with
    | ⟨0, _⟩ => rfl
    | ⟨1, _⟩ => exact absurd rfl hb) hd

/-- The first of two arrays one above the other. -/
theorem rows_left {a b n w : Nat} (x : (⟨2, ![a, w]⟩ : Shape).Idx → α) (y : (⟨2, ![b, w]⟩ : Shape).Idx → α)
    (h : Shape.Concatenates [⟨2, ![a, w]⟩, ⟨2, ![b, w]⟩] ⟨2, ![n, w]⟩ 0) (r : Fin n) (d : Fin w) (r' : Fin a) (hr : r'.val = r.val) :
    concatenate ⟨2, ![n, w]⟩ 0 [⟨⟨2, ![a, w]⟩, x⟩, ⟨⟨2, ![b, w]⟩, y⟩] h (ix2 r d) = x (ix2 r' d) :=
  concatenate_pair_apply_left (s₁ := ⟨2, ![a, w]⟩) (s₂ := ⟨2, ![b, w]⟩) 0 x y h (ix2 r d) rfl (ix2 r' d) fun b => by
    match b with
    | ⟨0, _⟩ => exact hr
    | ⟨1, _⟩ => rfl

/-- The second. -/
theorem rows_right {a b n w : Nat} (x : (⟨2, ![a, w]⟩ : Shape).Idx → α) (y : (⟨2, ![b, w]⟩ : Shape).Idx → α)
    (h : Shape.Concatenates [⟨2, ![a, w]⟩, ⟨2, ![b, w]⟩] ⟨2, ![n, w]⟩ 0) (r : Fin n) (d : Fin w) (r' : Fin b) (hr : r'.val + a = r.val) :
    concatenate ⟨2, ![n, w]⟩ 0 [⟨⟨2, ![a, w]⟩, x⟩, ⟨⟨2, ![b, w]⟩, y⟩] h (ix2 r d) = y (ix2 r' d) :=
  concatenate_pair_apply_right (s₁ := ⟨2, ![a, w]⟩) (s₂ := ⟨2, ![b, w]⟩) 0 x y h (ix2 r d) rfl rfl (ix2 r' d) (fun b hb => by
    match b with
    | ⟨0, _⟩ => exact absurd rfl hb
    | ⟨1, _⟩ => rfl) hr

/-- The first of two arrays of heads side by side. -/
theorem heads_left {n k a b w : Nat} (x : (⟨3, ![n, k, a]⟩ : Shape).Idx → α) (y : (⟨3, ![n, k, b]⟩ : Shape).Idx → α)
    (h : Shape.Concatenates [⟨3, ![n, k, a]⟩, ⟨3, ![n, k, b]⟩] ⟨3, ![n, k, w]⟩ 2) (r : Fin n) (q : Fin k) (d : Fin w) (d' : Fin a) (hd : d'.val = d.val) :
    concatenate ⟨3, ![n, k, w]⟩ 2 [⟨⟨3, ![n, k, a]⟩, x⟩, ⟨⟨3, ![n, k, b]⟩, y⟩] h (ix3 r q d) = x (ix3 r q d') :=
  concatenate_pair_apply_left (s₁ := ⟨3, ![n, k, a]⟩) (s₂ := ⟨3, ![n, k, b]⟩) 2 x y h (ix3 r q d) rfl (ix3 r q d') fun b => by
    match b with
    | ⟨0, _⟩ => rfl
    | ⟨1, _⟩ => rfl
    | ⟨2, _⟩ => exact hd

/-- The second. -/
theorem heads_right {n k a b w : Nat} (x : (⟨3, ![n, k, a]⟩ : Shape).Idx → α) (y : (⟨3, ![n, k, b]⟩ : Shape).Idx → α)
    (h : Shape.Concatenates [⟨3, ![n, k, a]⟩, ⟨3, ![n, k, b]⟩] ⟨3, ![n, k, w]⟩ 2) (r : Fin n) (q : Fin k) (d : Fin w) (d' : Fin b) (hd : d'.val + a = d.val) :
    concatenate ⟨3, ![n, k, w]⟩ 2 [⟨⟨3, ![n, k, a]⟩, x⟩, ⟨⟨3, ![n, k, b]⟩, y⟩] h (ix3 r q d) = y (ix3 r q d') :=
  concatenate_pair_apply_right (s₁ := ⟨3, ![n, k, a]⟩) (s₂ := ⟨3, ![n, k, b]⟩) 2 x y h (ix3 r q d) rfl rfl (ix3 r q d') (fun b hb => by
    match b with
    | ⟨0, _⟩ => rfl
    | ⟨1, _⟩ => rfl
    | ⟨2, _⟩ => exact absurd rfl hb) hd

/-- One of many arrays side by side. -/
theorem cols_piece {n a w : Nat} (xs : List ((s : Shape) × (s.Idx → α))) (h : Shape.Concatenates (xs.map (·.1)) ⟨2, ![n, w]⟩ 1)
    (k : Nat) (hk : k < xs.length) (x : (⟨2, ![n, a]⟩ : Shape).Idx → α) (hx : xs[k] = ⟨⟨2, ![n, a]⟩, x⟩) (pre : Nat)
    (hpre : (((xs.take k).map (·.1)).map fun s => if h : s.rank = 2 then s.size ((1 : Fin 2).cast h.symm) else 0).sum = pre)
    (r : Fin n) (d : Fin w) (d' : Fin a) (hd : pre + d'.val = d.val) :
    concatenate ⟨2, ![n, w]⟩ 1 xs h (ix2 r d) = x (ix2 r d') :=
  concatenate_apply_piece (t := ⟨2, ![n, w]⟩) 1 xs h (ix2 r d) k hk ⟨2, ![n, a]⟩ x hx rfl pre hpre (ix2 r d') (fun b hb => by
    match b with
    | ⟨0, _⟩ => rfl
    | ⟨1, _⟩ => exact absurd rfl hb) hd

end Proj

end
-- ==== Proof.ProjTiles.lean ====
/- The input projection's result array, read at an index. -/
module

public import proofs.«01_k».proof.Proof.ProjRun
public import proofs.«01_k».proof.Proof.ProjBlock
public import proofs.«01_k».proof.Proof.ProjCat

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen _root_.Proj

/-- The tokens' blocks. -/
theorem index0 : ∀ t : Fin grid0.N, win0_0.index t 0 = t.val / 10 ∧ win0_0.index t 1 = 0 := by decide +kernel
/-- The scales' blocks. -/
theorem index1 : ∀ t : Fin grid0.N, win0_1.index t 0 = 0 ∧ win0_1.index t 1 = 1 ∧
    win0_1.index t 2 = (if t.val / 10 < 32 then t.val / 10 / 8 else 4 + (t.val / 10 - 32) / 16) ∧ win0_1.index t 3 = 0 ∧ win0_1.index t 4 = 0 := by
  decide +kernel
/-- The shifts' blocks. -/
theorem index2 : ∀ t : Fin grid0.N, win0_2.index t 0 = 0 ∧ win0_2.index t 1 = 0 ∧
    win0_2.index t 2 = (if t.val / 10 < 32 then t.val / 10 / 8 else 4 + (t.val / 10 - 32) / 16) ∧ win0_2.index t 3 = 0 ∧ win0_2.index t 4 = 0 := by
  decide +kernel
/-- The gains of the first norm, whole. -/
theorem index3 : ∀ t : Fin grid0.N, win0_3.index t 0 = 0 ∧ win0_3.index t 1 = 0 := by decide +kernel
/-- The weights' blocks. -/
theorem index4 : ∀ t : Fin grid0.N, win0_4.index t 0 = 0 ∧ win0_4.index t 1 = t.val % 10 := by decide +kernel
/-- The tables' blocks. -/
theorem index5 : ∀ t : Fin grid0.N, win0_5.index t 0 = (if t.val / 10 < 32 then t.val / 10 % 8 else (t.val / 10 - 32) % 16) ∧ win0_5.index t 1 = 0 := by
  decide +kernel
/-- The tables' blocks. -/
theorem index6 : ∀ t : Fin grid0.N, win0_6.index t 0 = (if t.val / 10 < 32 then t.val / 10 % 8 else (t.val / 10 - 32) % 16) ∧ win0_6.index t 1 = 0 := by
  decide +kernel
/-- The tables' blocks. -/
theorem index7 : ∀ t : Fin grid0.N, win0_7.index t 0 = (if t.val / 10 < 32 then t.val / 10 % 8 else (t.val / 10 - 32) % 16) ∧ win0_7.index t 1 = 0 := by
  decide +kernel
/-- The tables' blocks. -/
theorem index8 : ∀ t : Fin grid0.N, win0_8.index t 0 = (if t.val / 10 < 32 then t.val / 10 % 8 else (t.val / 10 - 32) % 16) ∧ win0_8.index t 1 = 0 := by
  decide +kernel
/-- The heads' gains, whole. -/
theorem index9 : ∀ t : Fin grid0.N, win0_9.index t 0 = 0 ∧ win0_9.index t 1 = 0 := by decide +kernel
/-- The output's blocks. -/
theorem index10 : ∀ t : Fin grid0.N, win0_10.index t 0 = t.val / 10 ∧ win0_10.index t 1 = t.val % 10 := by decide +kernel

variable (m : (ℓ : Loc nD τ sig) → Buf (Elt Ideal) ℓ) (c : Dev nD)

/-- The tokens. -/
abbrev tokens : Vec Ideal S65536x2048 .f32 := m (c.tc.loc main_arg0)
/-- The modulations. -/
abbrev mods : Vec Ideal S2x6x8x1x2048 .f32 := m (c.tc.loc main_arg1)
/-- The gains of the first norm. -/
abbrev gain1 : Vec Ideal S1x2048 .f32 := m (c.tc.loc main_arg2)
/-- The weights. -/
abbrev weights : Vec Ideal S2048x5120 .bf16 := m (c.tc.loc main_arg3)
/-- The cosines of positions. -/
abbrev cosT : Vec Ideal S16384x64 .f32 := m (c.tc.loc main_arg4)
/-- The sines of positions. -/
abbrev sinT : Vec Ideal S16384x64 .f32 := m (c.tc.loc main_arg5)
/-- The cosines of rows. -/
abbrev cosR : Vec Ideal S16384x32 .f32 := m (c.tc.loc main_arg6)
/-- The sines of rows. -/
abbrev sinR : Vec Ideal S16384x32 .f32 := m (c.tc.loc main_arg7)
/-- The cosines of columns. -/
abbrev cosC : Vec Ideal S16384x32 .f32 := m (c.tc.loc main_arg8)
/-- The sines of columns. -/
abbrev sinC : Vec Ideal S16384x32 .f32 := m (c.tc.loc main_arg9)
/-- The heads' gains. -/
abbrev gains : Vec Ideal S4x128 .f32 := m (c.tc.loc main_arg10)

/-- Two tables side by side. -/
def pair (a b : Vec Ideal S16384x64 .f32) : Vec Ideal S16384x128 .f32 :=
  concatenate S16384x128 1 [⟨S16384x64, a⟩, ⟨S16384x64, b⟩] concatenates_S16384x64_S16384x64_S16384x128_d1
/-- Four tables side by side. -/
def quad (x y z w : Vec Ideal S16384x32 .f32) : Vec Ideal S16384x128 .f32 :=
  concatenate S16384x128 1 [⟨S16384x32, x⟩, ⟨S16384x32, y⟩, ⟨S16384x32, z⟩, ⟨S16384x32, w⟩]
    concatenates_S16384x32_S16384x32_S16384x32_S16384x32_S16384x128_d1

/-- Two tables side by side, read. -/
theorem pair_apply (a b : Vec Ideal S16384x64 .f32) (P : Fin 16384) (d : Fin 128) :
    pair a b (ix2 P d) = if d.val < 64 then a (ix2 P ⟨d.val % 64, Nat.mod_lt _ (by decide)⟩) else b (ix2 P ⟨d.val % 64, Nat.mod_lt _ (by decide)⟩) := by
  have hd := d.isLt
  unfold pair
  split
  · exact cols_left a b _ P d _ (by dsimp only; omega)
  · exact cols_right a b _ P d _ (by dsimp only; omega)

/-- Four tables side by side, read. -/
theorem quad_apply (x y z w : Vec Ideal S16384x32 .f32) (P : Fin 16384) (d : Fin 128) :
    quad x y z w (ix2 P d) = if d.val < 64 then
        (if d.val / 32 % 2 = 0 then x (ix2 P ⟨d.val % 32, Nat.mod_lt _ (by decide)⟩) else y (ix2 P ⟨d.val % 32, Nat.mod_lt _ (by decide)⟩))
      else (if d.val / 32 % 2 = 0 then z (ix2 P ⟨d.val % 32, Nat.mod_lt _ (by decide)⟩) else w (ix2 P ⟨d.val % 32, Nat.mod_lt _ (by decide)⟩)) := by
  have hd := d.isLt
  unfold quad
  split <;> split
  · exact cols_piece (n := 16384) (w := 128) [⟨S16384x32, x⟩, ⟨S16384x32, y⟩, ⟨S16384x32, z⟩, ⟨S16384x32, w⟩] _ 0 (by simp) x rfl 0 rfl P d _ (by dsimp only; omega)
  · exact cols_piece (n := 16384) (w := 128) [⟨S16384x32, x⟩, ⟨S16384x32, y⟩, ⟨S16384x32, z⟩, ⟨S16384x32, w⟩] _ 1 (by simp) y rfl 32 rfl P d _ (by dsimp only; omega)
  · exact cols_piece (n := 16384) (w := 128) [⟨S16384x32, x⟩, ⟨S16384x32, y⟩, ⟨S16384x32, z⟩, ⟨S16384x32, w⟩] _ 2 (by simp) z rfl 64 rfl P d _ (by dsimp only; omega)
  · exact cols_piece (n := 16384) (w := 128) [⟨S16384x32, x⟩, ⟨S16384x32, y⟩, ⟨S16384x32, z⟩, ⟨S16384x32, w⟩] _ 3 (by simp) w rfl 96 rfl P d _ (by dsimp only; omega)

/-- The kernel's table of cosines. -/
theorem V0 : (V m c main_v0 : Vec Ideal S16384x128 .f32) = pair (cosT m c) (cosT m c) := by
  unfold V hostOps0
  after_results_simp <;> rfl
/-- The kernel's table of signed sines. -/
theorem V2 : (V m c main_v2 : Vec Ideal S16384x128 .f32) = pair (Host.negf (F := Ideal) (s := S16384x64) (φ := .f32) (sinT m c)) (sinT m c) := by
  unfold V hostOps0
  after_results_simp <;> rfl
/-- The kernel's table of cosines of rows and columns. -/
theorem V3 : (V m c main_v3 : Vec Ideal S16384x128 .f32) = quad (cosR m c) (cosR m c) (cosC m c) (cosC m c) := by
  unfold V hostOps0
  after_results_simp <;> rfl
/-- The kernel's table of signed sines of rows and columns. -/
theorem V6 : (V m c main_v6 : Vec Ideal S16384x128 .f32) = quad (Host.negf (F := Ideal) (s := S16384x32) (φ := .f32) (sinR m c)) (sinR m c) (Host.negf (F := Ideal) (s := S16384x32) (φ := .f32) (sinC m c)) (sinC m c) := by
  unfold V hostOps0
  after_results_simp <;> rfl

/-- A row of the table of cosines. -/
theorem row_V0 (P : Fin 16384) (d : Fin 128) : (V m c main_v0 : Vec Ideal S16384x128 .f32) (ix2 P d) = cosRow (fun e => cosT m c (ix2 P e)) d := by
  rw [V0, pair_apply, ite_self]; rfl
/-- A row of the table of signed sines. -/
theorem row_V2 (P : Fin 16384) (d : Fin 128) : (V m c main_v2 : Vec Ideal S16384x128 .f32) (ix2 P d) = sinRow (fun e => sinT m c (ix2 P e)) d := by
  rw [V2, pair_apply]; rfl
/-- A row of the table of cosines of rows and columns. -/
theorem row_V3 (P : Fin 16384) (d : Fin 128) : (V m c main_v3 : Vec Ideal S16384x128 .f32) (ix2 P d) = cosAx (fun e => cosR m c (ix2 P e)) (fun e => cosC m c (ix2 P e)) d := by
  rw [V3, quad_apply, ite_self, ite_self]; rfl
/-- A row of the table of signed sines of rows and columns. -/
theorem row_V6 (P : Fin 16384) (d : Fin 128) : (V m c main_v6 : Vec Ideal S16384x128 .f32) (ix2 P d) = sinAx (fun e => sinR m c (ix2 P e)) (fun e => sinC m c (ix2 P e)) d := by
  rw [V6, quad_apply]; rfl

section Blocks
variable (t : Fin cfg0.N)

/-- An entry of a block of tokens. -/
theorem iblk0_apply (r : Fin 1024) (k : Fin 2048) (R : Fin 65536) (hR : R.val = 1024 * (t.val / 10) + r.val) :
    (iblk m c 0 t : Vec Ideal S1024x2048 .f32) (ix2 r k) = tokens m c (ix2 R k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = R.val; rw [(index0 t).1, hR]; omega
  | ⟨1, _⟩ => show win0_0.index t 1 * 2048 + 1 * k.val = k.val; rw [(index0 t).2]; omega

/-- An entry of a block of scales. -/
theorem iblk1_apply (k : Fin 2048) (b : Fin 8) (hb : b.val = if t.val / 10 < 32 then t.val / 10 / 8 else 4 + (t.val / 10 - 32) / 16) :
    (iblk m c 1 t : Vec Ideal S1x1x1x1x2048 .f32) (ix5 0 0 0 0 k) = mods m c (ix5 0 1 b 0 k) := by
  unfold iblk
  rw [View.read_apply]
  show V m c main_arg1 _ = m (c.tc.loc main_arg1) _
  rw [V_main_arg1]
  obtain ⟨e0, e1, e2, e3, e4⟩ := index1 t
  congr 1
  funext a
  apply Fin.ext
  match a with
  | ⟨0, _⟩ => show win0_1.index t 0 * 1 + 1 * 0 = 0; rw [e0]
  | ⟨1, _⟩ => show win0_1.index t 1 * 1 + 1 * 0 = 1; rw [e1]
  | ⟨2, _⟩ => show win0_1.index t 2 * 1 + 1 * 0 = b.val; rw [e2, hb]; omega
  | ⟨3, _⟩ => show win0_1.index t 3 * 1 + 1 * 0 = 0; rw [e3]
  | ⟨4, _⟩ => show win0_1.index t 4 * 2048 + 1 * k.val = k.val; rw [e4]; omega

/-- An entry of a block of shifts. -/
theorem iblk2_apply (k : Fin 2048) (b : Fin 8) (hb : b.val = if t.val / 10 < 32 then t.val / 10 / 8 else 4 + (t.val / 10 - 32) / 16) :
    (iblk m c 2 t : Vec Ideal S1x1x1x1x2048 .f32) (ix5 0 0 0 0 k) = mods m c (ix5 0 0 b 0 k) := by
  unfold iblk
  rw [View.read_apply]
  show V m c main_arg1 _ = m (c.tc.loc main_arg1) _
  rw [V_main_arg1]
  obtain ⟨e0, e1, e2, e3, e4⟩ := index2 t
  congr 1
  funext a
  apply Fin.ext
  match a with
  | ⟨0, _⟩ => show win0_2.index t 0 * 1 + 1 * 0 = 0; rw [e0]
  | ⟨1, _⟩ => show win0_2.index t 1 * 1 + 1 * 0 = 0; rw [e1]
  | ⟨2, _⟩ => show win0_2.index t 2 * 1 + 1 * 0 = b.val; rw [e2, hb]; omega
  | ⟨3, _⟩ => show win0_2.index t 3 * 1 + 1 * 0 = 0; rw [e3]
  | ⟨4, _⟩ => show win0_2.index t 4 * 2048 + 1 * k.val = k.val; rw [e4]; omega

/-- The gains of the first norm. -/
theorem iblk3_apply (k : Fin 2048) : (iblk m c 3 t : Vec Ideal S1x2048 .f32) (ix2 0 k) = gain1 m c (ix2 0 k) := by
  unfold iblk
  rw [View.read_apply]
  show V m c main_arg2 _ = m (c.tc.loc main_arg2) _
  rw [V_main_arg2]
  congr 1
  funext a
  apply Fin.ext
  match a with
  | ⟨0, _⟩ => show win0_3.index t 0 * 1 + 1 * 0 = 0; rw [(index3 t).1]
  | ⟨1, _⟩ => show win0_3.index t 1 * 2048 + 1 * k.val = k.val; rw [(index3 t).2]; omega

/-- An entry of a block of weights. -/
theorem iblk4_apply (k : Fin 2048) (d : Fin 512) (C : Fin 5120) (hC : C.val = 512 * (t.val % 10) + d.val) :
    (iblk m c 4 t : Vec Ideal S2048x512 .bf16) (ix2 k d) = weights m c (ix2 k C) := by
  unfold iblk
  rw [View.read_apply]
  show V m c main_arg3 _ = m (c.tc.loc main_arg3) _
  rw [V_main_arg3]
  congr 1
  funext a
  apply Fin.ext
  match a with
  | ⟨0, _⟩ => show win0_4.index t 0 * 2048 + 1 * k.val = k.val; rw [(index4 t).1]; omega
  | ⟨1, _⟩ => show win0_4.index t 1 * 512 + 1 * d.val = C.val; rw [(index4 t).2, hC]; omega

/-- A row of a block of a table. -/
theorem iblk5_row (r : Fin 1024) (R : Fin 65536) (hR : R.val = 1024 * (t.val / 10) + r.val) :
    row (iblk m c 5 t : Vec Ideal S1024x128 .f32) r = cosRow (fun e => cosT m c (ix2 (posOf R) e)) := by
  funext d
  have hp : (posOf R).val = 1024 * (if t.val / 10 < 32 then t.val / 10 % 8 else (t.val / 10 - 32) % 16) + r.val := by
    show (if R.val < 32768 then R.val % 8192 else (R.val - 32768) % 16384) = _
    split <;> split <;> omega
  refine Eq.trans ?_ (row_V0 m c (posOf R) d)
  show (iblk m c 5 t : Vec Ideal S1024x128 .f32) (ix2 r d) = _
  unfold iblk
  rw [View.read_apply]
  show V m c main_v0 _ = V m c main_v0 _
  congr 1
  funext a
  apply Fin.ext
  match a with
  | ⟨0, _⟩ => show win0_5.index t 0 * 1024 + 1 * r.val = (posOf R).val; rw [(index5 t).1, hp]; omega
  | ⟨1, _⟩ => show win0_5.index t 1 * 128 + 1 * d.val = d.val; rw [(index5 t).2]; omega

/-- A row of a block of a table. -/
theorem iblk6_row (r : Fin 1024) (R : Fin 65536) (hR : R.val = 1024 * (t.val / 10) + r.val) :
    row (iblk m c 6 t : Vec Ideal S1024x128 .f32) r = sinRow (fun e => sinT m c (ix2 (posOf R) e)) := by
  funext d
  have hp : (posOf R).val = 1024 * (if t.val / 10 < 32 then t.val / 10 % 8 else (t.val / 10 - 32) % 16) + r.val := by
    show (if R.val < 32768 then R.val % 8192 else (R.val - 32768) % 16384) = _
    split <;> split <;> omega
  refine Eq.trans ?_ (row_V2 m c (posOf R) d)
  show (iblk m c 6 t : Vec Ideal S1024x128 .f32) (ix2 r d) = _
  unfold iblk
  rw [View.read_apply]
  show V m c main_v2 _ = V m c main_v2 _
  congr 1
  funext a
  apply Fin.ext
  match a with
  | ⟨0, _⟩ => show win0_6.index t 0 * 1024 + 1 * r.val = (posOf R).val; rw [(index6 t).1, hp]; omega
  | ⟨1, _⟩ => show win0_6.index t 1 * 128 + 1 * d.val = d.val; rw [(index6 t).2]; omega

/-- A row of a block of a table. -/
theorem iblk7_row (r : Fin 1024) (R : Fin 65536) (hR : R.val = 1024 * (t.val / 10) + r.val) :
    row (iblk m c 7 t : Vec Ideal S1024x128 .f32) r = cosAx (fun e => cosR m c (ix2 (posOf R) e)) (fun e => cosC m c (ix2 (posOf R) e)) := by
  funext d
  have hp : (posOf R).val = 1024 * (if t.val / 10 < 32 then t.val / 10 % 8 else (t.val / 10 - 32) % 16) + r.val := by
    show (if R.val < 32768 then R.val % 8192 else (R.val - 32768) % 16384) = _
    split <;> split <;> omega
  refine Eq.trans ?_ (row_V3 m c (posOf R) d)
  show (iblk m c 7 t : Vec Ideal S1024x128 .f32) (ix2 r d) = _
  unfold iblk
  rw [View.read_apply]
  show V m c main_v3 _ = V m c main_v3 _
  congr 1
  funext a
  apply Fin.ext
  match a with
  | ⟨0, _⟩ => show win0_7.index t 0 * 1024 + 1 * r.val = (posOf R).val; rw [(index7 t).1, hp]; omega
  | ⟨1, _⟩ => show win0_7.index t 1 * 128 + 1 * d.val = d.val; rw [(index7 t).2]; omega

/-- A row of a block of a table. -/
theorem iblk8_row (r : Fin 1024) (R : Fin 65536) (hR : R.val = 1024 * (t.val / 10) + r.val) :
    row (iblk m c 8 t : Vec Ideal S1024x128 .f32) r = sinAx (fun e => sinR m c (ix2 (posOf R) e)) (fun e => sinC m c (ix2 (posOf R) e)) := by
  funext d
  have hp : (posOf R).val = 1024 * (if t.val / 10 < 32 then t.val / 10 % 8 else (t.val / 10 - 32) % 16) + r.val := by
    show (if R.val < 32768 then R.val % 8192 else (R.val - 32768) % 16384) = _
    split <;> split <;> omega
  refine Eq.trans ?_ (row_V6 m c (posOf R) d)
  show (iblk m c 8 t : Vec Ideal S1024x128 .f32) (ix2 r d) = _
  unfold iblk
  rw [View.read_apply]
  show V m c main_v6 _ = V m c main_v6 _
  congr 1
  funext a
  apply Fin.ext
  match a with
  | ⟨0, _⟩ => show win0_8.index t 0 * 1024 + 1 * r.val = (posOf R).val; rw [(index8 t).1, hp]; omega
  | ⟨1, _⟩ => show win0_8.index t 1 * 128 + 1 * d.val = d.val; rw [(index8 t).2]; omega

/-- The heads' gains. -/
theorem iblk9_apply (i : Fin 4) (d : Fin 128) : (iblk m c 9 t : Vec Ideal S4x128 .f32) (ix2 i d) = gains m c (ix2 i d) := by
  unfold iblk
  rw [View.read_apply]
  show V m c main_arg10 _ = m (c.tc.loc main_arg10) _
  rw [V_main_arg10]
  congr 1
  funext a
  apply Fin.ext
  match a with
  | ⟨0, _⟩ => show win0_9.index t 0 * 4 + 1 * i.val = i.val; rw [(index9 t).1]; omega
  | ⟨1, _⟩ => show win0_9.index t 1 * 128 + 1 * d.val = d.val; rw [(index9 t).2]; omega

end Blocks

/-- The normed and modulated tokens. -/
abbrev hAll : Fin 65536 → Fin 2048 → EReal :=
  normed (fun R k => tokens m c (ix2 R k)) (fun k => gain1 m c (ix2 0 k)) (fun b k => mods m c (ix5 0 1 b 0 k)) (fun b k => mods m c (ix5 0 0 b 0 k))

/-- Their projection. -/
abbrev pAll : Fin 65536 → Fin 5120 → EReal := projAt (hAll m c) fun k C => weights m c (ix2 k C)

/-- The kernel's result. -/
def result : Vec Ideal S65536x5120 .bf16 := fun y =>
  resultAt (pAll m c) (fun P e => cosT m c (ix2 P e)) (fun P e => sinT m c (ix2 P e)) (fun P e => cosR m c (ix2 P e)) (fun P e => sinR m c (ix2 P e))
    (fun P e => cosC m c (ix2 P e)) (fun P e => sinC m c (ix2 P e)) (fun i e => gains m c (ix2 i e)) (y 0) (y 1)

/-- The normed rows of block `i`. -/
def hRow (i : Nat) (hi : i < 64) : Vec Ideal S1024x2048 .bf16 := fun y =>
  hAll m c ⟨1024 * i + (y 0).val, by have : (y 0).val < 1024 := (y 0).isLt; omega⟩ (y 1)

/-- What the first column block computes. -/
theorem normed_block (t : Fin cfg0.N) (h : t.val / 10 < 64) :
    k0_pay27 (F := Ideal) (iblk m c 0 t) (iblk m c 3 t) (iblk m c 1 t) (iblk m c 2 t) = hRow m c (t.val / 10) h := by
  funext y
  have hy0 : (y 0).val < 1024 := (y 0).isLt
  have ey : y = ix2 (⟨(y 0).val, hy0⟩ : Fin 1024) (y 1) := by
    funext a
    match a with
    | ⟨0, _⟩ => rfl
    | ⟨1, _⟩ => rfl
  refine (congrArg (k0_pay27 (F := Ideal) (iblk m c 0 t) (iblk m c 3 t) (iblk m c 1 t) (iblk m c 2 t)) ey).trans ?_
  refine (mod_apply _ _ _ _ _ _).trans ?_
  unfold hRow hAll normed
  have hb : ∀ R : Fin 65536, R.val = 1024 * (t.val / 10) + (y 0).val →
      (seqOf R).val = if t.val / 10 < 32 then t.val / 10 / 8 else 4 + (t.val / 10 - 32) / 16 := fun R hR => by
    show (if R.val < 32768 then R.val / 8192 else 4 + (R.val - 32768) / 16384) = _
    split <;> split <;> omega
  congr 1
  · funext k; exact iblk0_apply m c t _ k _ rfl
  · funext k; exact iblk3_apply m c t k
  · funext k; exact iblk1_apply m c t k _ (hb _ rfl)
  · funext k; exact iblk2_apply m c t k _ (hb _ rfl)

/-- Row blocks of equal numbers. -/
theorem hRow_congr {i j : Nat} (e : i = j) (hi : i < 64) (hj : j < 64) : hRow m c i hi = hRow m c j hj := by
  subst e; rfl

/-- The later column blocks keep the rows. -/
theorem keep_B (t : Fin cfg0.N) (h : t.val % 10 = 1) : (outsAt0 m c t.val t.isLt).2 = (outsAt0 m c (t.val - 1) (Nat.lt_of_le_of_lt (Nat.sub_le _ _) t.isLt)).2 :=
  (congrArg Prod.snd (outsAt0_B m c t (by omega) (by omega) h (by omega) (by omega) (by omega) (by omega) (by omega) (by omega))).trans (by dsimp only; unfold sout0_B_0; rfl)

/-- The later column blocks keep the rows. -/
theorem keep_C (t : Fin cfg0.N) (h : (t.val % 10 = 2 ∨ t.val % 10 = 6)) : (outsAt0 m c t.val t.isLt).2 = (outsAt0 m c (t.val - 1) (Nat.lt_of_le_of_lt (Nat.sub_le _ _) t.isLt)).2 :=
  (congrArg Prod.snd (outsAt0_C m c t (by omega) (by omega) (by omega) h (by omega) (by omega) (by omega) (by omega) (by omega))).trans (by dsimp only; unfold sout0_C_0; rfl)

/-- The later column blocks keep the rows. -/
theorem keep_D (t : Fin cfg0.N) (h : t.val % 10 = 3) : (outsAt0 m c t.val t.isLt).2 = (outsAt0 m c (t.val - 1) (Nat.lt_of_le_of_lt (Nat.sub_le _ _) t.isLt)).2 :=
  (congrArg Prod.snd (outsAt0_D m c t (by omega) (by omega) (by omega) (by omega) h (by omega) (by omega) (by omega) (by omega))).trans (by dsimp only; unfold sout0_D_0; rfl)

/-- The later column blocks keep the rows. -/
theorem keep_E (t : Fin cfg0.N) (h : t.val % 10 = 4) : (outsAt0 m c t.val t.isLt).2 = (outsAt0 m c (t.val - 1) (Nat.lt_of_le_of_lt (Nat.sub_le _ _) t.isLt)).2 :=
  (congrArg Prod.snd (outsAt0_E m c t (by omega) (by omega) (by omega) (by omega) (by omega) h (by omega) (by omega) (by omega))).trans (by dsimp only; unfold sout0_E_0; rfl)

/-- The later column blocks keep the rows. -/
theorem keep_F (t : Fin cfg0.N) (h : t.val % 10 = 5) : (outsAt0 m c t.val t.isLt).2 = (outsAt0 m c (t.val - 1) (Nat.lt_of_le_of_lt (Nat.sub_le _ _) t.isLt)).2 :=
  (congrArg Prod.snd (outsAt0_F m c t (by omega) (by omega) (by omega) (by omega) (by omega) (by omega) h (by omega) (by omega))).trans (by dsimp only; unfold sout0_F_0; rfl)

/-- The later column blocks keep the rows. -/
theorem keep_G (t : Fin cfg0.N) (h : (7 ≤ t.val % 10 ∧ t.val % 10 ≤ 8)) : (outsAt0 m c t.val t.isLt).2 = (outsAt0 m c (t.val - 1) (Nat.lt_of_le_of_lt (Nat.sub_le _ _) t.isLt)).2 :=
  (congrArg Prod.snd (outsAt0_G m c t (by omega) (by omega) (by omega) (by omega) (by omega) (by omega) (by omega) h (by omega))).trans (by dsimp only; unfold sout0_G_0; rfl)

/-- The later column blocks keep the rows. -/
theorem keep_H (t : Fin cfg0.N) (h : t.val % 10 = 9) : (outsAt0 m c t.val t.isLt).2 = (outsAt0 m c (t.val - 1) (Nat.lt_of_le_of_lt (Nat.sub_le _ _) t.isLt)).2 :=
  (congrArg Prod.snd (outsAt0_H m c t (by omega) (by omega) (by omega) (by omega) (by omega) (by omega) (by omega) (by omega) h)).trans (by dsimp only; unfold sout0_H_0; rfl)

/-- The rows the first column block leaves are there at every point of its row block. -/
theorem carried : ∀ (n : Nat) (hn : n < cfg0.N) (h : n / 10 < 64), (outsAt0 m c n hn).2 = hRow m c (n / 10) h := by
  intro n
  induction n with
  | zero =>
    intro hn h
    have e := outsAt0_A m c ⟨0, hn⟩ rfl rfl (by dsimp only; omega) (by dsimp only; omega) (by dsimp only; omega) (by dsimp only; omega) (by dsimp only; omega) (by dsimp only; omega) (by dsimp only; omega)
    rw [sout_A, normed_block m c ⟨0, hn⟩ h] at e
    exact congrArg Prod.snd e
  | succ n ih =>
    intro hn h
    have hN : n + 1 < 640 := lt_of_lt_of_eq hn N_0
    by_cases h0 : (n + 1) % 10 = 0
    · have e := outsAt0_A m c ⟨n + 1, hn⟩ h0 h0 (by dsimp only; omega) (by dsimp only; omega) (by dsimp only; omega) (by dsimp only; omega) (by dsimp only; omega) (by dsimp only; omega) (by dsimp only; omega)
      rw [sout_A, normed_block m c ⟨n + 1, hn⟩ h] at e
      exact congrArg Prod.snd e
    · have q : (n + 1) / 10 = n / 10 := by omega
      have i := ih (Nat.lt_of_succ_lt hn) (by omega)
      have k := hRow_congr m c q.symm (by omega) h
      refine Eq.trans ?_ (i.trans k)
      have cs : (n + 1) % 10 = 1 ∨ ((n + 1) % 10 = 2 ∨ (n + 1) % 10 = 6) ∨ (n + 1) % 10 = 3 ∨ (n + 1) % 10 = 4 ∨ (n + 1) % 10 = 5 ∨ (7 ≤ (n + 1) % 10 ∧ (n + 1) % 10 ≤ 8) ∨ (n + 1) % 10 = 9 := by omega
      rcases cs with h2 | h3 | h4 | h5 | h6 | h7 | h8
      · exact keep_B m c ⟨n + 1, hn⟩ h2
      · exact keep_C m c ⟨n + 1, hn⟩ h3
      · exact keep_D m c ⟨n + 1, hn⟩ h4
      · exact keep_E m c ⟨n + 1, hn⟩ h5
      · exact keep_F m c ⟨n + 1, hn⟩ h6
      · exact keep_G m c ⟨n + 1, hn⟩ h7
      · exact keep_H m c ⟨n + 1, hn⟩ h8

/-- What a point leaves in the output's block. -/
theorem left_in_block (t : Fin cfg0.N) (h : t.val / 10 < 64) : (outsAt0 m c t.val t.isLt).1 =
    blockOut (t.val % 10) (k0_pay28 (hRow m c (t.val / 10) h) (iblk m c 4 t)) (iblk m c 5 t) (iblk m c 6 t) (iblk m c 7 t) (iblk m c 8 t) (iblk m c 9 t) := by
  have hN : t.val < 640 := lt_of_lt_of_eq t.isLt N_0
  by_cases h0 : t.val % 10 = 0
  · rw [outsAt0_A m c t h0 h0 (by omega) (by omega) (by omega) (by omega) (by omega) (by omega) (by omega)]
    dsimp only
    rw [out_A, normed_block m c t h, h0]
  · have q : (t.val - 1) / 10 = t.val / 10 := by omega
    have i := carried m c (t.val - 1) (Nat.lt_of_le_of_lt (Nat.sub_le _ _) t.isLt) (by omega)
    have k := hRow_congr m c q (by omega) h
    have cs : t.val % 10 = 1 ∨ (t.val % 10 = 2 ∨ t.val % 10 = 6) ∨ t.val % 10 = 3 ∨ t.val % 10 = 4 ∨ t.val % 10 = 5 ∨ (7 ≤ t.val % 10 ∧ t.val % 10 ≤ 8) ∨ t.val % 10 = 9 := by omega
    rcases cs with h2 | h3 | h4 | h5 | h6 | h7 | h8
    · rw [outsAt0_B m c t (by omega) (by omega) h2 (by omega) (by omega) (by omega) (by omega) (by omega) (by omega)]
      dsimp only
      rw [out_B, i, k, h2]
    · rw [outsAt0_C m c t (by omega) (by omega) (by omega) h3 (by omega) (by omega) (by omega) (by omega) (by omega)]
      dsimp only
      rw [out_C (j := t.val % 10) (hj := h3), i, k]
    · rw [outsAt0_D m c t (by omega) (by omega) (by omega) (by omega) h4 (by omega) (by omega) (by omega) (by omega)]
      dsimp only
      rw [out_D, i, k, h4]
    · rw [outsAt0_E m c t (by omega) (by omega) (by omega) (by omega) (by omega) h5 (by omega) (by omega) (by omega)]
      dsimp only
      rw [out_E, i, k, h5]
    · rw [outsAt0_F m c t (by omega) (by omega) (by omega) (by omega) (by omega) (by omega) h6 (by omega) (by omega)]
      dsimp only
      rw [out_F, i, k, h6]
    · rw [outsAt0_G m c t (by omega) (by omega) (by omega) (by omega) (by omega) (by omega) (by omega) h7 (by omega)]
      dsimp only
      rw [out_G (j := t.val % 10) (hj := by omega), i, k]
    · rw [outsAt0_H m c t (by omega) (by omega) (by omega) (by omega) (by omega) (by omega) (by omega) (by omega) h8]
      dsimp only
      rw [out_H, i, k, h8]

/-- An entry of what a point leaves in the output's block. -/
theorem left_apply (t : Fin cfg0.N) (h : t.val / 10 < 64) (y : S1024x512.Idx) (R : Fin 65536) (C : Fin 5120)
    (hR : R.val = 1024 * (t.val / 10) + (y 0).val) (hC : C.val = 512 * (t.val % 10) + (y 1).val) :
    (outsAt0 m c t.val t.isLt).1 y = result m c (ix2 R C) := by
  have hy0 : (y 0).val < 1024 := (y 0).isLt
  have hy1 : (y 1).val < 512 := (y 1).isLt
  rw [left_in_block m c t h]
  unfold blockOut result
  show head _ _ _ _ _ _ _ _ = resultAt _ _ _ _ _ _ _ _ R C
  unfold resultAt
  have eH : 4 * (t.val % 10) + (y 1).val / 128 = C.val / 128 := by omega
  have eD : (y 1).val % 128 = C.val % 128 := by omega
  rw [iblk5_row m c t _ R hR, iblk6_row m c t _ R hR, iblk7_row m c t _ R hR, iblk8_row m c t _ R hR]
  congr 1
  · funext e
    have he := e.isLt
    show k0_pay28 (F := Ideal) _ _ (ix2 (y 0) ⟨128 * ((y 1).val / 128) + e.val, _⟩) = projAt _ _ R _
    refine (dot_apply _ _ _ _).trans ?_
    unfold projAt
    refine Finset.sum_congr rfl fun k _ => congrArg₂ (· * ·) ?_ ?_
    · show hAll m c ⟨1024 * (t.val / 10) + (y 0).val, _⟩ k = hAll m c R k
      exact congrArg (fun r => hAll m c r k) (Fin.ext hR.symm)
    · exact iblk4_apply m c t k _ _ (by dsimp only; omega)
  · funext i e
    exact iblk9_apply m c t i e
  · exact Fin.ext eD

/-- The result array, as contents of its buffer. -/
abbrev resultBuf : Buf (Elt Ideal) ((c : Thread nD τ).loc main_v7) := result m c

/-- Every write-back writes its block of the result. -/
theorem flushed_result (t : Fin cfg0.N) (hf : (cfg0.win 10).flush t = true) :
    (dats m 0 c).flushed 10 t = ((cfg0.win 10).blk t).view.read (Elt Ideal) (resultBuf m c) := by
  have hN : t.val < 640 := lt_of_lt_of_eq t.isLt N_0
  rw [flushed10 m c t]
  funext y
  have hy0 : (y 0).val < 1024 := (y 0).isLt
  have hy1 : (y 1).val < 512 := (y 1).isLt
  rw [View.read_apply]
  have e : ((cfg0.win 10).blk t).view.emb y = (ix2 (⟨1024 * (t.val / 10) + (y 0).val, by omega⟩ : Fin 65536)
      (⟨512 * (t.val % 10) + (y 1).val, by omega⟩ : Fin 5120) : S65536x5120.Idx) := by
    funext a
    apply Fin.ext
    match a with
    | ⟨0, _⟩ => show win0_10.index t 0 * 1024 + 1 * (y 0).val = 1024 * (t.val / 10) + (y 0).val
                rw [(index10 t).1]; omega
    | ⟨1, _⟩ => show win0_10.index t 1 * 512 + 1 * (y 1).val = 512 * (t.val % 10) + (y 1).val
                rw [(index10 t).2]; omega
  rw [e]
  exact left_apply m c t (by omega) y _ _ rfl rfl

/-- The result array after the run. -/
theorem final_result : (dats m 0 c).arrAt 10 cfg0.N = resultBuf m c :=
  (dats m 0 c).arrAt_eq_of_cover 10 (resultBuf m c) (flushed_result m c) fun i => by
    have h0 : (i 0 : Nat) < 65536 := (i 0).isLt
    have h1 : (i 1 : Nat) < 5120 := (i 1).isLt
    have hN : cfg0.N = 640 := N_0
    let t : Fin cfg0.N := ⟨10 * ((i 0).val / 1024) + (i 1).val / 512, by omega⟩
    have ht : t.val = 10 * ((i 0).val / 1024) + (i 1).val / 512 := rfl
    refine ⟨t, flush0_10 t, ?_⟩
    show i ∈ ((View.whole main_v7).slice (win0_10.rect t)).set
    rw [View.set_slice_whole, Rect.mem_set_unit]
    intro a
    match a with
    | ⟨0, _⟩ => show win0_10.index t 0 * 1024 ≤ (i 0 : Nat) ∧ (i 0 : Nat) < win0_10.index t 0 * 1024 + 1024
                rw [(index10 t).1]; omega
    | ⟨1, _⟩ => show win0_10.index t 1 * 512 ≤ (i 1 : Nat) ∧ (i 1 : Nat) < win0_10.index t 1 * 512 + 512
                rw [(index10 t).2]; omega

end Cert.Kernel3Ideal.Proj

end
-- ==== Proof.ProjOps.lean ====
/- The operations of the input projection's reference, each stated once: the rows of a table or of the modulation that a
token gets, the cut into heads, the norm of a head, and the rotations. -/
module

public import proofs.«01_k».proof.Proof.ProjMath
public import proofs.«01_k».proof.Proof.ProjCat
public import Idealize.ShloMosaic.Lib.StableHlo
public import Idealize.ShloMosaic.Lib.Pointwise
public import Idealize.ShloMosaic.Lib.Pipeline.Value
public import Idealize.ShloMosaic.Lib.ValueIdx
public import Idealize.ShloMosaic.PureOps.Ideal.Laws

@[expose] public section

set_option maxRecDepth 16384

noncomputable section

open Idealize.ShloMosaic Idealize.ShloMosaic.StableHlo

namespace Proj

/-! ## The rotations, half by half and quarter by quarter -/

theorem rope_first (u : Fin 128 → EReal) (c s : Fin 64 → EReal) (e : Fin 64) :
    rope u (cosRow c) (sinRow s) ⟨e.val, by omega⟩ = u ⟨e.val, by omega⟩ * c e - u ⟨64 + e.val, by omega⟩ * s e := by
  have h := e.isLt
  unfold rope cosRow sinRow turn
  simp only [h, if_true, Nat.mod_eq_of_lt h, mul_neg]
  rw [sub_eq_add_neg]
  congr 4
  exact Fin.ext (by show (e.val + 64) % 128 = 64 + e.val; omega)

theorem rope_second (u : Fin 128 → EReal) (c s : Fin 64 → EReal) (e : Fin 64) :
    rope u (cosRow c) (sinRow s) ⟨64 + e.val, by omega⟩ = u ⟨64 + e.val, by omega⟩ * c e + u ⟨e.val, by omega⟩ * s e := by
  have h := e.isLt
  have h1 : ¬ 64 + e.val < 64 := by omega
  have h2 : (64 + e.val) % 64 = e.val := by omega
  have h3 : (64 + e.val + 64) % 128 = e.val := by omega
  unfold rope cosRow sinRow turn
  simp only [h1, if_false, h2, h3, Fin.eta]

theorem axial_first (u : Fin 128 → EReal) (cr sr cc sn : Fin 32 → EReal) (e : Fin 32) :
    axial u (cosAx cr cc) (sinAx sr sn) ⟨e.val, by omega⟩ = u ⟨e.val, by omega⟩ * cr e - u ⟨32 + e.val, by omega⟩ * sr e := by
  have h := e.isLt
  have h1 : e.val < 64 := by omega
  have h2 : e.val % 32 = e.val := by omega
  have h3 : e.val / 32 % 2 = 0 := by omega
  have h4 : (e.val + 32) % 128 = 32 + e.val := by omega
  unfold axial cosAx sinAx turn
  simp only [h1, if_true, h2, h3, h4, Fin.eta, mul_neg]
  rw [sub_eq_add_neg]

theorem axial_second (u : Fin 128 → EReal) (cr sr cc sn : Fin 32 → EReal) (e : Fin 32) :
    axial u (cosAx cr cc) (sinAx sr sn) ⟨32 + e.val, by omega⟩ = u ⟨32 + e.val, by omega⟩ * cr e + u ⟨e.val, by omega⟩ * sr e := by
  have h := e.isLt
  have h1 : 32 + e.val < 64 := by omega
  have h2 : (32 + e.val) % 32 = e.val := by omega
  have h3 : ¬ (32 + e.val) / 32 % 2 = 0 := by omega
  have h4 : (32 + e.val + 96) % 128 = e.val := by omega
  unfold axial cosAx sinAx turn
  simp only [h1, if_true, if_false, h2, h3, h4, Fin.eta]

theorem axial_third (u : Fin 128 → EReal) (cr sr cc sn : Fin 32 → EReal) (e : Fin 32) :
    axial u (cosAx cr cc) (sinAx sr sn) ⟨64 + e.val, by omega⟩ = u ⟨64 + e.val, by omega⟩ * cc e - u ⟨64 + (32 + e.val), by omega⟩ * sn e := by
  have h := e.isLt
  have h1 : ¬ 64 + e.val < 64 := by omega
  have h2 : (64 + e.val) % 32 = e.val := by omega
  have h3 : (64 + e.val) / 32 % 2 = 0 := by omega
  have h4 : (64 + e.val + 32) % 128 = 64 + (32 + e.val) := by omega
  unfold axial cosAx sinAx turn
  simp only [h1, if_true, if_false, h2, h3, h4, Fin.eta, mul_neg]
  rw [sub_eq_add_neg]

theorem axial_fourth (u : Fin 128 → EReal) (cr sr cc sn : Fin 32 → EReal) (e : Fin 32) :
    axial u (cosAx cr cc) (sinAx sr sn) ⟨64 + (32 + e.val), by omega⟩ = u ⟨64 + (32 + e.val), by omega⟩ * cc e + u ⟨64 + e.val, by omega⟩ * sn e := by
  have h := e.isLt
  have h1 : ¬ 64 + (32 + e.val) < 64 := by omega
  have h2 : (64 + (32 + e.val)) % 32 = e.val := by omega
  have h3 : ¬ (64 + (32 + e.val)) / 32 % 2 = 0 := by omega
  have h4 : (64 + (32 + e.val) + 96) % 128 = 64 + e.val := by omega
  unfold axial cosAx sinAx turn
  simp only [h1, if_false, h2, h3, h4, Fin.eta]

/-- A place in the first half or in the second. -/
theorem two_halves (d : Fin 128) : (∃ e : Fin 64, d = ⟨e.val, by omega⟩) ∨ ∃ e : Fin 64, d = ⟨64 + e.val, by omega⟩ := by
  by_cases h : d.val < 64
  · exact Or.inl ⟨⟨d.val, h⟩, rfl⟩
  · exact Or.inr ⟨⟨d.val - 64, by omega⟩, Fin.ext (by show d.val = 64 + (d.val - 64); omega)⟩

/-- A place in a half, in its first half or in its second. -/
theorem two_quarters (d : Fin 64) : (∃ e : Fin 32, d = ⟨e.val, by omega⟩) ∨ ∃ e : Fin 32, d = ⟨32 + e.val, by omega⟩ := by
  by_cases h : d.val < 32
  · exact Or.inl ⟨⟨d.val, h⟩, rfl⟩
  · exact Or.inr ⟨⟨d.val - 32, by omega⟩, Fin.ext (by show d.val = 32 + (d.val - 32); omega)⟩

theorem posOf_four {R : Fin 65536} (h : R.val < 32768) : (posOf R).val = R.val % 8192 := if_pos h
theorem posOf_two {R : Fin 65536} (h : ¬ R.val < 32768) : (posOf R).val = (R.val - 32768) % 16384 := if_neg h
theorem seqOf_four {R : Fin 65536} (h : R.val < 32768) : (seqOf R).val = R.val / 8192 := if_pos h
theorem seqOf_two {R : Fin 65536} (h : ¬ R.val < 32768) : (seqOf R).val = 4 + (R.val - 32768) / 16384 := if_neg h

/-- The result in head `H`'s column `d`. -/
theorem resultAt_head (p : Fin 65536 → Fin 5120 → EReal) (c s : Fin 16384 → Fin 64 → EReal)
    (cr sr cc sn : Fin 16384 → Fin 32 → EReal) (g : Fin 4 → Fin 128 → EReal) (R : Fin 65536) (C : Fin 5120)
    (H d : Nat) (hd : d < 128) (hC : C.val = 128 * H + d) :
    resultAt p c s cr sr cc sn g R C =
      head H (fun e => p R ⟨128 * H + e.val, by have := C.isLt; omega⟩) (cosRow (c (posOf R))) (sinRow (s (posOf R)))
        (cosAx (cr (posOf R)) (cc (posOf R))) (sinAx (sr (posOf R)) (sn (posOf R))) g ⟨d, hd⟩ := by
  have h1 : C.val / 128 = H := by omega
  have h2 : C.val % 128 = d := by omega
  unfold resultAt
  simp only [h1, h2]

/-! ## A table's rows, one for each token -/

section Tables

variable {w : ℕ} (hs : (⟨2, ![16384, w]⟩ : Shape).Slices ![0, 0] ⟨2, ![8192, w]⟩)
  (h1 : (⟨2, ![8192, w]⟩ : Shape).BroadcastsInDim ⟨3, ![1, 8192, w]⟩ (![1, 2] : Fin 2 → Fin 3))
  (h2 : (⟨3, ![1, 8192, w]⟩ : Shape).BroadcastsInDim ⟨3, ![4, 8192, w]⟩ (![0, 1, 2] : Fin 3 → Fin 3))
  (h3 : (⟨3, ![4, 8192, w]⟩ : Shape).ShapeCasts ⟨2, ![32768, w]⟩)
  (h4 : (⟨2, ![16384, w]⟩ : Shape).BroadcastsInDim ⟨3, ![1, 16384, w]⟩ (![1, 2] : Fin 2 → Fin 3))
  (h5 : (⟨3, ![1, 16384, w]⟩ : Shape).BroadcastsInDim ⟨3, ![2, 16384, w]⟩ (![0, 1, 2] : Fin 3 → Fin 3))
  (h6 : (⟨3, ![2, 16384, w]⟩ : Shape).ShapeCasts ⟨2, ![32768, w]⟩)
  (h7 : Shape.Concatenates [⟨2, ![32768, w]⟩, ⟨2, ![32768, w]⟩] ⟨2, ![65536, w]⟩ 0)
  (h8 : (⟨2, ![65536, w]⟩ : Shape).BroadcastsInDim ⟨3, ![65536, 1, w]⟩ (![0, 2] : Fin 2 → Fin 3))

/-- One row per place, repeated for each of `B` sequences of `T` tokens. -/
theorem repeated {B T N : ℕ} (hT : T ≠ 1) (h1 : (⟨2, ![T, w]⟩ : Shape).BroadcastsInDim ⟨3, ![1, T, w]⟩ (![1, 2] : Fin 2 → Fin 3))
    (h2 : (⟨3, ![1, T, w]⟩ : Shape).BroadcastsInDim ⟨3, ![B, T, w]⟩ (![0, 1, 2] : Fin 3 → Fin 3))
    (h3 : (⟨3, ![B, T, w]⟩ : Shape).ShapeCasts ⟨2, ![N, w]⟩) (x : FVec Ideal ⟨2, ![T, w]⟩ .f32)
    (r : Fin N) (b : Fin B) (p : Fin T) (e : Fin w) (hr : b.val * T + p.val = r.val) :
    shapeCast ⟨2, ![N, w]⟩ (broadcastInDim ⟨3, ![B, T, w]⟩ ![0, 1, 2] h2 (broadcastInDim ⟨3, ![1, T, w]⟩ ![1, 2] h1 x)) h3 (ix2 r e)
      = x (ix2 p e) := by
  have ie := e.isLt
  refine (shapeCast_apply _ h3 (ix2 r e) (ix3 b p e) ?_).trans
    ((broadcastInDim_apply _ h2 _ _ (ix3 0 p e) fun a => ?_).trans (broadcastInDim_apply _ h1 x _ (ix2 p e) fun a => ?_))
  · rw [Shape.rowMajor_val_three, Shape.rowMajor_val_two]
    show (b.val * T + p.val) * w + e.val = r.val * w + e.val
    rw [hr]
  · match a with
    | ⟨0, _⟩ => rfl
    | ⟨1, _⟩ => show p.val = if T = 1 then 0 else p.val; rw [if_neg hT]
    | ⟨2, _⟩ => show e.val = if w = 1 then 0 else e.val; split_ifs <;> omega
  · match a with
    | ⟨0, _⟩ => show p.val = if T = 1 then 0 else p.val; rw [if_neg hT]
    | ⟨1, _⟩ => show e.val = if w = 1 then 0 else e.val; split_ifs <;> omega

/-- The rows by place: four sequences of 8192 tokens, then two of 16384. -/
def byPlace (x : FVec Ideal ⟨2, ![16384, w]⟩ .f32) : FVec Ideal ⟨3, ![65536, 1, w]⟩ .f32 :=
  broadcastInDim ⟨3, ![65536, 1, w]⟩ ![0, 2] h8 (concatenate ⟨2, ![65536, w]⟩ 0
    [⟨⟨2, ![32768, w]⟩, shapeCast _ (broadcastInDim ⟨3, ![4, 8192, w]⟩ ![0, 1, 2] h2
        (broadcastInDim ⟨3, ![1, 8192, w]⟩ ![1, 2] h1 (extractStridedSlice ⟨2, ![8192, w]⟩ ![0, 0] x hs))) h3⟩,
      ⟨⟨2, ![32768, w]⟩, shapeCast _ (broadcastInDim ⟨3, ![2, 16384, w]⟩ ![0, 1, 2] h5
        (broadcastInDim ⟨3, ![1, 16384, w]⟩ ![1, 2] h4 x)) h6⟩] h7)

theorem byPlace_apply (x : FVec Ideal ⟨2, ![16384, w]⟩ .f32) (R : Fin 65536) (e : Fin w) :
    byPlace hs h1 h2 h3 h4 h5 h6 h7 h8 x (ix3 R 0 e) = x (ix2 (posOf R) e) := by
  have ie := e.isLt
  have iR := R.isLt
  unfold byPlace
  refine (broadcastInDim_apply _ h8 _ _ (ix2 R e) fun a => ?_).trans ?_
  · match a with
    | ⟨0, _⟩ => rfl
    | ⟨1, _⟩ => show e.val = if w = 1 then 0 else e.val; split_ifs <;> omega
  by_cases h : R.val < 32768
  · refine (rows_left _ _ _ R e ⟨R.val, h⟩ rfl).trans ?_
    refine (repeated (by decide) h1 h2 h3 _ _ ⟨R.val / 8192, by omega⟩ ⟨R.val % 8192, by omega⟩ e
      (by show R.val / 8192 * 8192 + R.val % 8192 = R.val; omega)).trans ?_
    refine extractStridedSlice_apply _ _ hs _ (ix2 (posOf R) e) fun a => ?_
    match a with
    | ⟨0, _⟩ => show (posOf R).val = 0 + R.val % 8192; rw [posOf_four h, Nat.zero_add]
    | ⟨1, _⟩ => show e.val = 0 + e.val; omega
  · refine (rows_right _ _ _ R e ⟨R.val - 32768, by omega⟩ (by show R.val - 32768 + 32768 = R.val; omega)).trans ?_
    refine (repeated (by decide) h4 h5 h6 _ _ ⟨(R.val - 32768) / 16384, by omega⟩ ⟨(R.val - 32768) % 16384, by omega⟩ e
      (by show (R.val - 32768) / 16384 * 16384 + (R.val - 32768) % 16384 = R.val - 32768; omega)).trans ?_
    exact congrArg (fun p : Fin 16384 => x (ix2 p e)) (Fin.ext (posOf_two h).symm)

end Tables

/-! ## The modulation's row of a token's sequence -/

section Modulation

/-- The rows of `B` sequences from the `o`-th on, each repeated for the sequence's `T` tokens. -/
theorem spread {B T N : ℕ} {o : ℕ} (hs : (⟨2, ![8, 2048]⟩ : Shape).Slices ![o, 0] ⟨2, ![B, 2048]⟩)
    (h1 : (⟨2, ![B, 2048]⟩ : Shape).BroadcastsInDim ⟨3, ![B, 1, 2048]⟩ (![0, 2] : Fin 2 → Fin 3))
    (h2 : (⟨3, ![B, 1, 2048]⟩ : Shape).BroadcastsInDim ⟨3, ![B, T, 2048]⟩ (![0, 1, 2] : Fin 3 → Fin 3))
    (h3 : (⟨3, ![B, T, 2048]⟩ : Shape).ShapeCasts ⟨2, ![N, 2048]⟩) (x : FVec Ideal ⟨2, ![8, 2048]⟩ .f32)
    (r : Fin N) (b : Fin B) (p : Fin T) (s : Fin 8) (k : Fin 2048) (hr : b.val * T + p.val = r.val) (hb : s.val = o + b.val) :
    shapeCast ⟨2, ![N, 2048]⟩ (broadcastInDim ⟨3, ![B, T, 2048]⟩ ![0, 1, 2] h2 (broadcastInDim ⟨3, ![B, 1, 2048]⟩ ![0, 2] h1
      (extractStridedSlice ⟨2, ![B, 2048]⟩ ![o, 0] x hs))) h3 (ix2 r k) = x (ix2 s k) := by
  have ib := b.isLt
  refine (shapeCast_apply _ h3 (ix2 r k) (ix3 b p k) ?_).trans ((broadcastInDim_apply _ h2 _ _ (ix3 b 0 k) fun a => ?_).trans
    ((broadcastInDim_apply _ h1 _ _ (ix2 b k) fun a => ?_).trans (extractStridedSlice_apply _ _ hs _ (ix2 s k) fun a => ?_)))
  · rw [Shape.rowMajor_val_three, Shape.rowMajor_val_two]
    show (b.val * T + p.val) * 2048 + k.val = r.val * 2048 + k.val
    rw [hr]
  · match a with
    | ⟨0, _⟩ => show b.val = if B = 1 then 0 else b.val; split_ifs <;> omega
    | ⟨1, _⟩ => rfl
    | ⟨2, _⟩ => rfl
  · match a with
    | ⟨0, _⟩ => show b.val = if B = 1 then 0 else b.val; split_ifs <;> omega
    | ⟨1, _⟩ => rfl
  · match a with
    | ⟨0, _⟩ => exact hb
    | ⟨1, _⟩ => show k.val = 0 + k.val; omega

variable {o : ℕ} (h0 : (⟨5, ![2, 6, 8, 1, 2048]⟩ : Shape).Slices ![0, o, 0, 0, 0] ⟨5, ![1, 1, 8, 1, 2048]⟩)
  (h1 : (⟨5, ![1, 1, 8, 1, 2048]⟩ : Shape).ShapeCasts ⟨2, ![8, 2048]⟩)
  (h2 : (⟨2, ![8, 2048]⟩ : Shape).Slices ![0, 0] ⟨2, ![4, 2048]⟩)
  (h3 : (⟨2, ![4, 2048]⟩ : Shape).BroadcastsInDim ⟨3, ![4, 1, 2048]⟩ (![0, 2] : Fin 2 → Fin 3))
  (h4 : (⟨3, ![4, 1, 2048]⟩ : Shape).BroadcastsInDim ⟨3, ![4, 8192, 2048]⟩ (![0, 1, 2] : Fin 3 → Fin 3))
  (h5 : (⟨3, ![4, 8192, 2048]⟩ : Shape).ShapeCasts ⟨2, ![32768, 2048]⟩)
  (h6 : (⟨2, ![8, 2048]⟩ : Shape).Slices ![4, 0] ⟨2, ![2, 2048]⟩)
  (h7 : (⟨2, ![2, 2048]⟩ : Shape).BroadcastsInDim ⟨3, ![2, 1, 2048]⟩ (![0, 2] : Fin 2 → Fin 3))
  (h8 : (⟨3, ![2, 1, 2048]⟩ : Shape).BroadcastsInDim ⟨3, ![2, 16384, 2048]⟩ (![0, 1, 2] : Fin 3 → Fin 3))
  (h9 : (⟨3, ![2, 16384, 2048]⟩ : Shape).ShapeCasts ⟨2, ![32768, 2048]⟩)
  (h10 : Shape.Concatenates [⟨2, ![32768, 2048]⟩, ⟨2, ![32768, 2048]⟩] ⟨2, ![65536, 2048]⟩ 0)

/-- The sequences' rows of the modulation's part `o`. -/
def part (x : FVec Ideal ⟨5, ![2, 6, 8, 1, 2048]⟩ .f32) : FVec Ideal ⟨2, ![8, 2048]⟩ .f32 :=
  shapeCast _ (extractStridedSlice ⟨5, ![1, 1, 8, 1, 2048]⟩ ![0, o, 0, 0, 0] x h0) h1

/-- The same, one row for each token. -/
def bySequence (x : FVec Ideal ⟨5, ![2, 6, 8, 1, 2048]⟩ .f32) : FVec Ideal ⟨2, ![65536, 2048]⟩ .f32 :=
  concatenate ⟨2, ![65536, 2048]⟩ 0
    [⟨⟨2, ![32768, 2048]⟩, shapeCast _ (broadcastInDim ⟨3, ![4, 8192, 2048]⟩ ![0, 1, 2] h4 (broadcastInDim ⟨3, ![4, 1, 2048]⟩ ![0, 2] h3
        (extractStridedSlice ⟨2, ![4, 2048]⟩ ![0, 0] (part h0 h1 x) h2))) h5⟩,
      ⟨⟨2, ![32768, 2048]⟩, shapeCast _ (broadcastInDim ⟨3, ![2, 16384, 2048]⟩ ![0, 1, 2] h8 (broadcastInDim ⟨3, ![2, 1, 2048]⟩ ![0, 2] h7
        (extractStridedSlice ⟨2, ![2, 2048]⟩ ![4, 0] (part h0 h1 x) h6))) h9⟩] h10

theorem part_apply (ho : o < 6) (x : FVec Ideal ⟨5, ![2, 6, 8, 1, 2048]⟩ .f32) (s : Fin 8) (k : Fin 2048) :
    part h0 h1 x (ix2 s k) = x (ix5 0 ⟨o, ho⟩ s 0 k) := by
  unfold part
  refine (shapeCast_apply _ h1 (ix2 s k) (ix5 0 0 s 0 k) ?_).trans (extractStridedSlice_apply _ _ h0 _ (ix5 0 ⟨o, ho⟩ s 0 k) fun a => ?_)
  · rw [Shape.rowMajor_val_five, Shape.rowMajor_val_two]
    show ((((0 : ℕ) * 1 + 0) * 8 + s.val) * 1 + 0) * 2048 + k.val = s.val * 2048 + k.val
    omega
  · match a with
    | ⟨0, _⟩ => rfl
    | ⟨1, _⟩ => rfl
    | ⟨2, _⟩ => show s.val = 0 + s.val; omega
    | ⟨3, _⟩ => rfl
    | ⟨4, _⟩ => show k.val = 0 + k.val; omega

theorem bySequence_apply (ho : o < 6) (x : FVec Ideal ⟨5, ![2, 6, 8, 1, 2048]⟩ .f32) (R : Fin 65536) (k : Fin 2048) :
    bySequence h0 h1 h2 h3 h4 h5 h6 h7 h8 h9 h10 x (ix2 R k) = x (ix5 0 ⟨o, ho⟩ (seqOf R) 0 k) := by
  have iR := R.isLt
  rw [← part_apply h0 h1 ho x (seqOf R) k]
  unfold bySequence
  by_cases h : R.val < 32768
  · refine (rows_left _ _ _ R k ⟨R.val, h⟩ rfl).trans ?_
    exact spread h2 h3 h4 h5 _ _ ⟨R.val / 8192, by omega⟩ ⟨R.val % 8192, by omega⟩ (seqOf R) k
      (by show R.val / 8192 * 8192 + R.val % 8192 = R.val; omega) ((seqOf_four h).trans (Nat.zero_add _).symm)
  · refine (rows_right _ _ _ R k ⟨R.val - 32768, by omega⟩ (by show R.val - 32768 + 32768 = R.val; omega)).trans ?_
    exact spread h6 h7 h8 h9 _ _ ⟨(R.val - 32768) / 16384, by omega⟩ ⟨(R.val - 32768) % 16384, by omega⟩ (seqOf R) k
      (by show (R.val - 32768) / 16384 * 16384 + (R.val - 32768) % 16384 = R.val - 32768; omega) (seqOf_two h)

end Modulation

/-! ## The heads -/

section Heads

variable {H W o : ℕ}

/-- Columns of the projection, from the `o`-th on. -/
theorem columns_apply (hs : (⟨2, ![65536, 5120]⟩ : Shape).Slices ![0, o] ⟨2, ![65536, W]⟩) (y : FVec Ideal ⟨2, ![65536, 5120]⟩ .f32)
    (R : Fin 65536) (C : Fin W) (D : Fin 5120) (hD : D.val = o + C.val) :
    extractStridedSlice ⟨2, ![65536, W]⟩ ![0, o] y hs (ix2 R C) = y (ix2 R D) := by
  refine extractStridedSlice_apply _ _ hs _ (ix2 R D) fun a => ?_
  match a with
  | ⟨0, _⟩ => show R.val = 0 + R.val; omega
  | ⟨1, _⟩ => exact hD

/-- The same columns, cut into `H` heads. -/
def cut (hs : (⟨2, ![65536, 5120]⟩ : Shape).Slices ![0, o] ⟨2, ![65536, W]⟩) (hc : (⟨2, ![65536, W]⟩ : Shape).ShapeCasts ⟨3, ![65536, H, 128]⟩)
    (y : FVec Ideal ⟨2, ![65536, 5120]⟩ .f32) : FVec Ideal ⟨3, ![65536, H, 128]⟩ .f32 :=
  shapeCast _ (extractStridedSlice ⟨2, ![65536, W]⟩ ![0, o] y hs) hc

theorem cut_apply (hs : (⟨2, ![65536, 5120]⟩ : Shape).Slices ![0, o] ⟨2, ![65536, W]⟩) (hc : (⟨2, ![65536, W]⟩ : Shape).ShapeCasts ⟨3, ![65536, H, 128]⟩)
    (hW : W = H * 128) (y : FVec Ideal ⟨2, ![65536, 5120]⟩ .f32) (R : Fin 65536) (q : Fin H) (e : Fin 128) (D : Fin 5120)
    (hD : D.val = o + (128 * q.val + e.val)) : cut hs hc y (ix3 R q e) = y (ix2 R D) := by
  have iq := q.isLt
  unfold cut
  refine (shapeCast_apply _ hc (ix3 R q e) (ix2 R ⟨128 * q.val + e.val, by omega⟩) ?_).trans (columns_apply hs y R _ D hD)
  rw [Shape.rowMajor_val_three, Shape.rowMajor_val_two]
  show R.val * W + (128 * q.val + e.val) = (R.val * H + q.val) * 128 + e.val
  rw [hW]
  ring

/-- Heads side by side again. -/
theorem flat_apply (hc : (⟨3, ![65536, H, 128]⟩ : Shape).ShapeCasts ⟨2, ![65536, W]⟩) (hW : W = H * 128)
    (u : FVec Ideal ⟨3, ![65536, H, 128]⟩ .f32) (R : Fin 65536) (C : Fin W) :
    shapeCast ⟨2, ![65536, W]⟩ u hc (ix2 R C) = u (ix3 R ⟨C.val / 128, by have := C.isLt; omega⟩ ⟨C.val % 128, Nat.mod_lt _ (by decide)⟩) := by
  have iC := C.isLt
  refine shapeCast_apply _ hc _ _ ?_
  rw [Shape.rowMajor_val_three, Shape.rowMajor_val_two]
  show (R.val * H + C.val / 128) * 128 + C.val % 128 = R.val * W + C.val
  have e : R.val * W = R.val * H * 128 := by rw [hW, Nat.mul_assoc]
  rw [e]
  omega

/-- A head's first lanes, or its last ones. -/
theorem lanes_apply {v w k : ℕ} (h : (⟨3, ![65536, H, v]⟩ : Shape).Slices ![0, 0, k] ⟨3, ![65536, H, w]⟩)
    (u : FVec Ideal ⟨3, ![65536, H, v]⟩ .f32) (R : Fin 65536) (q : Fin H) (e : Fin w) (d : Fin v) (hd : d.val = k + e.val) :
    extractStridedSlice ⟨3, ![65536, H, w]⟩ ![0, 0, k] u h (ix3 R q e) = u (ix3 R q d) := by
  refine extractStridedSlice_apply _ _ h _ (ix3 R q d) fun a => ?_
  match a with
  | ⟨0, _⟩ => show R.val = 0 + R.val; omega
  | ⟨1, _⟩ => show q.val = 0 + q.val; omega
  | ⟨2, _⟩ => exact hd

/-- A token's row of a table at each of its heads. -/
theorem each_apply {w : ℕ} (h : (⟨3, ![65536, 1, w]⟩ : Shape).BroadcastsInDim ⟨3, ![65536, H, w]⟩ (![0, 1, 2] : Fin 3 → Fin 3))
    (c : FVec Ideal ⟨3, ![65536, 1, w]⟩ .f32) (R : Fin 65536) (q : Fin H) (e : Fin w) :
    broadcastInDim ⟨3, ![65536, H, w]⟩ ![0, 1, 2] h c (ix3 R q e) = c (ix3 R 0 e) := by
  have ie := e.isLt
  refine broadcastInDim_apply _ h _ _ (ix3 R 0 e) fun a => ?_
  match a with
  | ⟨0, _⟩ => rfl
  | ⟨1, _⟩ => rfl
  | ⟨2, _⟩ => show e.val = if w = 1 then 0 else e.val; split_ifs <;> omega

/-! ### The rotations -/

section Rotations

variable {v w : ℕ} (ha : (⟨3, ![65536, H, v]⟩ : Shape).Slices ![0, 0, 0] ⟨3, ![65536, H, w]⟩)
  (hb : (⟨3, ![65536, H, v]⟩ : Shape).Slices ![0, 0, w] ⟨3, ![65536, H, w]⟩)
  (he : (⟨3, ![65536, 1, w]⟩ : Shape).BroadcastsInDim ⟨3, ![65536, H, w]⟩ (![0, 1, 2] : Fin 3 → Fin 3))
  (hc : Shape.Concatenates [⟨3, ![65536, H, w]⟩, ⟨3, ![65536, H, w]⟩] ⟨3, ![65536, H, v]⟩ 2)
  (u : FVec Ideal ⟨3, ![65536, H, v]⟩ .f32) (c s : FVec Ideal ⟨3, ![65536, 1, w]⟩ .f32)

/-- The two halves of each head against each other. -/
def halves : FVec Ideal ⟨3, ![65536, H, v]⟩ .f32 :=
  concatenate ⟨3, ![65536, H, v]⟩ 2
    [⟨⟨3, ![65536, H, w]⟩, subf (mulf (extractStridedSlice ⟨3, ![65536, H, w]⟩ ![0, 0, 0] u ha) (broadcastInDim ⟨3, ![65536, H, w]⟩ ![0, 1, 2] he c))
        (mulf (extractStridedSlice ⟨3, ![65536, H, w]⟩ ![0, 0, w] u hb) (broadcastInDim ⟨3, ![65536, H, w]⟩ ![0, 1, 2] he s))⟩,
      ⟨⟨3, ![65536, H, w]⟩, addf (mulf (extractStridedSlice ⟨3, ![65536, H, w]⟩ ![0, 0, w] u hb) (broadcastInDim ⟨3, ![65536, H, w]⟩ ![0, 1, 2] he c))
        (mulf (extractStridedSlice ⟨3, ![65536, H, w]⟩ ![0, 0, 0] u ha) (broadcastInDim ⟨3, ![65536, H, w]⟩ ![0, 1, 2] he s))⟩] hc

theorem halves_first (R : Fin 65536) (q : Fin H) (e : Fin w) (d d' : Fin v) (hd : d.val = e.val) (hd' : d'.val = w + e.val) :
    halves ha hb he hc u c s (ix3 R q d) = u (ix3 R q d) * c (ix3 R 0 e) - u (ix3 R q d') * s (ix3 R 0 e) := by
  unfold halves
  refine (heads_left _ _ _ R q d e hd.symm).trans ?_
  show extractStridedSlice ⟨3, ![65536, H, w]⟩ ![0, 0, 0] u ha (ix3 R q e) * broadcastInDim ⟨3, ![65536, H, w]⟩ ![0, 1, 2] he c (ix3 R q e)
    - extractStridedSlice ⟨3, ![65536, H, w]⟩ ![0, 0, w] u hb (ix3 R q e) * broadcastInDim ⟨3, ![65536, H, w]⟩ ![0, 1, 2] he s (ix3 R q e) = _
  rw [each_apply, each_apply, lanes_apply ha u R q e d (hd.trans (Nat.zero_add _).symm), lanes_apply hb u R q e d' hd']

theorem halves_second (R : Fin 65536) (q : Fin H) (e : Fin w) (d d' : Fin v) (hd : d.val = e.val) (hd' : d'.val = w + e.val) :
    halves ha hb he hc u c s (ix3 R q d') = u (ix3 R q d') * c (ix3 R 0 e) + u (ix3 R q d) * s (ix3 R 0 e) := by
  unfold halves
  refine (heads_right _ _ _ R q d' e ((Nat.add_comm _ _).trans hd'.symm)).trans ?_
  show extractStridedSlice ⟨3, ![65536, H, w]⟩ ![0, 0, w] u hb (ix3 R q e) * broadcastInDim ⟨3, ![65536, H, w]⟩ ![0, 1, 2] he c (ix3 R q e)
    + extractStridedSlice ⟨3, ![65536, H, w]⟩ ![0, 0, 0] u ha (ix3 R q e) * broadcastInDim ⟨3, ![65536, H, w]⟩ ![0, 1, 2] he s (ix3 R q e) = _
  rw [each_apply, each_apply, lanes_apply ha u R q e d (hd.trans (Nat.zero_add _).symm), lanes_apply hb u R q e d' hd']

end Rotations

/-- A head rotated by place in the sequence. -/
theorem halves_rope (ha : (⟨3, ![65536, H, 128]⟩ : Shape).Slices ![0, 0, 0] ⟨3, ![65536, H, 64]⟩)
    (hb : (⟨3, ![65536, H, 128]⟩ : Shape).Slices ![0, 0, 64] ⟨3, ![65536, H, 64]⟩)
    (he : (⟨3, ![65536, 1, 64]⟩ : Shape).BroadcastsInDim ⟨3, ![65536, H, 64]⟩ (![0, 1, 2] : Fin 3 → Fin 3))
    (hc : Shape.Concatenates [⟨3, ![65536, H, 64]⟩, ⟨3, ![65536, H, 64]⟩] ⟨3, ![65536, H, 128]⟩ 2)
    (u : FVec Ideal ⟨3, ![65536, H, 128]⟩ .f32) (c s : FVec Ideal ⟨3, ![65536, 1, 64]⟩ .f32) (R : Fin 65536) (q : Fin H) (d : Fin 128) :
    halves ha hb he hc u c s (ix3 R q d) = rope (fun e => u (ix3 R q e)) (cosRow fun e => c (ix3 R 0 e)) (sinRow fun e => s (ix3 R 0 e)) d := by
  rcases two_halves d with ⟨e, rfl⟩ | ⟨e, rfl⟩
  · exact (halves_first ha hb he hc u c s R q e _ ⟨64 + e.val, by omega⟩ rfl rfl).trans
      (rope_first (fun e => u (ix3 R q e)) (fun e => c (ix3 R 0 e)) (fun e => s (ix3 R 0 e)) e).symm
  · exact (halves_second ha hb he hc u c s R q e ⟨e.val, by omega⟩ _ rfl rfl).trans
      (rope_second (fun e => u (ix3 R q e)) (fun e => c (ix3 R 0 e)) (fun e => s (ix3 R 0 e)) e).symm

section Grid

variable (ha : (⟨3, ![65536, H, 128]⟩ : Shape).Slices ![0, 0, 0] ⟨3, ![65536, H, 64]⟩)
  (hb : (⟨3, ![65536, H, 128]⟩ : Shape).Slices ![0, 0, 64] ⟨3, ![65536, H, 64]⟩)
  (hc : Shape.Concatenates [⟨3, ![65536, H, 64]⟩, ⟨3, ![65536, H, 64]⟩] ⟨3, ![65536, H, 128]⟩ 2)
  (ha' : (⟨3, ![65536, H, 64]⟩ : Shape).Slices ![0, 0, 0] ⟨3, ![65536, H, 32]⟩)
  (hb' : (⟨3, ![65536, H, 64]⟩ : Shape).Slices ![0, 0, 32] ⟨3, ![65536, H, 32]⟩)
  (he' : (⟨3, ![65536, 1, 32]⟩ : Shape).BroadcastsInDim ⟨3, ![65536, H, 32]⟩ (![0, 1, 2] : Fin 3 → Fin 3))
  (hc' : Shape.Concatenates [⟨3, ![65536, H, 32]⟩, ⟨3, ![65536, H, 32]⟩] ⟨3, ![65536, H, 64]⟩ 2)
  (u : FVec Ideal ⟨3, ![65536, H, 128]⟩ .f32) (cr sr cc sn : FVec Ideal ⟨3, ![65536, 1, 32]⟩ .f32)

/-- Each half of each head rotated by itself, by the token's row of the grid and by its column. -/
def quarters : FVec Ideal ⟨3, ![65536, H, 128]⟩ .f32 :=
  concatenate ⟨3, ![65536, H, 128]⟩ 2
    [⟨⟨3, ![65536, H, 64]⟩, halves ha' hb' he' hc' (extractStridedSlice ⟨3, ![65536, H, 64]⟩ ![0, 0, 0] u ha) cr sr⟩,
      ⟨⟨3, ![65536, H, 64]⟩, halves ha' hb' he' hc' (extractStridedSlice ⟨3, ![65536, H, 64]⟩ ![0, 0, 64] u hb) cc sn⟩] hc

theorem quarters_axial (R : Fin 65536) (q : Fin H) (d : Fin 128) : quarters ha hb hc ha' hb' he' hc' u cr sr cc sn (ix3 R q d) =
    axial (fun e => u (ix3 R q e)) (cosAx (fun e => cr (ix3 R 0 e)) fun e => cc (ix3 R 0 e)) (sinAx (fun e => sr (ix3 R 0 e)) fun e => sn (ix3 R 0 e)) d := by
  have hl (e : Fin 64) := lanes_apply ha u R q e ⟨e.val, by omega⟩ (Nat.zero_add _).symm
  have hr (e : Fin 64) := lanes_apply hb u R q e ⟨64 + e.val, by omega⟩ rfl
  unfold quarters
  rcases two_halves d with ⟨e, rfl⟩ | ⟨e, rfl⟩
  · refine (heads_left _ _ _ R q (⟨e.val, by omega⟩ : Fin 128) e rfl).trans ?_
    rcases two_quarters e with ⟨e, rfl⟩ | ⟨e, rfl⟩
    · rw [halves_first ha' hb' he' hc' _ cr sr R q e _ ⟨32 + e.val, by omega⟩ rfl rfl, hl, hl]
      exact (axial_first (fun e => u (ix3 R q e)) (fun e => cr (ix3 R 0 e)) (fun e => sr (ix3 R 0 e)) (fun e => cc (ix3 R 0 e)) (fun e => sn (ix3 R 0 e)) e).symm
    · rw [halves_second ha' hb' he' hc' _ cr sr R q e ⟨e.val, by omega⟩ _ rfl rfl, hl, hl]
      exact (axial_second (fun e => u (ix3 R q e)) (fun e => cr (ix3 R 0 e)) (fun e => sr (ix3 R 0 e)) (fun e => cc (ix3 R 0 e)) (fun e => sn (ix3 R 0 e)) e).symm
  · refine (heads_right _ _ _ R q (⟨64 + e.val, by omega⟩ : Fin 128) e (Nat.add_comm _ _)).trans ?_
    rcases two_quarters e with ⟨e, rfl⟩ | ⟨e, rfl⟩
    · rw [halves_first ha' hb' he' hc' _ cc sn R q e _ ⟨32 + e.val, by omega⟩ rfl rfl, hr, hr]
      exact (axial_third (fun e => u (ix3 R q e)) (fun e => cr (ix3 R 0 e)) (fun e => sr (ix3 R 0 e)) (fun e => cc (ix3 R 0 e)) (fun e => sn (ix3 R 0 e)) e).symm
    · rw [halves_second ha' hb' he' hc' _ cc sn R q e ⟨e.val, by omega⟩ _ rfl rfl, hr, hr]
      exact (axial_fourth (fun e => u (ix3 R q e)) (fun e => cr (ix3 R 0 e)) (fun e => sr (ix3 R 0 e)) (fun e => cc (ix3 R 0 e)) (fun e => sn (ix3 R 0 e)) e).symm

end Grid

/-! ### The norm of a head -/

section Norm

variable {i : ℕ} (hg : (⟨2, ![4, 128]⟩ : Shape).Slices ![i, 0] ⟨2, ![1, 128]⟩) (hg1 : (⟨2, ![1, 128]⟩ : Shape).ShapeCasts ⟨1, ![128]⟩)
  (hg2 : (⟨1, ![128]⟩ : Shape).BroadcastsInDim ⟨3, ![1, 1, 128]⟩ (![2] : Fin 1 → Fin 3))
  (hg3 : (⟨3, ![1, 1, 128]⟩ : Shape).BroadcastsInDim ⟨3, ![65536, H, 128]⟩ (![0, 1, 2] : Fin 3 → Fin 3))
  (hr : (⟨3, ![65536, H, 128]⟩ : Shape).ReducesTo [2] ⟨2, ![65536, H]⟩) (hz : 0 < (⟨0, ![]⟩ : Shape).numel)
  (h1 : (⟨2, ![65536, H]⟩ : Shape).BroadcastsInDim ⟨3, ![65536, H, 1]⟩ (![0, 1] : Fin 2 → Fin 3))
  (h0 : (⟨0, ![]⟩ : Shape).BroadcastsInDim ⟨3, ![65536, H, 1]⟩ (![] : Fin 0 → Fin 3))
  (h2 : (⟨3, ![65536, H, 1]⟩ : Shape).BroadcastsInDim ⟨3, ![65536, H, 128]⟩ (![0, 1, 2] : Fin 3 → Fin 3))
  (g : FVec Ideal ⟨2, ![4, 128]⟩ .f32) (u : FVec Ideal ⟨3, ![65536, H, 128]⟩ .f32)

/-- The gains `i` at each head. -/
def gain : FVec Ideal ⟨3, ![65536, H, 128]⟩ .f32 :=
  broadcastInDim ⟨3, ![65536, H, 128]⟩ ![0, 1, 2] hg3 (broadcastInDim ⟨3, ![1, 1, 128]⟩ ![2] hg2
    (shapeCast ⟨1, ![128]⟩ (extractStridedSlice ⟨2, ![1, 128]⟩ ![i, 0] g hg) hg1))

theorem gain_apply (hi : i < 4) (R : Fin 65536) (q : Fin H) (d : Fin 128) : gain hg hg1 hg2 hg3 g (ix3 R q d) = g (ix2 ⟨i, hi⟩ d) := by
  unfold gain
  refine (broadcastInDim_apply _ hg3 _ _ (ix3 0 0 d) fun a => ?_).trans ((broadcastInDim_apply _ hg2 _ _ (ix1 d) fun a => ?_).trans
    ((shapeCast_apply _ hg1 _ (ix2 0 d) ?_).trans (extractStridedSlice_apply _ _ hg _ (ix2 ⟨i, hi⟩ d) fun a => ?_)))
  · match a with
    | ⟨0, _⟩ => rfl
    | ⟨1, _⟩ => rfl
    | ⟨2, _⟩ => rfl
  · match a with
    | ⟨0, _⟩ => rfl
  · rw [Shape.rowMajor_val_two, Shape.rowMajor_val_one]
    show 0 * 128 + d.val = d.val
    omega
  · match a with
    | ⟨0, _⟩ => rfl
    | ⟨1, _⟩ => show d.val = 0 + d.val; omega

/-- The reciprocal of each head's root mean square. -/
def roots : FVec Ideal ⟨3, ![65536, H, 1]⟩ .f32 :=
  Host.rsqrt (addf (Host.divf (broadcastInDim ⟨3, ![65536, H, 1]⟩ ![0, 1] h1 (Host.reduceAdd (mulf u u) (constant ⟨0, ![]⟩ .f32 0x00000000#32) hr hz))
    (broadcastInDim ⟨3, ![65536, H, 1]⟩ ![] h0 (constant ⟨0, ![]⟩ .f32 0x43000000#32)))
    (broadcastInDim ⟨3, ![65536, H, 1]⟩ ![] h0 (constant ⟨0, ![]⟩ .f32 0x358637BD#32)))

theorem roots_apply (hs : (⟨3, ![65536, H, 128]⟩ : Shape).Reduces [2] ⟨2, ![65536, H]⟩) (R : Fin 65536) (q : Fin H) :
    roots hr hz h1 h0 u (ix3 R q 0) = Ideal.rsqrt (Ideal.div (∑ e : Fin 128, u (ix3 R q e) * u (ix3 R q e)) (Ideal.ofBits .f32 0x43000000#32) + eps) := by
  have iq := q.isLt
  unfold roots
  refine congrArg (fun x : EReal => Ideal.rsqrt (Ideal.div x (Ideal.ofBits .f32 0x43000000#32) + eps)) ?_
  refine (broadcastInDim_apply _ h1 _ _ (ix2 R q) fun a => ?_).trans ?_
  · match a with
    | ⟨0, _⟩ => rfl
    | ⟨1, _⟩ => show q.val = if H = 1 then 0 else q.val; split_ifs <;> omega
  simp only [Host.reduceAdd, Ideal.hostReduceAdd_def]
  rw [Ideal.hostReduceAdd_single hr hs]
  refine (congrArg₂ (fun x y : EReal => x + y) Ideal.ofBits_zero_f32 (Finset.sum_congr rfl fun e _ => ?_)).trans (zero_add _)
  refine congrArg (mulf u u) (funext fun a => ?_)
  match a with
  | ⟨0, _⟩ => rfl
  | ⟨1, _⟩ => rfl
  | ⟨2, _⟩ => rfl

/-- The heads, normed. -/
def norms : FVec Ideal ⟨3, ![65536, H, 128]⟩ .f32 :=
  mulf (mulf u (broadcastInDim ⟨3, ![65536, H, 128]⟩ ![0, 1, 2] h2 (roots hr hz h1 h0 u))) (gain hg hg1 hg2 hg3 g)

theorem norms_apply (hi : i < 4) (hs : (⟨3, ![65536, H, 128]⟩ : Shape).Reduces [2] ⟨2, ![65536, H]⟩) (R : Fin 65536) (q : Fin H) (d : Fin 128) :
    norms hg hg1 hg2 hg3 hr hz h1 h0 h2 g u (ix3 R q d) = rmsHead (fun e => u (ix3 R q e)) (fun e => g (ix2 ⟨i, hi⟩ e)) d := by
  have iq := q.isLt
  have hb : broadcastInDim ⟨3, ![65536, H, 128]⟩ ![0, 1, 2] h2 (roots hr hz h1 h0 u) (ix3 R q d) = roots hr hz h1 h0 u (ix3 R q 0) := by
    refine broadcastInDim_apply _ h2 _ _ (ix3 R q 0) fun a => ?_
    match a with
    | ⟨0, _⟩ => rfl
    | ⟨1, _⟩ => show q.val = if H = 1 then 0 else q.val; split_ifs <;> omega
    | ⟨2, _⟩ => rfl
  unfold norms
  show u (ix3 R q d) * broadcastInDim ⟨3, ![65536, H, 128]⟩ ![0, 1, 2] h2 (roots hr hz h1 h0 u) (ix3 R q d) * gain hg hg1 hg2 hg3 g (ix3 R q d) = _
  rw [hb, roots_apply hr hz h1 h0 u hs, gain_apply hg hg1 hg2 hg3 g hi]
  rfl

end Norm

end Heads

end Proj

end
-- ==== Proof.ProjRef.lean ====
/- The input projection's reference, read at an index. -/
module

public import proofs.«01_k».proof.Proof.ProjOps
public import proofs.«01_k».proof.Proof.Gen.Reference3Ideal.Read

@[expose] public section

set_option maxRecDepth 16384

noncomputable section

open Idealize.ShloMosaic

namespace Cert.Reference3Ideal.Proj

open Cert.Reference3Ideal Cert.Reference3Ideal.Gen Cert.Reference3Ideal.Read _root_.Proj

variable (x0 : Vec Ideal S65536x2048 .f32) (x1 : Vec Ideal S2x6x8x1x2048 .f32) (x2 : Vec Ideal S1x2048 .f32)
  (x3 : Vec Ideal S2048x5120 .bf16) (x4 x5 : Vec Ideal S16384x64 .f32) (x6 x7 x8 x9 : Vec Ideal S16384x32 .f32) (x10 : Vec Ideal S4x128 .f32)

/-! ## The rows of the tables and of the modulation that a token gets -/

theorem table_c (R : Fin 65536) (e : Fin 64) : val_main_v8 (F := Ideal) x4 (ix3 R 0 e) = x4 (ix2 (posOf R) e) :=
  byPlace_apply _ _ _ _ _ _ _ _ _ x4 R e

theorem table_s (R : Fin 65536) (e : Fin 64) : val_main_v17 (F := Ideal) x5 (ix3 R 0 e) = x5 (ix2 (posOf R) e) :=
  byPlace_apply _ _ _ _ _ _ _ _ _ x5 R e

theorem table_cr (R : Fin 65536) (e : Fin 32) : val_main_v26 (F := Ideal) x6 (ix3 R 0 e) = x6 (ix2 (posOf R) e) :=
  byPlace_apply _ _ _ _ _ _ _ _ _ x6 R e

theorem table_sr (R : Fin 65536) (e : Fin 32) : val_main_v35 (F := Ideal) x7 (ix3 R 0 e) = x7 (ix2 (posOf R) e) :=
  byPlace_apply _ _ _ _ _ _ _ _ _ x7 R e

theorem table_cc (R : Fin 65536) (e : Fin 32) : val_main_v44 (F := Ideal) x8 (ix3 R 0 e) = x8 (ix2 (posOf R) e) :=
  byPlace_apply _ _ _ _ _ _ _ _ _ x8 R e

theorem table_sn (R : Fin 65536) (e : Fin 32) : val_main_v53 (F := Ideal) x9 (ix3 R 0 e) = x9 (ix2 (posOf R) e) :=
  byPlace_apply _ _ _ _ _ _ _ _ _ x9 R e

theorem scale_row (R : Fin 65536) (k : Fin 2048) : val_main_v76 (F := Ideal) x1 (ix2 R k) = x1 (ix5 0 1 (seqOf R) 0 k) :=
  bySequence_apply _ _ _ _ _ _ _ _ _ _ _ (by decide) x1 R k

theorem shift_row (R : Fin 65536) (k : Fin 2048) : val_main_v90 (F := Ideal) x1 (ix2 R k) = x1 (ix5 0 0 (seqOf R) 0 k) :=
  bySequence_apply _ _ _ _ _ _ _ _ _ _ _ (by decide) x1 R k

/-! ## The norm, the modulation and the projection -/

theorem n56 (R : Fin 65536) : (val_main_v56 (F := Ideal) x0) (ix2 R 0) = (val_main_v55 (F := Ideal) x0) (ix1 R) := by
  refine (val_main_v56_apply x0 (ix2 R 0)).trans (congrArg _ (funext fun a => Fin.ext ?_))
  match a with
    | ⟨0, _⟩ => rfl

theorem n62 (R : Fin 65536) (k : Fin 2048) : (val_main_v62 (F := Ideal) x0) (ix2 R k) = (val_main_v61 (F := Ideal) x0) (ix2 R 0) := by
  refine (val_main_v62_apply x0 (ix2 R k)).trans (congrArg _ (funext fun a => Fin.ext ?_))
  match a with
    | ⟨0, _⟩ => rfl
    | ⟨1, _⟩ => rfl

theorem n64 (R : Fin 65536) (k : Fin 2048) : (val_main_v64 (F := Ideal) x2) (ix2 R k) = x2 (ix2 0 k) := by
  refine (val_main_v64_apply x2 (ix2 R k)).trans (congrArg _ (funext fun a => Fin.ext ?_))
  match a with
    | ⟨0, _⟩ => rfl
    | ⟨1, _⟩ => rfl

theorem n55 (R : Fin 65536) : (val_main_v55 (F := Ideal) x0) (ix1 R) = ∑ k : Fin 2048, x0 (ix2 R k) * x0 (ix2 R k) := by
  refine (val_main_v55_apply x0 (ix1 R)).trans ?_
  refine (congrArg₂ (fun x y : EReal => x + y) Ideal.ofBits_zero_f32 (Finset.sum_congr rfl fun k _ => ?_)).trans (zero_add _)
  have e : idx_main_v55 (ix1 R) k = (ix2 R k : S65536x2048.Idx) := funext fun a => by
    match a with
    | ⟨0, _⟩ => rfl
    | ⟨1, _⟩ => rfl
  rw [e]
  rfl

/-- The normed and modulated tokens. -/
theorem normed_apply (R : Fin 65536) (k : Fin 2048) : (val_main_v91 (F := Ideal) x0 x1 x2) (ix2 R k) =
    normed (fun R k => x0 (ix2 R k)) (fun k => x2 (ix2 0 k)) (fun b k => x1 (ix5 0 1 b 0 k)) (fun b k => x1 (ix5 0 0 b 0 k)) R k := by
  have h61 : (val_main_v61 (F := Ideal) x0) (ix2 R 0) = Ideal.rsqrt (Ideal.div (∑ k : Fin 2048, x0 (ix2 R k) * x0 (ix2 R k)) (Ideal.ofBits .f32 0x45000000#32) + eps) := by
    rw [← n55 x0 R, ← n56 x0 R]
    rfl
  show x0 (ix2 R k) * (val_main_v62 (F := Ideal) x0) (ix2 R k) * (val_main_v64 (F := Ideal) x2) (ix2 R k) * ((val_main_v77 (F := Ideal)) (ix2 R k) + (val_main_v76 (F := Ideal) x1) (ix2 R k)) + (val_main_v90 (F := Ideal) x1) (ix2 R k) = _
  rw [n62, n64, h61, scale_row, shift_row]
  have h77 : (val_main_v77 (F := Ideal)) (ix2 R k) = 1 := Ideal.ofBits_one_f32
  rw [h77]
  rfl

/-- The projection. -/
theorem proj_apply (R : Fin 65536) (C : Fin 5120) : (val_main_v93 (F := Ideal) x0 x1 x2 x3) (ix2 R C) =
    projAt (normed (fun R k => x0 (ix2 R k)) (fun k => x2 (ix2 0 k)) (fun b k => x1 (ix5 0 1 b 0 k)) (fun b k => x1 (ix5 0 0 b 0 k)))
      (fun k C => x3 (ix2 k C)) R C := by
  refine (val_main_v93_apply x0 x1 x2 x3 (ix2 R C)).trans (Finset.sum_congr rfl fun k _ => ?_)
  have e1 : lidx_main_v93 (ix2 R C) k = (ix2 R k : S65536x2048.Idx) := funext fun a => by
    match a with
    | ⟨0, _⟩ => rfl
    | ⟨1, _⟩ => rfl
  have e2 : ridx_main_v93 (ix2 R C) k = (ix2 k C : S2048x5120.Idx) := funext fun a => by
    match a with
    | ⟨0, _⟩ => rfl
    | ⟨1, _⟩ => rfl
  rw [e1, e2, normed_apply]
  rfl

/-- The projection as an abbreviation. -/
abbrev p (R : Fin 65536) (C : Fin 5120) : EReal := (val_main_v93 (F := Ideal) x0 x1 x2 x3) (ix2 R C)

/-! ## The groups of columns -/

/-- The result as an abbreviation. -/
abbrev res (R : Fin 65536) (C : Fin 5120) : EReal :=
  resultAt (p x0 x1 x2 x3) (fun P e => x4 (ix2 P e)) (fun P e => x5 (ix2 P e)) (fun P e => x6 (ix2 P e)) (fun P e => x7 (ix2 P e))
    (fun P e => x8 (ix2 P e)) (fun P e => x9 (ix2 P e)) (fun i e => x10 (ix2 i e)) R C

/-- Head `H` of a token's projection. -/
abbrev lane (R : Fin 65536) (H : Nat) (hH : H < 40) (e : Fin 128) : EReal := p x0 x1 x2 x3 R ⟨128 * H + e.val, by omega⟩

/-- The result in the group's column `C`, the group starting at head `H`. -/
theorem res_head (R : Fin 65536) (D : Fin 5120) (H C : Nat) (hD : D.val = 128 * H + C) : res x0 x1 x2 x3 x4 x5 x6 x7 x8 x9 x10 R D =
    head (H + C / 128) (lane x0 x1 x2 x3 R (H + C / 128) (by omega)) (cosRow fun e => x4 (ix2 (posOf R) e)) (sinRow fun e => x5 (ix2 (posOf R) e))
      (cosAx (fun e => x6 (ix2 (posOf R) e)) fun e => x8 (ix2 (posOf R) e)) (sinAx (fun e => x7 (ix2 (posOf R) e)) fun e => x9 (ix2 (posOf R) e))
      (fun i e => x10 (ix2 i e)) ⟨C % 128, Nat.mod_lt _ (by decide)⟩ :=
  resultAt_head _ _ _ _ _ _ _ _ R D (H + C / 128) (C % 128) (Nat.mod_lt _ (by decide)) (by omega)

/-- The cut heads are the projection's. -/
theorem cut_lane {K W o : Nat} (hs : (⟨2, ![65536, 5120]⟩ : Shape).Slices ![0, o] ⟨2, ![65536, W]⟩)
    (hc : (⟨2, ![65536, W]⟩ : Shape).ShapeCasts ⟨3, ![65536, K, 128]⟩) (hW : W = K * 128) (H : Nat) (ho : o = 128 * H) (R : Fin 65536)
    (q : Fin K) (hH : H + q.val < 40) :
    (fun e => cut hs hc (val_main_v93 (F := Ideal) x0 x1 x2 x3) (ix3 R q e)) = lane x0 x1 x2 x3 R (H + q.val) hH :=
  funext fun e => cut_apply hs hc hW _ R q e _ (by show 128 * (H + q.val) + e.val = o + (128 * q.val + e.val); omega)

/-- A column that is left as it is. -/
theorem column_lane {W o : Nat} (hs : (⟨2, ![65536, 5120]⟩ : Shape).Slices ![0, o] ⟨2, ![65536, W]⟩) (H : Nat) (ho : o = 128 * H)
    (R : Fin 65536) (C : Fin W) (hH : H + C.val / 128 < 40) :
    extractStridedSlice ⟨2, ![65536, W]⟩ ![0, o] (val_main_v93 (F := Ideal) x0 x1 x2 x3) hs (ix2 R C) =
      lane x0 x1 x2 x3 R (H + C.val / 128) hH ⟨C.val % 128, Nat.mod_lt _ (by decide)⟩ :=
  columns_apply hs _ R C _ (by show 128 * (H + C.val / 128) + C.val % 128 = o + C.val; omega)

/-- The retention's queries. -/
theorem r109 (R : Fin 65536) (C : Fin 512) (D : Fin 5120) (hD : D.val = 0 + C.val) :
    val_main_v109 (F := Ideal) x0 x1 x2 x3 x4 x5 (ix2 R C) = res x0 x1 x2 x3 x4 x5 x6 x7 x8 x9 x10 R D := by
  have hC := C.isLt
  rw [res_head x0 x1 x2 x3 x4 x5 x6 x7 x8 x9 x10 R D 0 C.val (by omega), head]
  simp (disch := omega) only [if_pos, if_neg]
  refine (flat_apply _ rfl (val_main_v108 (F := Ideal) x0 x1 x2 x3 x4 x5) R C).trans ((halves_rope _ _ _ _ (val_main_v95 (F := Ideal) x0 x1 x2 x3) (val_main_v8 (F := Ideal) x4) (val_main_v17 (F := Ideal) x5) R _ _).trans ?_)
  simp only [table_c, table_s]
  rw [show (fun e => val_main_v95 (F := Ideal) x0 x1 x2 x3 (ix3 R _ e)) = _ from cut_lane x0 x1 x2 x3 _ _ rfl 0 rfl R _ _]

/-- The retention's keys. -/
theorem r127 (R : Fin 65536) (C : Fin 512) (D : Fin 5120) (hD : D.val = 512 + C.val) :
    val_main_v127 (F := Ideal) x0 x1 x2 x3 x4 x5 (ix2 R C) = res x0 x1 x2 x3 x4 x5 x6 x7 x8 x9 x10 R D := by
  have hC := C.isLt
  rw [res_head x0 x1 x2 x3 x4 x5 x6 x7 x8 x9 x10 R D 4 C.val (by omega), head]
  simp (disch := omega) only [if_pos, if_neg]
  refine (flat_apply _ rfl (val_main_v126 (F := Ideal) x0 x1 x2 x3 x4 x5) R C).trans ((congrArg (fun x : EReal => x * scale) (halves_rope _ _ _ _ (val_main_v111 (F := Ideal) x0 x1 x2 x3) (val_main_v8 (F := Ideal) x4) (val_main_v17 (F := Ideal) x5) R _ _)).trans ?_)
  simp only [table_c, table_s]
  rw [show (fun e => val_main_v111 (F := Ideal) x0 x1 x2 x3 (ix3 R _ e)) = _ from cut_lane x0 x1 x2 x3 _ _ rfl 4 rfl R _ _]

/-- The retention's values. -/
theorem r128 (R : Fin 65536) (C : Fin 512) (D : Fin 5120) (hD : D.val = 1024 + C.val) :
    val_main_v128 (F := Ideal) x0 x1 x2 x3 (ix2 R C) = res x0 x1 x2 x3 x4 x5 x6 x7 x8 x9 x10 R D := by
  have hC := C.isLt
  rw [res_head x0 x1 x2 x3 x4 x5 x6 x7 x8 x9 x10 R D 8 C.val (by omega), head]
  simp (disch := omega) only [if_pos, if_neg]
  exact column_lane x0 x1 x2 x3 _ 8 rfl R C _

/-- The retention's gates. -/
theorem r130 (R : Fin 65536) (C : Fin 512) (D : Fin 5120) (hD : D.val = 1536 + C.val) :
    val_main_v130 (F := Ideal) x0 x1 x2 x3 (ix2 R C) = res x0 x1 x2 x3 x4 x5 x6 x7 x8 x9 x10 R D := by
  have hC := C.isLt
  rw [res_head x0 x1 x2 x3 x4 x5 x6 x7 x8 x9 x10 R D 12 C.val (by omega), head]
  simp (disch := omega) only [if_pos, if_neg]
  have h1 : val_main_call0_v2 (F := Ideal) (ix2 R C) = 1 := Ideal.ofBits_one_f32
  have h2 : val_main_call0_v4 (F := Ideal) (ix2 R C) = 1 := Ideal.ofBits_one_f32
  show val_main_v129 (F := Ideal) x0 x1 x2 x3 (ix2 R C) * Ideal.div (val_main_call0_v4 (F := Ideal) (ix2 R C)) (val_main_call0_v2 (F := Ideal) (ix2 R C) + Ideal.exp (-val_main_v129 (F := Ideal) x0 x1 x2 x3 (ix2 R C))) = _
  rw [h1, h2, silu, zero_sub, show val_main_v129 (F := Ideal) x0 x1 x2 x3 (ix2 R C) = _ from column_lane x0 x1 x2 x3 _ 12 rfl R C _]

/-- The neighbourhood attention's queries. -/
theorem r148 (R : Fin 65536) (C : Fin 512) (D : Fin 5120) (hD : D.val = 2048 + C.val) :
    val_main_v148 (F := Ideal) x0 x1 x2 x3 x10 (ix2 R C) = res x0 x1 x2 x3 x4 x5 x6 x7 x8 x9 x10 R D := by
  have hC := C.isLt
  rw [res_head x0 x1 x2 x3 x4 x5 x6 x7 x8 x9 x10 R D 16 C.val (by omega), head]
  simp (disch := omega) only [if_pos, if_neg]
  refine (flat_apply _ rfl (val_main_v147 (F := Ideal) x0 x1 x2 x3 x10) R C).trans ((norms_apply _ _ _ _ _ _ _ _ _ x10 (val_main_v132 (F := Ideal) x0 x1 x2 x3) (by decide) (by decide) R _ _).trans ?_)
  rw [show (fun e => val_main_v132 (F := Ideal) x0 x1 x2 x3 (ix3 R _ e)) = _ from cut_lane x0 x1 x2 x3 _ _ rfl 16 rfl R _ _]
  rfl

/-- Its keys. -/
theorem r166 (R : Fin 65536) (C : Fin 512) (D : Fin 5120) (hD : D.val = 2560 + C.val) :
    val_main_v166 (F := Ideal) x0 x1 x2 x3 x10 (ix2 R C) = res x0 x1 x2 x3 x4 x5 x6 x7 x8 x9 x10 R D := by
  have hC := C.isLt
  rw [res_head x0 x1 x2 x3 x4 x5 x6 x7 x8 x9 x10 R D 20 C.val (by omega), head]
  simp (disch := omega) only [if_pos, if_neg]
  refine (flat_apply _ rfl (val_main_v165 (F := Ideal) x0 x1 x2 x3 x10) R C).trans ((norms_apply _ _ _ _ _ _ _ _ _ x10 (val_main_v150 (F := Ideal) x0 x1 x2 x3) (by decide) (by decide) R _ _).trans ?_)
  rw [show (fun e => val_main_v150 (F := Ideal) x0 x1 x2 x3 (ix3 R _ e)) = _ from cut_lane x0 x1 x2 x3 _ _ rfl 20 rfl R _ _]
  rfl

/-- Its values. -/
theorem r167 (R : Fin 65536) (C : Fin 512) (D : Fin 5120) (hD : D.val = 3072 + C.val) :
    val_main_v167 (F := Ideal) x0 x1 x2 x3 (ix2 R C) = res x0 x1 x2 x3 x4 x5 x6 x7 x8 x9 x10 R D := by
  have hC := C.isLt
  rw [res_head x0 x1 x2 x3 x4 x5 x6 x7 x8 x9 x10 R D 24 C.val (by omega), head]
  simp (disch := omega) only [if_pos, if_neg]
  exact column_lane x0 x1 x2 x3 _ 24 rfl R C _

/-- The grid attention's queries. -/
theorem r216 (R : Fin 65536) (C : Fin 1024) (D : Fin 5120) (hD : D.val = 3584 + C.val) :
    val_main_v216 (F := Ideal) x0 x1 x2 x3 x6 x7 x8 x9 x10 (ix2 R C) = res x0 x1 x2 x3 x4 x5 x6 x7 x8 x9 x10 R D := by
  have hC := C.isLt
  rw [res_head x0 x1 x2 x3 x4 x5 x6 x7 x8 x9 x10 R D 28 C.val (by omega), head]
  simp (disch := omega) only [if_pos, if_neg]
  refine (flat_apply _ rfl (val_main_v215 (F := Ideal) x0 x1 x2 x3 x6 x7 x8 x9 x10) R C).trans ((congrArg (fun x : EReal => x * scale2) (quarters_axial _ _ _ _ _ _ _ (val_main_v184 (F := Ideal) x0 x1 x2 x3 x10) (val_main_v26 (F := Ideal) x6) (val_main_v35 (F := Ideal) x7) (val_main_v44 (F := Ideal) x8) (val_main_v53 (F := Ideal) x9) R _ _)).trans ?_)
  have hn (q : Fin 8) (e : Fin 128) : val_main_v184 (F := Ideal) x0 x1 x2 x3 x10 (ix3 R q e) = _ :=
    norms_apply _ _ _ _ _ _ _ _ _ x10 (val_main_v169 (F := Ideal) x0 x1 x2 x3) (by decide) (by decide) R q e
  simp only [table_cr, table_sr, table_cc, table_sn, hn]
  rw [show (fun e => val_main_v169 (F := Ideal) x0 x1 x2 x3 (ix3 R _ e)) = _ from cut_lane x0 x1 x2 x3 _ _ rfl 28 rfl R _ _]
  rfl

/-- Its keys. -/
theorem r263 (R : Fin 65536) (C : Fin 256) (D : Fin 5120) (hD : D.val = 4608 + C.val) :
    val_main_v263 (F := Ideal) x0 x1 x2 x3 x6 x7 x8 x9 x10 (ix2 R C) = res x0 x1 x2 x3 x4 x5 x6 x7 x8 x9 x10 R D := by
  have hC := C.isLt
  rw [res_head x0 x1 x2 x3 x4 x5 x6 x7 x8 x9 x10 R D 36 C.val (by omega), head]
  simp (disch := omega) only [if_pos, if_neg]
  refine (flat_apply _ rfl (val_main_v262 (F := Ideal) x0 x1 x2 x3 x6 x7 x8 x9 x10) R C).trans ((quarters_axial _ _ _ _ _ _ _ (val_main_v233 (F := Ideal) x0 x1 x2 x3 x10) (val_main_v26 (F := Ideal) x6) (val_main_v35 (F := Ideal) x7) (val_main_v44 (F := Ideal) x8) (val_main_v53 (F := Ideal) x9) R _ _).trans ?_)
  have hn (q : Fin 2) (e : Fin 128) : val_main_v233 (F := Ideal) x0 x1 x2 x3 x10 (ix3 R q e) = _ :=
    norms_apply _ _ _ _ _ _ _ _ _ x10 (val_main_v218 (F := Ideal) x0 x1 x2 x3) (by decide) (by decide) R q e
  simp only [table_cr, table_sr, table_cc, table_sn, hn]
  rw [show (fun e => val_main_v218 (F := Ideal) x0 x1 x2 x3 (ix3 R _ e)) = _ from cut_lane x0 x1 x2 x3 _ _ rfl 36 rfl R _ _]
  rfl

/-- Its values. -/
theorem r264 (R : Fin 65536) (C : Fin 256) (D : Fin 5120) (hD : D.val = 4864 + C.val) :
    val_main_v264 (F := Ideal) x0 x1 x2 x3 (ix2 R C) = res x0 x1 x2 x3 x4 x5 x6 x7 x8 x9 x10 R D := by
  have hC := C.isLt
  rw [res_head x0 x1 x2 x3 x4 x5 x6 x7 x8 x9 x10 R D 38 C.val (by omega), head]
  simp (disch := omega) only [if_pos, if_neg]
  exact column_lane x0 x1 x2 x3 _ 38 rfl R C _

/-- A column of one of the groups, side by side. -/
theorem group {W : Nat} (xs : List ((s : Shape) × (s.Idx → EReal))) (h : Shape.Concatenates (xs.map (·.1)) ⟨2, ![65536, 5120]⟩ 1)
    (k : Nat) (hk : k < xs.length) (v : (⟨2, ![65536, W]⟩ : Shape).Idx → EReal) (hv : xs[k] = ⟨⟨2, ![65536, W]⟩, v⟩) (o : Nat)
    (ho : (((xs.take k).map (·.1)).map fun s => if h : s.rank = 2 then s.size ((1 : Fin 2).cast h.symm) else 0).sum = o)
    (f : Fin 65536 → Fin 5120 → EReal) (hf : ∀ R C D, D.val = o + C.val → v (ix2 R C) = f R D) (R : Fin 65536) (C : Fin 5120)
    (h1 : o ≤ C.val) (h2 : C.val < o + W) : concatenate ⟨2, ![65536, 5120]⟩ 1 xs h (ix2 R C) = f R C :=
  (cols_piece xs h k hk v hv o ho R C ⟨C.val - o, by omega⟩ (by show o + (C.val - o) = C.val; omega)).trans
    (hf R _ C (by show C.val = o + (C.val - o); omega))

/-- The reference's result, entry by entry. -/
theorem result_apply (R : Fin 65536) (C : Fin 5120) : val_main_v266 (F := Ideal) x0 x1 x2 x3 x4 x5 x6 x7 x8 x9 x10 (ix2 R C) = res x0 x1 x2 x3 x4 x5 x6 x7 x8 x9 x10 R C := by
  have hC := C.isLt
  show val_main_v265 (F := Ideal) x0 x1 x2 x3 x4 x5 x6 x7 x8 x9 x10 (ix2 R C) = _
  unfold val_main_v265
  by_cases c0 : C.val < 512
  · exact group _ _ 0 (by simp) _ rfl 0 rfl _ (r109 x0 x1 x2 x3 x4 x5 x6 x7 x8 x9 x10) R C (by omega) (by omega)
  by_cases c1 : C.val < 1024
  · exact group _ _ 1 (by simp) _ rfl 512 rfl _ (r127 x0 x1 x2 x3 x4 x5 x6 x7 x8 x9 x10) R C (by omega) (by omega)
  by_cases c2 : C.val < 1536
  · exact group _ _ 2 (by simp) _ rfl 1024 rfl _ (r128 x0 x1 x2 x3 x4 x5 x6 x7 x8 x9 x10) R C (by omega) (by omega)
  by_cases c3 : C.val < 2048
  · exact group _ _ 3 (by simp) _ rfl 1536 rfl _ (r130 x0 x1 x2 x3 x4 x5 x6 x7 x8 x9 x10) R C (by omega) (by omega)
  by_cases c4 : C.val < 2560
  · exact group _ _ 4 (by simp) _ rfl 2048 rfl _ (r148 x0 x1 x2 x3 x4 x5 x6 x7 x8 x9 x10) R C (by omega) (by omega)
  by_cases c5 : C.val < 3072
  · exact group _ _ 5 (by simp) _ rfl 2560 rfl _ (r166 x0 x1 x2 x3 x4 x5 x6 x7 x8 x9 x10) R C (by omega) (by omega)
  by_cases c6 : C.val < 3584
  · exact group _ _ 6 (by simp) _ rfl 3072 rfl _ (r167 x0 x1 x2 x3 x4 x5 x6 x7 x8 x9 x10) R C (by omega) (by omega)
  by_cases c7 : C.val < 4608
  · exact group _ _ 7 (by simp) _ rfl 3584 rfl _ (r216 x0 x1 x2 x3 x4 x5 x6 x7 x8 x9 x10) R C (by omega) (by omega)
  by_cases c8 : C.val < 4864
  · exact group _ _ 8 (by simp) _ rfl 4608 rfl _ (r263 x0 x1 x2 x3 x4 x5 x6 x7 x8 x9 x10) R C (by omega) (by omega)
  exact group _ _ 9 (by simp) _ rfl 4864 rfl _ (r264 x0 x1 x2 x3 x4 x5 x6 x7 x8 x9 x10) R C (by omega) (by omega)

end Cert.Reference3Ideal.Proj

end
-- ==== Proof.ProjEqual.lean ====
/- The input projection's kernel and its reference give the same array. -/
module

public import proofs.«01_k».proof.Proof.ProjTiles
public import proofs.«01_k».proof.Proof.ProjRef

@[expose] public section

noncomputable section

open Idealize.ShloMosaic

namespace Cert.Kernel3Ideal.Proj

/-- The reference's result of the kernel's arguments is the kernel's. -/
theorem result_eq (m : (ℓ : Loc Cert.Kernel3Ideal.nD Cert.Kernel3Ideal.τ Cert.Kernel3Ideal.sig) → Buf (Elt Ideal) ℓ) (c : Dev Cert.Kernel3Ideal.nD) :
    result m c = Cert.Reference3Ideal.Read.val_main_v266 (F := Ideal) (tokens m c) (mods m c) (gain1 m c) (weights m c) (cosT m c) (sinT m c)
      (cosR m c) (sinR m c) (cosC m c) (sinC m c) (gains m c) := by
  funext y
  have e : y = ix2 (y 0) (y 1) := funext fun a => by
    match a with
    | ⟨0, _⟩ => rfl
    | ⟨1, _⟩ => rfl
  refine Eq.trans ?_ (congrArg _ e.symm)
  refine Eq.trans ?_ (Cert.Reference3Ideal.Proj.result_apply (tokens m c) (mods m c) (gain1 m c) (weights m c) (cosT m c) (sinT m c)
      (cosR m c) (sinR m c) (cosC m c) (sinC m c) (gains m c) (y 0) (y 1)).symm
  unfold Cert.Reference3Ideal.Proj.res
  have hp : Cert.Reference3Ideal.Proj.p (tokens m c) (mods m c) (gain1 m c) (weights m c) = pAll m c := by
    funext R C
    exact Cert.Reference3Ideal.Proj.proj_apply (tokens m c) (mods m c) (gain1 m c) (weights m c) R C
  rw [hp]
  rfl

end Cert.Kernel3Ideal.Proj

end
-- ==== Proof.ModTiles.lean ====
/- The modulation's result array, read at an index. -/
module

public import proofs.«01_k».proof.Proof.ProjMath
public import proofs.«01_k».proof.Proof.Gen.Kernel4Ideal.Skeleton
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Mod

open Cert.Kernel4Ideal Cert.Kernel4Ideal.Gen _root_.Proj

/-- The conditioning vectors, whole. -/
theorem index0 : ∀ t : Fin grid0.N, win0_0.index t 0 = 0 ∧ win0_0.index t 1 = 0 := by decide +kernel
/-- The weights' blocks. -/
theorem index1 : ∀ t : Fin grid0.N, win0_1.index t 0 = t.val / 12 ∧ win0_1.index t 1 = 0 ∧ win0_1.index t 2 = t.val % 12 := by decide +kernel
/-- The biases' blocks. -/
theorem index2 : ∀ t : Fin grid0.N, win0_2.index t 0 = t.val / 12 ∧ win0_2.index t 1 = 0 ∧ win0_2.index t 2 = t.val % 12 := by decide +kernel
/-- The output's blocks. -/
theorem index3 : ∀ t : Fin grid0.N, win0_3.index t 0 = t.val / 12 ∧ win0_3.index t 1 = 0 ∧ win0_3.index t 2 = t.val % 12 := by decide +kernel

/-- A vector through silu, against a column, with a bias. -/
def entry (c w : Fin 2048 → EReal) (b : EReal) : EReal := (∑ k, silu (c k) * w k) + b

variable (m : (ℓ : Loc nD τ sig) → Buf (Elt Ideal) ℓ) (c : Dev nD)

/-- The conditioning vectors. -/
abbrev conds : Vec Ideal S8x2048 .f32 := m (c.tc.loc main_arg0)
/-- The weights. -/
abbrev weights : Vec Ideal S2x2048x12288 .f32 := m (c.tc.loc main_arg1)
/-- The biases. -/
abbrev biases : Vec Ideal S2x12288 .f32 := m (c.tc.loc main_arg2)

/-- What the kernel leaves of a layer, a sequence and a column. -/
def result : Vec Ideal S2x8x12288 .f32 := fun y =>
  entry (fun k => conds m c (ix2 (y 1) k)) (fun k => weights m c (ix3 (y 0) k (y 2))) (biases m c (ix2 (y 0) (y 2)))

/-- The kernel's biases are the argument's, with an axis more. -/
theorem V0 : (V m c main_v0 : Vec Ideal S2x1x12288 .f32) = shapeCast S2x1x12288 (biases m c) shapeCasts_S2x12288_S2x1x12288 := by
  unfold V hostOps0
  after_results_simp <;> rfl

/-- An entry of what a point stores. -/
theorem pay_apply (v : Vec Ideal S8x2048 .f32) (w : Vec Ideal S1x2048x1024 .f32) (b : Vec Ideal S1x1x1024 .f32) (r : Fin 8) (d : Fin 1024) :
    k0_pay1 v w b (ix3 0 r d) = entry (fun k => v (ix2 r k)) (fun k => w (ix3 0 k d)) (b (ix3 0 0 d)) := by
  pointwise [k0_pay1]
  rfl

section Blocks
variable (t : Fin cfg0.N)

/-- An entry of the conditioning vectors. -/
theorem iblk0_apply (r : Fin 8) (k : Fin 2048) : (iblk m c 0 t : Vec Ideal S8x2048 .f32) (ix2 r k) = conds m c (ix2 r k) := by
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * r.val = r.val; rw [(index0 t).1]; omega
  | ⟨1, _⟩ => show win0_0.index t 1 * 2048 + 1 * k.val = k.val; rw [(index0 t).2]; omega

/-- An entry of a block of weights. -/
theorem iblk1_apply (k : Fin 2048) (d : Fin 1024) (l : Fin 2) (C : Fin 12288) (hl : l.val = t.val / 12) (hC : C.val = 1024 * (t.val % 12) + d.val) :
    (iblk m c 1 t : Vec Ideal S1x2048x1024 .f32) (ix3 0 k d) = weights m c (ix3 l k C) := by
  unfold iblk
  rw [View.read_apply]
  show V m c main_arg1 _ = m (c.tc.loc main_arg1) _
  rw [V_main_arg1]
  obtain ⟨e0, e1, e2⟩ := index1 t
  congr 1
  funext a
  apply Fin.ext
  match a with
  | ⟨0, _⟩ => show win0_1.index t 0 * 1 + 1 * 0 = l.val; rw [e0, hl]; omega
  | ⟨1, _⟩ => show win0_1.index t 1 * 2048 + 1 * k.val = k.val; rw [e1]; omega
  | ⟨2, _⟩ => show win0_1.index t 2 * 1024 + 1 * d.val = C.val; rw [e2, hC]; omega

/-- An entry of a block of biases. -/
theorem iblk2_apply (d : Fin 1024) (l : Fin 2) (C : Fin 12288) (hl : l.val = t.val / 12) (hC : C.val = 1024 * (t.val % 12) + d.val) :
    (iblk m c 2 t : Vec Ideal S1x1x1024 .f32) (ix3 0 0 d) = biases m c (ix2 l C) := by
  obtain ⟨e0, e1, e2⟩ := index2 t
  have e : (iblk m c 2 t : Vec Ideal S1x1x1024 .f32) (ix3 0 0 d) = (V m c main_v0 : Vec Ideal S2x1x12288 .f32) (ix3 l 0 C) := by
    unfold iblk
    rw [View.read_apply]
    show V m c main_v0 _ = V m c main_v0 _
    congr 1
    funext a
    apply Fin.ext
    match a with
    | ⟨0, _⟩ => show win0_2.index t 0 * 1 + 1 * 0 = l.val; rw [e0, hl]; omega
    | ⟨1, _⟩ => show win0_2.index t 1 * 1 + 1 * 0 = 0; rw [e1]
    | ⟨2, _⟩ => show win0_2.index t 2 * 1024 + 1 * d.val = C.val; rw [e2, hC]; omega
  rw [e, V0]
  refine shapeCast_apply _ _ _ _ ?_
  rewrite [Shape.rowMajor_val_three, Shape.rowMajor_val_two]
  show l.val * 12288 + C.val = (l.val * 1 + 0) * 12288 + C.val
  omega

/-- An entry of what a point leaves in the output's block. -/
theorem left_apply (r : Fin 8) (d : Fin 1024) (l : Fin 2) (C : Fin 12288) (hl : l.val = t.val / 12) (hC : C.val = 1024 * (t.val % 12) + d.val) :
    out0_3 (iblk m c 0 t) (iblk m c 1 t) (iblk m c 2 t) (ix3 0 r d) = result m c (ix3 l r C) := by
  unfold out0_3
  have z2 : (![0, 0] : Fin 2 → Nat) = fun _ => 0 := by decide
  have z3 : (![0, 0, 0] : Fin 3 → Nat) = fun _ => 0 := by decide
  rw [View.canon_unit_zero (S := S1x8x1024) z3, View.ld_unit_zero (S := S8x2048) z2, View.ld_unit_zero (S := S1x2048x1024) z3,
    View.ld_unit_zero (S := S1x1x1024) z3]
  refine (pay_apply _ _ _ r d).trans ?_
  unfold result
  refine congr (congr (congrArg entry (funext fun k => ?_)) (funext fun k => ?_)) ?_
  · exact iblk0_apply m c t r k
  · exact iblk1_apply m c t k d l C hl hC
  · exact iblk2_apply m c t d l C hl hC

end Blocks

/-- The result array, as contents of its buffer. -/
abbrev resultBuf : Buf (Elt Ideal) ((c : Thread nD τ).loc main_v1) := result m c

/-- Every write-back writes its block of the result. -/
theorem flushed_result (t : Fin cfg0.N) (hf : (cfg0.win 3).flush t = true) :
    (dats m 0 c).flushed 3 t = ((cfg0.win 3).blk t).view.read (Elt Ideal) (resultBuf m c) := by
  have hN : t.val < 24 := lt_of_lt_of_eq t.isLt N_0
  rw [Value.flushed3 m c t]
  funext y
  have hy0 : (y 0).val < 1 := (y 0).isLt
  have hy1 : (y 1).val < 8 := (y 1).isLt
  have hy2 : (y 2).val < 1024 := (y 2).isLt
  rw [View.read_apply]
  have e : ((cfg0.win 3).blk t).view.emb y = (ix3 (⟨t.val / 12, by omega⟩ : Fin 2) (⟨(y 1).val, hy1⟩ : Fin 8)
      (⟨1024 * (t.val % 12) + (y 2).val, by omega⟩ : Fin 12288) : S2x8x12288.Idx) := by
    obtain ⟨e0, e1, e2⟩ := index3 t
    funext a
    apply Fin.ext
    match a with
    | ⟨0, _⟩ => show win0_3.index t 0 * 1 + 1 * (y 0).val = t.val / 12; rw [e0]; omega
    | ⟨1, _⟩ => show win0_3.index t 1 * 8 + 1 * (y 1).val = (y 1).val; rw [e1]; omega
    | ⟨2, _⟩ => show win0_3.index t 2 * 1024 + 1 * (y 2).val = 1024 * (t.val % 12) + (y 2).val; rw [e2]; omega
  rw [e]
  have ey : (y : S1x8x1024.Idx) = ix3 (0 : Fin 1) (⟨(y 1).val, hy1⟩ : Fin 8) (⟨(y 2).val, hy2⟩ : Fin 1024) := by
    funext a
    match a with
    | ⟨0, _⟩ => exact Fin.ext (by show (y 0).val = 0; omega)
    | ⟨1, _⟩ => rfl
    | ⟨2, _⟩ => rfl
  refine Eq.trans ?_ (left_apply m c t ⟨(y 1).val, hy1⟩ ⟨(y 2).val, hy2⟩ _ _ rfl rfl)
  rw [← ey]

/-- The result array after the run. -/
theorem final_result : (dats m 0 c).arrAt 3 cfg0.N = resultBuf m c :=
  (dats m 0 c).arrAt_eq_of_cover 3 (resultBuf m c) (flushed_result m c) fun i => by
    have h0 : (i 0 : Nat) < 2 := (i 0).isLt
    have h1 : (i 1 : Nat) < 8 := (i 1).isLt
    have h2 : (i 2 : Nat) < 12288 := (i 2).isLt
    have hN : cfg0.N = 24 := N_0
    let t : Fin cfg0.N := ⟨12 * (i 0).val + (i 2).val / 1024, by omega⟩
    have ht : t.val = 12 * (i 0).val + (i 2).val / 1024 := rfl
    obtain ⟨e0, e1, e2⟩ := index3 t
    refine ⟨t, flush0_3 t, ?_⟩
    show i ∈ ((View.whole main_v1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [e0]; omega
    | ⟨1, _⟩ => show win0_3.index t 1 * 8 ≤ (i 1 : Nat) ∧ (i 1 : Nat) < win0_3.index t 1 * 8 + 8; rw [e1]; omega
    | ⟨2, _⟩ => show win0_3.index t 2 * 1024 ≤ (i 2 : Nat) ∧ (i 2 : Nat) < win0_3.index t 2 * 1024 + 1024; rw [e2]; omega

end Cert.Kernel4Ideal.Mod

end
-- ==== Proof.ModEqual.lean ====
/- The modulation's kernel and its reference give the same array. -/
module

public import proofs.«01_k».proof.Proof.ModTiles
public import proofs.«01_k».proof.Proof.Gen.Reference4Ideal.Run
public import proofs.«01_k».proof.Proof.Gen.Reference4Ideal.Read

@[expose] public section

set_option maxRecDepth 16384

noncomputable section

open Idealize.ShloMosaic

namespace Cert.Kernel4Ideal.Mod

open Cert.Reference4Ideal.Read _root_.Proj

/-- The reference's vectors through silu. -/
theorem silu_apply (v : Vec Ideal Cert.Reference4Ideal.S8x2048 .f32) (i : Cert.Reference4Ideal.S8x2048.Idx) :
    val_main_v0 (F := Ideal) v i = silu (v i) := by
  have h1 : val_main_call0_v2 (F := Ideal) i = 1 := Ideal.ofBits_one_f32
  have h2 : val_main_call0_v4 (F := Ideal) i = 1 := Ideal.ofBits_one_f32
  show v i * Ideal.div (val_main_call0_v4 (F := Ideal) i) (val_main_call0_v2 (F := Ideal) i + Ideal.exp (-(v i))) = _
  rw [h1, h2]
  unfold silu
  rw [zero_sub]

/-- The reference's result of the kernel's arguments is the kernel's. -/
theorem result_eq (m : (ℓ : Loc Cert.Kernel4Ideal.nD Cert.Kernel4Ideal.τ Cert.Kernel4Ideal.sig) → Buf (Elt Ideal) ℓ) (c : Dev Cert.Kernel4Ideal.nD) :
    result m c = val_main_v5 (F := Ideal) (conds m c) (weights m c) (biases m c) := by
  funext y
  rw [val_main_v5_apply, val_main_v2_apply, val_main_v1_apply, val_main_v4_apply, val_main_v3_apply]
  unfold result entry
  refine congrArg₂ (· + ·) (Finset.sum_congr rfl fun k _ => congrArg₂ (· * ·) ?_ ?_) ?_
  · rw [silu_apply]
    refine congrArg (fun i => silu (conds m c i)) (funext fun a => ?_)
    match a with
    | ⟨0, _⟩ => rfl
    | ⟨1, _⟩ => rfl
  · refine congrArg (weights m c) (funext fun a => ?_)
    match a with
    | ⟨0, _⟩ => rfl
    | ⟨1, _⟩ => rfl
    | ⟨2, _⟩ => rfl
  · refine congrArg (biases m c) (funext fun a => ?_)
    match a with
    | ⟨0, _⟩ => rfl
    | ⟨1, _⟩ => rfl

end Cert.Kernel4Ideal.Mod

end
-- ==== Proof.SampleBlock.lean ====
/- What one grid point of the attention of the longer sequences leaves in its scratches (the first block of the keys, or
   one in between) and in the output block (the last one), as functions of its input blocks. -/
module

public import proofs.«01_k».proof.Proof.Rows
public import proofs.«01_k».proof.Proof.Gen.Kernel5Ideal.Value

@[expose] public section

set_option maxRecDepth 16384

noncomputable section

open Idealize.ShloMosaic Idealize.ShloMosaic.TcCoe

namespace Cert.Kernel5Ideal.Attn

open Cert.Kernel5Ideal Cert.Kernel5Ideal.Gen
open Cert.KernelIdeal.Attn (headAcc headMax headCols valOnes noMax noSum maxA accA slabMax slabSum nextMax nextAcc quot outB pick
  slabs128 slabs256 columns ld_cols0 ld_cols1 ld_cols2 ld_cols3 ld_noMax ld_noSum ld_whole ld_slabMax0 ld_slabMax1 ld_slabMax2
  ld_slabMax3 ld_slabSum0 ld_slabSum1 ld_slabSum2 ld_slabSum3 max_head0 max_head1 max_head2 max_head3 acc_head0 acc_head1
  acc_head2 acc_head3 pay1_eq pay2_eq pay3_eq pay4_eq pay8_eq canon_valOnes readCov_valOnes ld_valOnes)

/-! The values stored are those of the other call. -/

theorem pay1_same : @k0_pay1 = @Cert.KernelIdeal.Gen.k0_pay1 := rfl
theorem pay2_same : @k0_pay2 = @Cert.KernelIdeal.Gen.k0_pay2 := rfl
theorem pay3_same : @k0_pay3 = @Cert.KernelIdeal.Gen.k0_pay3 := rfl
theorem pay4_same : @k0_pay4 = @Cert.KernelIdeal.Gen.k0_pay4 := rfl
theorem pay5_same : @k0_pay5 = @Cert.KernelIdeal.Gen.k0_pay5 := rfl
theorem pay6_same : @k0_pay6 = @Cert.KernelIdeal.Gen.k0_pay6 := rfl
theorem pay7_same : @k0_pay7 = @Cert.KernelIdeal.Gen.k0_pay7 := rfl
theorem pay8_same : @k0_pay8 = @Cert.KernelIdeal.Gen.k0_pay8 := rfl
theorem pay11_same : @k0_pay11 = @Cert.KernelIdeal.Gen.k0_pay11 := rfl
theorem pay12_same : @k0_pay12 = @Cert.KernelIdeal.Gen.k0_pay12 := rfl
theorem pay13_same : @k0_pay13 = @Cert.KernelIdeal.Gen.k0_pay13 := rfl
theorem pay14_same : @k0_pay14 = @Cert.KernelIdeal.Gen.k0_pay14 := rfl
theorem pay15_same : @k0_pay15 = @Cert.KernelIdeal.Gen.k0_pay15 := rfl
theorem pay16_same : @k0_pay16 = @Cert.KernelIdeal.Gen.k0_pay16 := rfl
theorem pay17_same : @k0_pay17 = @Cert.KernelIdeal.Gen.k0_pay17 := rfl
theorem pay18_same : @k0_pay18 = @Cert.KernelIdeal.Gen.k0_pay18 := rfl
theorem pay19_same : @k0_pay19 = @Cert.KernelIdeal.Gen.k0_pay19 := rfl
theorem pay20_same : @k0_pay20 = @Cert.KernelIdeal.Gen.k0_pay20 := rfl
theorem pay21_same : @k0_pay21 = @Cert.KernelIdeal.Gen.k0_pay21 := rfl
theorem pay24_same : @k0_pay24 = @Cert.KernelIdeal.Gen.k0_pay24 := rfl
theorem pay25_same : @k0_pay25 = @Cert.KernelIdeal.Gen.k0_pay25 := rfl
theorem pay26_same : @k0_pay26 = @Cert.KernelIdeal.Gen.k0_pay26 := rfl
theorem pay27_same : @k0_pay27 = @Cert.KernelIdeal.Gen.k0_pay27 := rfl
theorem pay31_same : @k0_pay31 = @Cert.KernelIdeal.Gen.k0_pay31 := rfl
theorem pay32_same : @k0_pay32 = @Cert.KernelIdeal.Gen.k0_pay32 := rfl

section Points
variable (c : Dev nD) (i : grid0.Coords) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1024x512 .bf16) (harg7 : arg7.IsWhole) (arg8 : Memref sig .tc .vmem S4x1024x128 .f32) (harg8 : arg8.IsWhole) (arg9 : Memref sig .tc .vmem S4x1024x256 .f32) (harg9 : arg9.IsWhole) (arg10 : Memref sig .tc .vmem S4096x256 .bf16) (harg10 : arg10.IsWhole)
  (x0 : Vec Ideal S1024x512 .bf16) (x1 : Vec Ideal S4096x128 .bf16) (x2 : Vec Ideal S4096x128 .bf16)
  (xs0 : Vec Ideal S4x1024x128 .f32) (xs1 : Vec Ideal S4x1024x256 .f32) (v : Vec Ideal S4096x128 .bf16)

/-- The maxima after a point of the first block. -/
theorem soutA_0 (hc0 : cond0_0 i) (hc1 : ¬cond0_1 i) :
    sout0_A_0 c i arg4 harg4 arg5 harg5 arg6 harg6 arg7 harg7 arg8 harg8 arg9 harg9 arg10 harg10 hc0 hc1 x0 x1 x2 = maxA x0 x1 := by
  unfold sout0_A_0
  rw [View.read_writes_eq_canon _ _ _ (scover0_A_0 c i arg4 harg4 arg5 harg5 arg6 harg6 arg7 harg7 arg8 harg8 arg9 harg9 arg10 harg10 hc0 hc1 x0 x1 x2)]
  unfold kernelRun0_A
  dsimp only
  sl_unfold_words
  simp only [View.readAt_eq_ld, harg4.read_unread, harg5.read_unread, harg6.read_unread, harg8.read_unread, harg9.read_unread, harg10.read_unread]
  simp (disch := first | decide | rfl) only [↓View.readCov_skip, View.readCov_fill, View.readCov_cons_toLoadRect]
  simp only [pay1_same, pay2_same, pay3_same, pay4_same, pay5_same, pay6_same, pay7_same, pay8_same, pay11_same, pay12_same, pay13_same, pay14_same, pay15_same, pay16_same, pay17_same, pay18_same, pay19_same, pay20_same, pay21_same, pay24_same, pay25_same, pay26_same, pay27_same, pay31_same, pay32_same]
  funext y
  refine (slabs128 _ _ _ _ _ y).trans ?_
  simp only [ld_cols0, ld_cols1, ld_cols2, ld_cols3, ld_noMax, max_head0, max_head1, max_head2, max_head3, ld_whole]
  exact congrFun (pick (fun g => headMax x1 (headCols x0 g) noMax) (y 0)) _

/-- The sums after a point of the first block. -/
theorem soutA_1 (hc0 : cond0_0 i) (hc1 : ¬cond0_1 i) :
    sout0_A_1 c i arg4 harg4 arg5 harg5 arg6 harg6 arg7 harg7 arg8 harg8 arg9 harg9 arg10 harg10 hc0 hc1 x0 x1 x2 = accA x0 x1 x2 := by
  unfold sout0_A_1
  rw [View.read_writes_eq_canon _ _ _ (scover0_A_1 c i arg4 harg4 arg5 harg5 arg6 harg6 arg7 harg7 arg8 harg8 arg9 harg9 arg10 harg10 hc0 hc1 x0 x1 x2)]
  unfold kernelRun0_A
  dsimp only
  sl_unfold_words
  simp only [View.readAt_eq_ld, harg4.read_unread, harg5.read_unread, harg6.read_unread, harg8.read_unread, harg9.read_unread, harg10.read_unread]
  simp (disch := first | decide | rfl) only [↓View.readCov_skip, View.readCov_fill, View.readCov_cons_toLoadRect]
  simp only [pay1_same, pay2_same, pay3_same, pay4_same, pay5_same, pay6_same, pay7_same, pay8_same, pay11_same, pay12_same, pay13_same, pay14_same, pay15_same, pay16_same, pay17_same, pay18_same, pay19_same, pay20_same, pay21_same, pay24_same, pay25_same, pay26_same, pay27_same, pay31_same, pay32_same]
  funext y
  refine (slabs256 _ _ _ _ _ y).trans ?_
  simp only [ld_cols0, ld_cols1, ld_cols2, ld_cols3, ld_noMax, ld_noSum, acc_head0, acc_head1, acc_head2, acc_head3, ld_whole, pay8_eq, readCov_valOnes]
  exact congrFun (pick (fun g => headAcc x1 (valOnes x2) (headCols x0 g) noMax noSum) (y 0)) _

/-- The values and ones after a point of the first block. -/
theorem soutA_2 (hc0 : cond0_0 i) (hc1 : ¬cond0_1 i) :
    sout0_A_2 c i arg4 harg4 arg5 harg5 arg6 harg6 arg7 harg7 arg8 harg8 arg9 harg9 arg10 harg10 hc0 hc1 x0 x1 x2 = valOnes x2 := by
  unfold sout0_A_2
  rw [View.read_writes_eq_canon _ _ _ (scover0_A_2 c i arg4 harg4 arg5 harg5 arg6 harg6 arg7 harg7 arg8 harg8 arg9 harg9 arg10 harg10 hc0 hc1 x0 x1 x2)]
  unfold kernelRun0_A
  dsimp only
  sl_unfold_words
  simp only [View.readAt_eq_ld, harg4.read_unread, harg5.read_unread, harg6.read_unread, harg8.read_unread, harg9.read_unread, harg10.read_unread]
  simp only [pay1_same, pay2_same, pay3_same, pay4_same, pay5_same, pay6_same, pay7_same, pay8_same, pay11_same, pay12_same, pay13_same, pay14_same, pay15_same, pay16_same, pay17_same, pay18_same, pay19_same, pay20_same, pay21_same, pay24_same, pay25_same, pay26_same, pay27_same, pay31_same, pay32_same]
  funext y
  simp only [ld_whole, pay8_eq]
  exact canon_valOnes x2 y

/-- A load of the whole of the values and ones. -/
theorem ld_all (w : Vec Ideal S4096x256 .bf16) :
    View.ld w (Rect.unit ![0, 0] ![4096, 256] inb_S4096x256_S4096x256_0_0) = w := View.ld_unit_lit _ w (by decide)

/-- The values and ones once a point's values are stored over those of the point before. -/
theorem stored_valOnes : View.ld (View.read (Elt Ideal) arg10.view (arg10.view.writes (Elt Ideal) (harg10.unread (valOnes v))
      [(⟨Rect.unit ![0, 0] ![4096, 128] inb_S4096x256_S4096x128_0_0, x2⟩ : View.Piece (Elt Ideal) S4096x256 .bf16)]))
      (Rect.unit ![0, 0] ![4096, 256] inb_S4096x256_S4096x256_0_0) = valOnes x2 :=
  ld_valOnes arg10.view _ x2 v (harg10.read_unread _)

/-- The maxima after a point of a block in between. -/
theorem soutB_0 (hc0 : ¬cond0_0 i) (hc1 : ¬cond0_1 i) :
    sout0_B_0 c i arg4 harg4 arg5 harg5 arg6 harg6 arg7 harg7 arg8 harg8 arg9 harg9 arg10 harg10 hc0 hc1 x0 x1 x2 xs0 xs1 (valOnes v) = nextMax x0 x1 xs0 := by
  unfold sout0_B_0
  rw [View.read_writes_eq_canon _ _ _ (scover0_B_0 c i arg4 harg4 arg5 harg5 arg6 harg6 arg7 harg7 arg8 harg8 arg9 harg9 arg10 harg10 hc0 hc1 x0 x1 x2 xs0 xs1 (valOnes v))]
  unfold kernelRun0_B
  dsimp only
  sl_unfold_words
  simp only [View.readAt_eq_ld, harg4.read_unread, harg5.read_unread, harg6.read_unread, harg8.read_unread, harg9.read_unread, harg10.read_unread]
  simp only [pay1_same, pay2_same, pay3_same, pay4_same, pay5_same, pay6_same, pay7_same, pay8_same, pay11_same, pay12_same, pay13_same, pay14_same, pay15_same, pay16_same, pay17_same, pay18_same, pay19_same, pay20_same, pay21_same, pay24_same, pay25_same, pay26_same, pay27_same, pay31_same, pay32_same]
  funext y
  refine (slabs128 _ _ _ _ [] y).trans ?_
  simp only [ld_cols0, ld_cols1, ld_cols2, ld_cols3, ld_slabMax0, ld_slabMax1, ld_slabMax2, ld_slabMax3, max_head0, max_head1, max_head2, max_head3, ld_whole]
  exact congrFun (pick (fun g => headMax x1 (headCols x0 g) (slabMax xs0 g)) (y 0)) _

/-- The sums after a point of a block in between. -/
theorem soutB_1 (hc0 : ¬cond0_0 i) (hc1 : ¬cond0_1 i) :
    sout0_B_1 c i arg4 harg4 arg5 harg5 arg6 harg6 arg7 harg7 arg8 harg8 arg9 harg9 arg10 harg10 hc0 hc1 x0 x1 x2 xs0 xs1 (valOnes v) = nextAcc x0 x1 x2 xs0 xs1 := by
  have hva := stored_valOnes arg10 harg10 x2 v
  unfold sout0_B_1
  rw [View.read_writes_eq_canon _ _ _ (scover0_B_1 c i arg4 harg4 arg5 harg5 arg6 harg6 arg7 harg7 arg8 harg8 arg9 harg9 arg10 harg10 hc0 hc1 x0 x1 x2 xs0 xs1 (valOnes v))]
  unfold kernelRun0_B
  dsimp only
  sl_unfold_words
  simp only [View.readAt_eq_ld, harg4.read_unread, harg5.read_unread, harg6.read_unread, harg8.read_unread, harg9.read_unread, harg10.read_unread]
  simp only [pay1_same, pay2_same, pay3_same, pay4_same, pay5_same, pay6_same, pay7_same, pay8_same, pay11_same, pay12_same, pay13_same, pay14_same, pay15_same, pay16_same, pay17_same, pay18_same, pay19_same, pay20_same, pay21_same, pay24_same, pay25_same, pay26_same, pay27_same, pay31_same, pay32_same]
  funext y
  refine (slabs256 _ _ _ _ [] y).trans ?_
  simp only [ld_cols0, ld_cols1, ld_cols2, ld_cols3, ld_slabMax0, ld_slabMax1, ld_slabMax2, ld_slabMax3, ld_slabSum0, ld_slabSum1, ld_slabSum2, ld_slabSum3,
    acc_head0, acc_head1, acc_head2, acc_head3, ld_whole, pay8_eq, hva]
  exact congrFun (pick (fun g => headAcc x1 (valOnes x2) (headCols x0 g) (slabMax xs0 g) (slabSum xs1 g)) (y 0)) _

/-- The values and ones after a point of a block in between. -/
theorem soutB_2 (hc0 : ¬cond0_0 i) (hc1 : ¬cond0_1 i) :
    sout0_B_2 c i arg4 harg4 arg5 harg5 arg6 harg6 arg7 harg7 arg8 harg8 arg9 harg9 arg10 harg10 hc0 hc1 x0 x1 x2 xs0 xs1 (valOnes v) = valOnes x2 := by
  have hva := stored_valOnes arg10 harg10 x2 v
  unfold sout0_B_2
  unfold kernelRun0_B
  dsimp only
  sl_unfold_words
  simp only [View.readAt_eq_ld, harg4.read_unread, harg5.read_unread, harg6.read_unread, harg8.read_unread, harg9.read_unread, harg10.read_unread]
  simp only [pay8_same, ld_whole, pay8_eq]
  rw [ld_all] at hva
  exact hva

/-- What a point of the last block stores. -/
theorem out_C (hc0 : ¬cond0_0 i) (hc1 : cond0_1 i) :
    out0_C_3 c i arg4 harg4 arg5 harg5 arg6 harg6 arg7 harg7 arg8 harg8 arg9 harg9 arg10 harg10 hc0 hc1 x0 x1 x2 xs0 xs1 (valOnes v) = outB x0 x1 x2 xs0 xs1 := by
  have hva := stored_valOnes arg10 harg10 x2 v
  unfold out0_C_3
  rw [View.read_writes_eq_canon _ _ _ (cover0_C_3 c i arg4 harg4 arg5 harg5 arg6 harg6 arg7 harg7 arg8 harg8 arg9 harg9 arg10 harg10 hc0 hc1 x0 x1 x2 xs0 xs1 (valOnes v))]
  unfold kernelRun0_C
  dsimp only
  sl_unfold_words
  simp only [View.readAt_eq_ld, harg4.read_unread, harg5.read_unread, harg6.read_unread, harg8.read_unread, harg9.read_unread, harg10.read_unread]
  simp (disch := first | decide | rfl) only [↓View.readCov_skip, View.readCov_cons_toLoadRect]
  simp only [pay1_same, pay2_same, pay3_same, pay4_same, pay5_same, pay6_same, pay7_same, pay8_same, pay11_same, pay12_same, pay13_same, pay14_same, pay15_same, pay16_same, pay17_same, pay18_same, pay19_same, pay20_same, pay21_same, pay24_same, pay25_same, pay26_same, pay27_same, pay31_same, pay32_same]
  funext y
  refine (columns _ _ _ _ y).trans ?_
  simp only [ld_cols0, ld_cols1, ld_cols2, ld_cols3, ld_slabMax0, ld_slabMax1, ld_slabMax2, ld_slabMax3, ld_slabSum0, ld_slabSum1, ld_slabSum2, ld_slabSum3,
    acc_head0, acc_head1, acc_head2, acc_head3, ld_whole, pay8_eq, hva, pay1_eq, pay2_eq, pay3_eq, pay4_eq]
  exact congrFun (pick (fun g => quot (headAcc x1 (valOnes x2) (headCols x0 g) (slabMax xs0 g) (slabSum xs1 g))) _) _

end Points

end Cert.Kernel5Ideal.Attn

end
-- ==== Proof.SampleTiles.lean ====
/- The result array of the attention of the longer sequences, read at an index. -/
module

public import proofs.«01_k».proof.Proof.SampleBlock

@[expose] public section

set_option maxRecDepth 16384

noncomputable section

open Idealize.ShloMosaic Idealize.ShloMosaic.TcCoe Idealize.SL.Sem
open Idealize.ShloMosaic.Pipeline (Dat)

namespace Cert.Kernel5Ideal.Attn

open Cert.Kernel5Ideal Cert.Kernel5Ideal.Gen Softmax
open Cert.KernelIdeal.Attn (headCols valOnes outB outB_apply maxima sums score)

/-- The query blocks: 1024 rows of a batch, 512 columns of a group of heads. -/
theorem index0 : ∀ t : Fin grid0.N, win0_0.index t 0 = 32 + t.val / 128 * 16 + t.val / 4 % 16 ∧ win0_0.index t 1 = 7 + t.val / 64 % 2 := by
  decide +kernel
/-- The key blocks: 4096 rows of a batch, one head. -/
theorem index1 : ∀ t : Fin grid0.N, win0_1.index t 0 = 8 + t.val / 128 * 4 + t.val % 4 ∧ win0_1.index t 1 = 36 + t.val / 64 % 2 := by
  decide +kernel
/-- The value blocks likewise. -/
theorem index2 : ∀ t : Fin grid0.N, win0_2.index t 0 = 8 + t.val / 128 * 4 + t.val % 4 ∧ win0_2.index t 1 = 38 + t.val / 64 % 2 := by
  decide +kernel
/-- The output blocks lie as the query blocks. -/
theorem index3 : ∀ t : Fin grid0.N, win0_3.index t 0 = t.val / 128 * 16 + t.val / 4 % 16 ∧ win0_3.index t 1 = t.val / 64 % 2 := by
  decide +kernel

/-- The score of query row `R` in the head of column `C` against key `j` of its batch. -/
def scoreAt (p : Vec Ideal S65536x5120 .bf16) (R : Fin 32768) (C : Fin 1024) (j : Fin 16384) : EReal :=
  ∑ d : Fin 128, p (ix2 ⟨32768 + R.val, by omega⟩ ⟨3584 + 128 * (C.val / 128) + d.val, by omega⟩)
    * p (ix2 ⟨32768 + 16384 * (R.val / 16384) + j.val, by omega⟩ ⟨4608 + 128 * (C.val / 512) + d.val, by omega⟩)

/-- The value of key `j` in column `C`. -/
def valueAt (p : Vec Ideal S65536x5120 .bf16) (R : Fin 32768) (C : Fin 1024) (j : Fin 16384) : EReal :=
  p (ix2 ⟨32768 + 16384 * (R.val / 16384) + j.val, by omega⟩ ⟨4864 + 128 * (C.val / 512) + C.val % 128, by omega⟩)

/-- What the kernel leaves at row `R`, column `C`. -/
def result (p : Vec Ideal S65536x5120 .bf16) : Vec Ideal S32768x1024 .bf16 := fun y =>
  Ideal.div (online 4 (scoreAt p (y 0) (y 1)) (valueAt p (y 0) (y 1))) (online 4 (scoreAt p (y 0) (y 1)) fun _ => 1)

variable (m : (ℓ : Loc nD τ sig) → Buf (Elt Ideal) ℓ) (c : Dev nD)

/-- The kernel's argument. -/
abbrev proj : Vec Ideal S65536x5120 .bf16 := m ((c : Thread nD τ).loc main_arg0)

/-- An entry of a query block. -/
theorem iblk0_apply (t : Fin cfg0.N) (r : Fin 1024) (d : Fin 512) (R : Fin 65536) (C : Fin 5120)
    (hR : R.val = 1024 * (32 + t.val / 128 * 16 + t.val / 4 % 16) + r.val) (hC : C.val = 512 * (7 + t.val / 64 % 2) + d.val) :
    (iblk m c 0 t : Vec Ideal S1024x512 .bf16) (ix2 r d) = proj m c (ix2 R C) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [(index0 t).1, hR]; omega
  | ⟨1, _⟩ => show win0_0.index t 1 * 512 + 1 * d.val = C.val; rw [(index0 t).2, hC]; omega

/-- An entry of a key block. -/
theorem iblk1_apply (t : Fin cfg0.N) (r : Fin 4096) (d : Fin 128) (R : Fin 65536) (C : Fin 5120)
    (hR : R.val = 4096 * (8 + t.val / 128 * 4 + t.val % 4) + r.val) (hC : C.val = 128 * (36 + t.val / 64 % 2) + d.val) :
    (iblk m c 1 t : Vec Ideal S4096x128 .bf16) (ix2 r d) = proj m c (ix2 R C) := by
  unfold iblk
  rw [View.read_apply]
  show V m c main_arg0 _ = m (c.tc.loc main_arg0) _
  unfold V
  congr 1
  funext a
  apply Fin.ext
  match a with
  | ⟨0, _⟩ => show win0_1.index t 0 * 4096 + 1 * r.val = R.val; rw [(index1 t).1, hR]; omega
  | ⟨1, _⟩ => show win0_1.index t 1 * 128 + 1 * d.val = C.val; rw [(index1 t).2, hC]; omega

/-- An entry of a value block. -/
theorem iblk2_apply (t : Fin cfg0.N) (r : Fin 4096) (d : Fin 128) (R : Fin 65536) (C : Fin 5120)
    (hR : R.val = 4096 * (8 + t.val / 128 * 4 + t.val % 4) + r.val) (hC : C.val = 128 * (38 + t.val / 64 % 2) + d.val) :
    (iblk m c 2 t : Vec Ideal S4096x128 .bf16) (ix2 r d) = proj m c (ix2 R C) := by
  unfold iblk
  rw [View.read_apply]
  show V m c main_arg0 _ = m (c.tc.loc main_arg0) _
  unfold V
  congr 1
  funext a
  apply Fin.ext
  match a with
  | ⟨0, _⟩ => show win0_2.index t 0 * 4096 + 1 * r.val = R.val; rw [(index2 t).1, hR]; omega
  | ⟨1, _⟩ => show win0_2.index t 1 * 128 + 1 * d.val = C.val; rw [(index2 t).2, hC]; omega

/-- The point of block `k` of the keys, for a point `t` of the last block. -/
def point (t : Fin cfg0.N) (k : ℕ) : Fin cfg0.N := ⟨min (t.val - 3 + k) t.val, Nat.lt_of_le_of_lt (Nat.min_le_right _ _) t.isLt⟩

theorem point_val (t : Fin cfg0.N) (k : ℕ) : (point t k).val = min (t.val - 3 + k) t.val := rfl

/-- The query, key and value blocks of the points up to `t`. -/
abbrev queries (t : Fin cfg0.N) (k : ℕ) : Vec Ideal S1024x512 .bf16 := iblk m c 0 (point t k)
abbrev keys (t : Fin cfg0.N) (k : ℕ) : Vec Ideal S4096x128 .bf16 := iblk m c 1 (point t k)
abbrev values (t : Fin cfg0.N) (k : ℕ) : Vec Ideal S4096x128 .bf16 := iblk m c 2 (point t k)

/-- What the point before leaves is what the block before leaves. -/
theorem outs_before (t : Fin cfg0.N) (ht : t.val % 4 = 3) (k : ℕ) (hk : k + 1 ≤ 3) :
    outsAt0 m c ((point t (k + 1)).val - 1) (Nat.lt_of_le_of_lt (Nat.sub_le _ _) (point t (k + 1)).isLt)
      = outsAt0 m c (point t k).val (point t k).isLt := by
  have e : (point t (k + 1)).val - 1 = (point t k).val := by rw [point_val, point_val]; omega
  simp only [e]

/-- The scratches after a block of the keys that is not the last. -/
theorem outs_eq (t : Fin cfg0.N) (ht : t.val % 4 = 3) (k : ℕ) (hk : k < 3) :
    (outsAt0 m c (point t k).val (point t k).isLt).2 = (maxima (queries m c t) (keys m c t) k,
      sums (queries m c t) (keys m c t) (values m c t) k, valOnes (values m c t k)) := by
  induction k with
  | zero =>
    have hp := point_val t 0
    rw [outsAt0_A m c (point t 0) (by omega) (by omega), soutA_0, soutA_1, soutA_2]
    rfl
  | succ k ih =>
    have hp := point_val t (k + 1)
    rw [outsAt0_B m c (point t (k + 1)) (by omega) (by omega), outs_before m c t ht k (by omega), ih (by omega)]
    dsimp only
    rw [soutB_0, soutB_1, soutB_2]
    rfl

/-- What a point of the last block writes back, over the input blocks of it and of the three points before. -/
theorem flushed_eq (t : Fin cfg0.N) (ht : t.val % 4 = 3) :
    (dats m 0 c).flushed 3 t = (cfg0.win 3).cut (grid0.coords t)
      (outB (queries m c t 3) (keys m c t 3) (values m c t 3) (maxima (queries m c t) (keys m c t) 2)
        (sums (queries m c t) (keys m c t) (values m c t) 2)) := by
  have e3 : point t 3 = t := Fin.ext (by rw [point_val]; omega)
  rw [Value.flushed3_C m c t (by omega) ht]
  have e := outs_before m c t ht 2 (by omega)
  simp only [show 2 + 1 = 3 from rfl, e3] at e
  rw [e, outs_eq m c t ht 2 (by omega)]
  dsimp only
  rw [out_C]
  unfold queries keys values
  rw [e3]

/-- An entry of what a point of the last block writes back. -/
theorem outB_result (t : Fin cfg0.N) (ht : t.val % 4 = 3) (r : Fin 1024) (d : Fin 512) (R : Fin 32768) (C : Fin 1024)
    (hR : R.val = 1024 * (t.val / 128 * 16 + t.val / 4 % 16) + r.val) (hC : C.val = 512 * (t.val / 64 % 2) + d.val) :
    outB (queries m c t 3) (keys m c t 3) (values m c t 3) (maxima (queries m c t) (keys m c t) 2)
        (sums (queries m c t) (keys m c t) (values m c t) 2) (ix2 r d)
      = result (proj m c) (ix2 R C) := by
  have hN : t.val < 256 := lt_of_lt_of_eq t.isLt N_0
  have hr := r.isLt
  have hd := d.isLt
  refine outB_apply 2 _ _ _ r d (scoreAt (proj m c) R C) (valueAt (proj m c) R C) (fun i j => ?_) fun i j => ?_
  · have hi := i.isLt
    have hk := key_val i j
    have hp := point_val t i.val
    unfold score scoreAt
    refine Finset.sum_congr rfl fun e _ => congrArg₂ (· * ·) ?_ ?_
    · exact iblk0_apply m c _ r _ _ _ (by dsimp only; omega) (by dsimp only [ix2]; omega)
    · exact iblk1_apply m c _ j e _ _ (by dsimp only; omega) (by dsimp only; omega)
  · have hi := i.isLt
    have hk := key_val i j
    have hp := point_val t i.val
    unfold valueAt
    exact iblk2_apply m c _ j _ _ _ (by dsimp only; omega) (by dsimp only; omega)

/-- The result array, as contents of its buffer. -/
abbrev resultBuf : Buf (Elt Ideal) ((c : Thread nD τ).loc main_v0) := result (proj m c)

/-- Every write-back writes its block of the result. -/
theorem flushed_result (t : Fin cfg0.N) (hf : (cfg0.win 3).flush t = true) :
    (dats m 0 c).flushed 3 t = ((cfg0.win 3).blk t).view.read (Elt Ideal) (resultBuf m c) := by
  have ht : t.val % 4 = 3 := (flush0_3 t).mp hf
  have hN : t.val < 256 := lt_of_lt_of_eq t.isLt N_0
  rw [flushed_eq m c t ht]
  funext y
  have hy0 : (y 0).val < 1024 := (y 0).isLt
  have hy1 : (y 1).val < 512 := (y 1).isLt
  rw [View.read_apply]
  have e : ((cfg0.win 3).blk t).view.emb y = (ix2 (⟨1024 * (t.val / 128 * 16 + t.val / 4 % 16) + (y 0).val, by omega⟩ : Fin 32768)
      (⟨512 * (t.val / 64 % 2) + (y 1).val, by omega⟩ : Fin 1024) : S32768x1024.Idx) := by
    funext a
    apply Fin.ext
    match a with
    | ⟨0, _⟩ => show win0_3.index t 0 * 1024 + 1 * (y 0).val = 1024 * (t.val / 128 * 16 + t.val / 4 % 16) + (y 0).val
                rw [(index3 t).1]; omega
    | ⟨1, _⟩ => show win0_3.index t 1 * 512 + 1 * (y 1).val = 512 * (t.val / 64 % 2) + (y 1).val
                rw [(index3 t).2]; omega
  rw [e]
  have ey : (y : S1024x512.Idx) = ix2 (⟨(y 0).val, hy0⟩ : Fin 1024) (⟨(y 1).val, hy1⟩ : Fin 512) := by
    funext a
    match a with
    | ⟨0, _⟩ => rfl
    | ⟨1, _⟩ => rfl
  refine Eq.trans ?_ (outB_result m c t ht ⟨(y 0).val, hy0⟩ ⟨(y 1).val, hy1⟩ _ _ rfl rfl)
  rw [← ey]

/-- The result array after the run. -/
theorem final_result : (dats m 0 c).arrAt 3 cfg0.N = resultBuf m c :=
  (dats m 0 c).arrAt_eq_of_cover 3 (resultBuf m c) (flushed_result m c) fun i => by
    have h0 : (i 0 : Nat) < 32768 := (i 0).isLt
    have h1 : (i 1 : Nat) < 1024 := (i 1).isLt
    have hN : cfg0.N = 256 := N_0
    let t : Fin cfg0.N := ⟨128 * ((i 0).val / 16384) + 64 * ((i 1).val / 512) + 4 * ((i 0).val / 1024 % 16) + 3, by omega⟩
    have ht : t.val = 128 * ((i 0).val / 16384) + 64 * ((i 1).val / 512) + 4 * ((i 0).val / 1024 % 16) + 3 := rfl
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1]; omega
    | ⟨1, _⟩ => show win0_3.index t 1 * 512 ≤ (i 1 : Nat) ∧ (i 1 : Nat) < win0_3.index t 1 * 512 + 512
                rw [(index3 t).2]; omega

end Cert.Kernel5Ideal.Attn

end
-- ==== Proof.SampleRef.lean ====
/- The result of the longer sequences' reference at an index: a softmax row over the keys of the sequence. -/
module

public import proofs.«01_k».proof.Proof.Gen.Reference5Ideal.Read
public import proofs.«01_k».proof.Proof.RefRows
public import Idealize.ShloMosaic.Lib.Pointwise

@[expose] public section

set_option maxRecDepth 16384

noncomputable section

open Idealize.ShloMosaic

namespace Cert.Reference5Ideal.Attn

open Cert.Reference5Ideal Cert.Reference5Ideal.Gen Cert.Reference5Ideal.Read

variable (p : Vec Ideal S65536x5120 .bf16)

/-- An entry of the queries. -/
theorem query_apply (b : Fin 2) (q : Fin 16384) (h : Fin 2) (g : Fin 4) (d : Fin 128) :
    val_main_v3 (F := Ideal) p (ix5 b q h g d)
      = p (ix2 ⟨32768 + 16384 * b.val + q.val, by omega⟩ ⟨3584 + 512 * h.val + 128 * g.val + d.val, by omega⟩) := by
  rw [val_main_v3_apply, val_main_v2_apply, val_main_v1_apply, val_main_v0_apply]
  refine congrArg p (funext fun a => Fin.ext ?_)
  match a with
  | ⟨0, _⟩ => show 32768 + ((((b.val * 16384 + q.val) * 2 + h.val) * 4 + g.val) * 128 + d.val) / 1024 = 32768 + 16384 * b.val + q.val
              omega
  | ⟨1, _⟩ => show 3584 + ((((b.val * 16384 + q.val) * 2 + h.val) * 4 + g.val) * 128 + d.val) % 1024
                = 3584 + 512 * h.val + 128 * g.val + d.val
              omega

/-- An entry of the keys. -/
theorem key_apply (b : Fin 2) (k : Fin 16384) (h : Fin 2) (d : Fin 128) :
    val_main_v5 (F := Ideal) p (ix4 b k h d)
      = p (ix2 ⟨32768 + 16384 * b.val + k.val, by omega⟩ ⟨4608 + 128 * h.val + d.val, by omega⟩) := by
  rw [val_main_v5_apply, val_main_v4_apply, val_main_v1_apply, val_main_v0_apply]
  refine congrArg p (funext fun a => Fin.ext ?_)
  match a with
  | ⟨0, _⟩ => show 32768 + (((b.val * 16384 + k.val) * 2 + h.val) * 128 + d.val) / 256 = 32768 + 16384 * b.val + k.val
              omega
  | ⟨1, _⟩ => show 4608 + (((b.val * 16384 + k.val) * 2 + h.val) * 128 + d.val) % 256 = 4608 + 128 * h.val + d.val
              omega

/-- An entry of the values. -/
theorem value_apply (b : Fin 2) (k : Fin 16384) (h : Fin 2) (d : Fin 128) :
    val_main_v7 (F := Ideal) p (ix4 b k h d)
      = p (ix2 ⟨32768 + 16384 * b.val + k.val, by omega⟩ ⟨4864 + 128 * h.val + d.val, by omega⟩) := by
  rw [val_main_v7_apply, val_main_v6_apply, val_main_v1_apply, val_main_v0_apply]
  refine congrArg p (funext fun a => Fin.ext ?_)
  match a with
  | ⟨0, _⟩ => show 32768 + (((b.val * 16384 + k.val) * 2 + h.val) * 128 + d.val) / 256 = 32768 + 16384 * b.val + k.val
              omega
  | ⟨1, _⟩ => show 4864 + (((b.val * 16384 + k.val) * 2 + h.val) * 128 + d.val) % 256 = 4864 + 128 * h.val + d.val
              omega

/-- The factor the queries are multiplied by: the logarithm of two. -/
theorem factor (i : S2x16384x2x4x128.Idx) : val_main_v9 (F := Ideal) i = ((Real.log 2 : ℝ) : EReal) := by
  rw [val_main_v9_apply, val_main_v8_apply, val_main_cst_apply]
  have e : FloatOps.ofBits (F := Ideal) .f32 0x40000000#32 = ((2 : ℝ) : EReal) := by
    show Ideal.ofBits .f32 0x40000000#32 = _
    simp [Ideal.ofBits, Ideal.ieee, -EReal.coe_mul]
    try norm_num
  rw [e]
  show Ideal.log ((2 : ℝ) : EReal) = _
  rw [Ideal.log_coe, if_neg (by norm_num)]

/-- A score: the key against the scaled query. -/
def score (b : Fin 2) (h : Fin 2) (g : Fin 4) (q k : Fin 16384) : EReal :=
  ∑ d : Fin 128, p (ix2 ⟨32768 + 16384 * b.val + k.val, by omega⟩ ⟨4608 + 128 * h.val + d.val, by omega⟩)
    * (p (ix2 ⟨32768 + 16384 * b.val + q.val, by omega⟩ ⟨3584 + 512 * h.val + 128 * g.val + d.val, by omega⟩) * ((Real.log 2 : ℝ) : EReal))

/-- An entry of the scores. -/
theorem scores_apply (b : Fin 2) (h : Fin 2) (g : Fin 4) (q k : Fin 16384) :
    val_main_v12 (F := Ideal) p (ix5 b h g q k) = score p b h g q k := by
  rw [val_main_v12_apply, val_main_v11_apply]
  unfold score
  refine Finset.sum_congr rfl fun d _ => congrArg₂ (· * ·) ?_ ?_
  · refine Eq.trans (congrArg (val_main_v5 (F := Ideal) p) (funext fun a => ?_)) (key_apply p b k h d)
    match a with
    | ⟨0, _⟩ => rfl
    | ⟨1, _⟩ => rfl
    | ⟨2, _⟩ => rfl
    | ⟨3, _⟩ => rfl
  · rw [val_main_v10_apply, factor]
    refine congrArg (fun x : EReal => x * ((Real.log 2 : ℝ) : EReal)) ?_
    refine Eq.trans (congrArg (val_main_v3 (F := Ideal) p) (funext fun a => ?_)) (query_apply p b q h g d)
    match a with
    | ⟨0, _⟩ => rfl
    | ⟨1, _⟩ => rfl
    | ⟨2, _⟩ => rfl
    | ⟨3, _⟩ => rfl
    | ⟨4, _⟩ => rfl

/-- A weight: an exponential over the sum of its row's. -/
theorem weight_apply (b : Fin 2) (h : Fin 2) (g : Fin 4) (q k : Fin 16384) :
    val_main_v23 (F := Ideal) p (ix5 b h g q k)
      = Ideal.div (Ideal.exp (score p b h g q k - max ⊥ (Softmax.top (score p b h g q))))
          (0 + ∑ j, Ideal.exp (score p b h g q j - max ⊥ (Softmax.top (score p b h g q)))) := by
  have e : val_main_v23 (F := Ideal) p = RefRows.weights reducesTo_S2x2x4x16384x16384_S2x2x4x16384_d4 bcast_S_S2x2x4x16384
      bcast_S2x2x4x16384_S2x2x4x16384x1_0_1_2_3 bcast_S2x2x4x16384x1_S2x2x4x16384x16384_0_1_2_3_4 h_S_ (val_main_v12 (F := Ideal) p) := rfl
  rw [e]
  exact RefRows.weights_apply _ _ _ _ _ _ b h g q _ (scores_apply p b h g q) (by decide) k

/-- The result at a row and a column: the softmax row of the scores against the column of the values. -/
theorem result_apply (R : Fin 32768) (C : Fin 1024) (b : Fin 2) (q : Fin 16384) (h : Fin 2) (g : Fin 4) (d : Fin 128)
    (hR : R.val = 16384 * b.val + q.val) (hC : C.val = 512 * h.val + 128 * g.val + d.val) :
    val_main_v27 (F := Ideal) p (ix2 R C)
      = Softmax.softmax (score p b h g q) fun k => p (ix2 ⟨32768 + 16384 * b.val + k.val, by omega⟩ ⟨4864 + 128 * h.val + d.val, by omega⟩) := by
  rw [val_main_v27_apply]
  refine (?_ : val_main_v26 (F := Ideal) p (ix2 R C) = _)
  rw [val_main_v26_apply, val_main_v25_apply, val_main_v24_apply]
  unfold Softmax.softmax
  have e0 : (R.val * 1024 + C.val) / 16777216 = b.val := by omega
  have e1 : (R.val * 1024 + C.val) / 1024 % 16384 = q.val := by omega
  have e2 : (R.val * 1024 + C.val) / 512 % 2 = h.val := by omega
  have e3 : (R.val * 1024 + C.val) / 128 % 4 = g.val := by omega
  have e4 : (R.val * 1024 + C.val) % 128 = d.val := by omega
  refine Finset.sum_congr rfl fun k _ => congrArg₂ (· * ·) ?_ ?_
  · refine Eq.trans (congrArg (val_main_v7 (F := Ideal) p) (funext fun a => Fin.ext ?_)) (value_apply p b k h d)
    match a with
    | ⟨0, _⟩ => exact e0
    | ⟨1, _⟩ => rfl
    | ⟨2, _⟩ => exact e2
    | ⟨3, _⟩ => exact e4
  · refine Eq.trans (congrArg (val_main_v23 (F := Ideal) p) (funext fun a => Fin.ext ?_)) (weight_apply p b h g q k)
    match a with
    | ⟨0, _⟩ => exact e0
    | ⟨1, _⟩ => exact e2
    | ⟨2, _⟩ => exact e3
    | ⟨3, _⟩ => exact e1
    | ⟨4, _⟩ => rfl

end Cert.Reference5Ideal.Attn

end
-- ==== Proof.SampleEqual.lean ====
/- Where the queries and keys of the longer sequences are finite, the kernel's result on them is the reference's. -/
module

public import proofs.«01_k».proof.Pre_finite5
public import proofs.«01_k».proof.Proof.SampleTiles
public import proofs.«01_k».proof.Proof.SampleRef
public import proofs.«01_k».proof.Proof.Equal

@[expose] public section

set_option maxRecDepth 16384

noncomputable section

open Idealize.ShloMosaic

namespace Cert.Attn

/-- The side conditions of the precondition's operations. -/
theorem finiteFacts5 : Cert.Pre_finite5.Facts where
  slices_S65536x5120_S32768x1280_32768_3584 := by decide
  bitsLt_bf16_f32 := by decide
  bcast_S_S32768x1280 := by decide

/-- Under the precondition the queries and keys are real. -/
theorem sample_entry (p : FVec Ideal Cert.Pre_finite5.S65536x5120 .bf16)
    (h : @Cert.Pre_finite5.fn finiteFacts5 Ideal _ p = fun _ => 1#1) (R : Fin 65536) (C : Fin 5120)
    (hR : 32768 ≤ R.val) (hC : 3584 ≤ C.val) (hC' : C.val < 4864) : ∃ r : ℝ, (p (ix2 R C) : EReal) = r := by
  have e := congrFun h (ix2 ⟨R.val - 32768, by omega⟩ ⟨C.val - 3584, by omega⟩)
  unfold Cert.Pre_finite5.fn at e
  refine real_of_test _ (Eq.trans ?_ e)
  have e1 : extractStridedSlice Cert.Pre_finite5.S32768x1280 ![32768, 3584] p finiteFacts5.slices_S65536x5120_S32768x1280_32768_3584
      (ix2 ⟨R.val - 32768, by omega⟩ ⟨C.val - 3584, by omega⟩) = p (ix2 R C) :=
    extractStridedSlice_apply ![32768, 3584] p _ _ _ fun a => by
      match a with
      | ⟨0, _⟩ => show R.val = 32768 + (R.val - 32768); omega
      | ⟨1, _⟩ => show C.val = 3584 + (C.val - 3584); omega
  rw [← e1]
  rfl

/-- A score of the kernel is real, and the reference's is it times the logarithm of two. -/
theorem sample_scores (p : FVec Ideal Cert.Pre_finite5.S65536x5120 .bf16)
    (h : @Cert.Pre_finite5.fn finiteFacts5 Ideal _ p = fun _ => 1#1) (R : Fin 32768) (C : Fin 1024)
    (b : Fin 2) (q : Fin 16384) (hh : Fin 2) (g : Fin 4) (d : Fin 128)
    (hR : R.val = 16384 * b.val + q.val) (hC : C.val = 512 * hh.val + 128 * g.val + d.val) :
    ∃ s : Fin 16384 → ℝ, Cert.Kernel5Ideal.Attn.scoreAt p R C = (fun j => (s j : EReal))
      ∧ Cert.Reference5Ideal.Attn.score p b hh g q = fun j => ((s j * Real.log 2 : ℝ) : EReal) := by
  have hx : ∀ e : Fin 128, ∃ r : ℝ,
      (p (ix2 ⟨32768 + 16384 * b.val + q.val, by omega⟩ ⟨3584 + 512 * hh.val + 128 * g.val + e.val, by omega⟩) : EReal) = r :=
    fun e => sample_entry p h _ _ (by dsimp only; omega) (by dsimp only; omega) (by dsimp only; omega)
  have hy : ∀ (j : Fin 16384) (e : Fin 128), ∃ r : ℝ,
      (p (ix2 ⟨32768 + 16384 * b.val + j.val, by omega⟩ ⟨4608 + 128 * hh.val + e.val, by omega⟩) : EReal) = r :=
    fun j e => sample_entry p h _ _ (by dsimp only; omega) (by dsimp only; omega) (by dsimp only; omega)
  obtain ⟨s, hs, hs'⟩ := scores_scaled _ _ hx hy
  refine ⟨s, Eq.trans (funext fun j => ?_) hs, hs'⟩
  unfold Cert.Kernel5Ideal.Attn.scoreAt
  refine Finset.sum_congr rfl fun e _ => ?_
  have e1 : 3584 + 128 * (C.val / 128) + e.val = 3584 + 512 * hh.val + 128 * g.val + e.val := by omega
  have e0 : 32768 + (16384 * b.val + q.val) = 32768 + 16384 * b.val + q.val := by omega
  have e2 : 32768 + 16384 * ((16384 * b.val + q.val) / 16384) + j.val = 32768 + 16384 * b.val + j.val := by omega
  have e3 : 4608 + 128 * (C.val / 512) + e.val = 4608 + 128 * hh.val + e.val := by omega
  simp only [hR, e0, e1, e2, e3]

/-- The kernel's result is the reference's. -/
theorem sample_result (p : FVec Ideal Cert.Pre_finite5.S65536x5120 .bf16)
    (h : @Cert.Pre_finite5.fn finiteFacts5 Ideal _ p = fun _ => 1#1) :
    Cert.Kernel5Ideal.Attn.result p = Cert.Reference5Ideal.Read.val_main_v27 (F := Ideal) p := by
  funext y
  have h0 : (y 0).val < 32768 := (y 0).isLt
  have h1 : (y 1).val < 1024 := (y 1).isLt
  have ey : y = ix2 (⟨(y 0).val, h0⟩ : Fin 32768) (⟨(y 1).val, h1⟩ : Fin 1024) := by
    funext a
    match a with
    | ⟨0, _⟩ => rfl
    | ⟨1, _⟩ => rfl
  rw [ey]
  generalize (⟨(y 0).val, h0⟩ : Fin 32768) = R
  generalize (⟨(y 1).val, h1⟩ : Fin 1024) = C
  have hR : R.val = 16384 * (R.val / 16384) + R.val % 16384 := by omega
  have hC : C.val = 512 * (C.val / 512) + 128 * (C.val / 128 % 4) + C.val % 128 := by omega
  have b : (R.val / 16384) < 2 := by omega
  have q : (R.val % 16384) < 16384 := by omega
  have hh : C.val / 512 < 2 := by omega
  have g : C.val / 128 % 4 < 4 := by omega
  have d : C.val % 128 < 128 := by omega
  rw [Cert.Reference5Ideal.Attn.result_apply p R C ⟨_, b⟩ ⟨_, q⟩ ⟨_, hh⟩ ⟨_, g⟩ ⟨_, d⟩ hR hC]
  obtain ⟨s, hs, hs'⟩ := sample_scores p h R C ⟨_, b⟩ ⟨_, q⟩ ⟨_, hh⟩ ⟨_, g⟩ ⟨_, d⟩ hR hC
  rw [hs']
  refine Eq.trans ?_ (Softmax.online_softmax 3 s _)
  show Ideal.div (Softmax.online 4 (Cert.Kernel5Ideal.Attn.scoreAt p R C) (Cert.Kernel5Ideal.Attn.valueAt p R C))
    (Softmax.online 4 (Cert.Kernel5Ideal.Attn.scoreAt p R C) fun _ => 1) = _
  rw [hs]
  rfl

end Cert.Attn

end
-- ==== Proof.lean ====
module

public import proofs.«01_k».proof.Defs
public import proofs.«01_k».proof.Proof.Gen.Kernel
public import proofs.«01_k».proof.Proof.Gen.Kernel.Frame
public import proofs.«01_k».proof.Proof.Equal
public import proofs.«01_k».proof.Proof.FfnOk
public import proofs.«01_k».proof.Proof.FfnSame
public import proofs.«01_k».proof.Proof.FfnEqual
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.ProjEqual
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.ModEqual
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.SampleEqual
public import proofs.«01_k».proof.Proof.Gen.Pre_tables

@[expose] public section

noncomputable section

namespace Cert.Proof

open Idealize.ShloMosaic Idealize.SL.Sem

/-- The reference runs, keeps its argument and has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From finite queries and keys, the kernel and the reference end with equal results. -/
theorem algebraic : Cert.algebraic_KernelIdeal_ReferenceIdeal_pre_finite (hPre_finite := Cert.Attn.finiteFacts) := by
  intro m g m' g' hpre hagree
  refine ⟨fun c => Cert.KernelIdeal.Attn.resultBuf m c, ?_, ?_⟩
  · exact (θ_run Cert.KernelIdeal.defs _ _).mono
      (fun r h c => ⟨(h c).1.trans (Cert.KernelIdeal.Attn.final_result m c), (h c).2⟩)
      (Cert.KernelIdeal.Value.run_blocks (F := Ideal) m g)
  · refine (θ_run Cert.ReferenceIdeal.defs _ _).mono
      (fun r h c => ⟨(h c).1.trans ?_, (h c).2⟩)
      (Cert.ReferenceIdeal.Value.run (F := Ideal) m' g')
    rw [Cert.ReferenceIdeal.Read.val_main_v27_eq, hagree c]
    exact (Cert.Attn.result_eq _ (hpre c)).symm

/-- The expert layer's reference runs, keeps its arguments and has no semaphores. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- From tables of experts and counts, the expert layer's kernel and its reference end with equal results. -/
theorem algebraic2 : Cert.algebraic_Kernel2Ideal_Reference2Ideal := by
  intro m g m' g' hpre hagree
  refine ⟨fun c => Cert.Kernel2Ideal.Moe.resultBuf m c, Cert.Kernel2Ideal.Moe.run_all m g hpre, ?_⟩
  refine (θ_run Cert.Reference2Ideal.defs _ _).mono (fun r h c => ⟨(h c).1.trans ?_, (h c).2⟩)
    (Cert.Reference2Ideal.Value.run (F := Ideal) m' g')
  obtain ⟨e0, e1, e2, e3, e4, e5⟩ := hagree c
  rw [Cert.Reference2Ideal.Read.val_main_v44_eq, e0, e1, e2, e3, e4, e5]
  exact (Cert.Kernel2Ideal.Moe.result_eq m hpre c).symm

/-- The input projection's reference runs, keeps its arguments and has no semaphores. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The input projection's kernel and its reference end with equal results. -/
theorem algebraic3 : Cert.algebraic_Kernel3Ideal_Reference3Ideal := by
  intro m g m' g' _ hagree
  refine ⟨fun c => Cert.Kernel3Ideal.Proj.resultBuf m c, ?_, ?_⟩
  · exact (θ_run Cert.Kernel3Ideal.defs _ _).mono
      (fun r h c => ⟨(h c).1.trans (Cert.Kernel3Ideal.Proj.final_result m c), (h c).2⟩)
      (Cert.Kernel3Ideal.Proj.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1, e2, e3, e4, e5, e6, e7, e8, e9, e10⟩ := hagree c
    refine (Cert.Reference3Ideal.Read.val_main_v266_eq _).trans (Eq.trans ?_ (Cert.Kernel3Ideal.Proj.result_eq m c).symm)
    exact congr (congr (congr (congr (congr (congr (congr (congr (congr (congr (congrArg _ e0) e1) e2) e3) e4) e5) e6) e7) e8) e9) e10

/-- The modulation's reference runs, keeps its arguments and has no semaphores. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The modulation's kernel and its reference end with equal results. -/
theorem algebraic4 : Cert.algebraic_Kernel4Ideal_Reference4Ideal := by
  intro m g m' g' _ hagree
  refine ⟨fun c => Cert.Kernel4Ideal.Mod.resultBuf m c, ?_, ?_⟩
  · exact (θ_run Cert.Kernel4Ideal.defs _ _).mono
      (fun r h c => ⟨(h c).1.trans (Cert.Kernel4Ideal.Mod.final_result m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    obtain ⟨e0, e1, e2⟩ := hagree c
    refine (Cert.Reference4Ideal.Read.val_main_v5_eq _ _ _).trans (Eq.trans ?_ (Cert.Kernel4Ideal.Mod.result_eq m c).symm)
    exact congr (congr (congrArg _ e0) e1) e2

/-- The longer sequences' reference runs, keeps its argument and has no semaphores. -/
theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- From finite queries and keys of the longer sequences, the kernel and the reference end with equal results. -/
theorem algebraic5 : Cert.algebraic_Kernel5Ideal_Reference5Ideal_pre_finite5 (hPre_finite5 := Cert.Attn.finiteFacts5) := by
  intro m g m' g' hpre hagree
  refine ⟨fun c => Cert.Kernel5Ideal.Attn.resultBuf m c, ?_, ?_⟩
  · exact (θ_run Cert.Kernel5Ideal.defs _ _).mono
      (fun r h c => ⟨(h c).1.trans (Cert.Kernel5Ideal.Attn.final_result m c), (h c).2⟩)
      (Cert.Kernel5Ideal.Value.run_blocks (F := Ideal) m g)
  · refine (θ_run Cert.Reference5Ideal.defs _ _).mono
      (fun r h c => ⟨(h c).1.trans ?_, (h c).2⟩)
      (Cert.Reference5Ideal.Value.run (F := Ideal) m' g')
    rw [Cert.Reference5Ideal.Read.val_main_v27_eq, hagree c]
    exact (Cert.Attn.sample_result _ (hpre c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Attn.finiteFacts, Cert.Pre_tables.Gen.facts, Cert.Attn.finiteFacts5,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  Cert.Kernel2.Moe.frame,
  fun m ρ h => Cert.Kernel2Ideal.Moe.frame m ρ (Cert.Kernel2Ideal.Moe.ok_of_pre m h) (Cert.Kernel2Ideal.Moe.counts_of_pre m h),
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  trivial, algebraic, trivial, algebraic2, trivial, algebraic3, trivial, algebraic4, trivial, algebraic5⟩

end Cert.Proof

end
